-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S1024x512 : Shape := ⟨2, ![1024, 512]⟩
abbrev S512 : Shape := ⟨1, ![512]⟩
abbrev S512x2048 : Shape := ⟨2, ![512, 2048]⟩
abbrev S1024x4 : Shape := ⟨2, ![1024, 4]⟩
abbrev S1024 : Shape := ⟨1, ![1024]⟩
abbrev S1024x64 : Shape := ⟨2, ![1024, 64]⟩
abbrev S32x1024 : Shape := ⟨2, ![32, 1024]⟩
abbrev S1024x16 : Shape := ⟨2, ![1024, 16]⟩
abbrev S512x1024 : Shape := ⟨2, ![512, 1024]⟩
abbrev S4x1024 : Shape := ⟨2, ![4, 1024]⟩
abbrev S1024x32 : Shape := ⟨2, ![1024, 32]⟩
abbrev S16x1024 : Shape := ⟨2, ![16, 1024]⟩
abbrev S1x512 : Shape := ⟨2, ![1, 512]⟩
abbrev S1x1024 : Shape := ⟨2, ![1, 1024]⟩
abbrev S8x128x1024 : Shape := ⟨3, ![8, 128, 1024]⟩
abbrev S8x136x1024 : Shape := ⟨3, ![8, 136, 1024]⟩
abbrev S1024x1024 : Shape := ⟨2, ![1024, 1024]⟩
abbrev S2048x1024 : Shape := ⟨2, ![2048, 1024]⟩
abbrev S128x1024 : Shape := ⟨2, ![128, 1024]⟩
abbrev S8x1024 : Shape := ⟨2, ![8, 1024]⟩
abbrev S1x8x1024 : Shape := ⟨3, ![1, 8, 1024]⟩
abbrev S1x128x1024 : Shape := ⟨3, ![1, 128, 1024]⟩
abbrev S1x136x1024 : Shape := ⟨3, ![1, 136, 1024]⟩
abbrev S136x1024 : Shape := ⟨2, ![136, 1024]⟩
abbrev S16x128 : Shape := ⟨2, ![16, 128]⟩
abbrev S16x256 : Shape := ⟨2, ![16, 256]⟩
abbrev S16x16 : Shape := ⟨2, ![16, 16]⟩
abbrev S16 : Shape := ⟨1, ![16]⟩
abbrev S16x1 : Shape := ⟨2, ![16, 1]⟩
abbrev S16x2048 : Shape := ⟨2, ![16, 2048]⟩
abbrev S128x2048 : Shape := ⟨2, ![128, 2048]⟩
abbrev S1024x1 : Shape := ⟨2, ![1024, 1]⟩

abbrev nBuf : Space → Nat
  | .hbm => 44
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024x512, .f32⟩
  | .hbm, ⟨2, _⟩ => ⟨S512, .f32⟩
  | .hbm, ⟨3, _⟩ => ⟨S512x2048, .f32⟩
  | .hbm, ⟨4, _⟩ => ⟨S1024x4, .f32⟩
  | .hbm, ⟨5, _⟩ => ⟨S1024, .f32⟩
  | .hbm, ⟨6, _⟩ => ⟨S1024x64, .f32⟩
  | .hbm, ⟨7, _⟩ => ⟨S32x1024, .f32⟩
  | .hbm, ⟨8, _⟩ => ⟨S1024, .f32⟩
  | .hbm, ⟨9, _⟩ => ⟨S1024x16, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S4x1024, .f32⟩
  | .hbm, ⟨21, _⟩ => ⟨S1024x32, .f32⟩
  | .hbm, ⟨22, _⟩ => ⟨S1024x32, .bf16⟩
  | .hbm, ⟨23, _⟩ => ⟨S1024x16, .f32⟩
  | .hbm, ⟨24, _⟩ => ⟨S16x1024, .f32⟩
  | .hbm, ⟨25, _⟩ => ⟨S16x1024, .bf16⟩
  | .hbm, ⟨26, _⟩ => ⟨S1024x16, .f32⟩
  | .hbm, ⟨27, _⟩ => ⟨S1024x16, .bf16⟩
  | .hbm, ⟨28, _⟩ => ⟨S1024x16, .f32⟩
  | .hbm, ⟨29, _⟩ => ⟨S1024x16, .f32⟩
  | .hbm, ⟨30, _⟩ => ⟨S16x1024, .f32⟩
  | .hbm, ⟨31, _⟩ => ⟨S8x2048x1024, .bf16⟩
  | .hbm, ⟨32, _⟩ => ⟨S1024x512, .bf16⟩
  | .hbm, ⟨33, _⟩ => ⟨S1x512, .f32⟩
  | .hbm, ⟨34, _⟩ => ⟨S1x1024, .f32⟩
  | .hbm, ⟨35, _⟩ => ⟨S32x1024, .bf16⟩
  | .hbm, ⟨36, _⟩ => ⟨S1x1024, .f32⟩
  | .hbm, ⟨37, _⟩ => ⟨S1x1024, .f32⟩
  | .hbm, ⟨38, _⟩ => ⟨S1024x512, .bf16⟩
  | .hbm, ⟨39, _⟩ => ⟨S1x512, .f32⟩
  | .hbm, ⟨40, _⟩ => ⟨S1x512, .f32⟩
  | .hbm, ⟨41, _⟩ => ⟨S512x1024, .bf16⟩
  | .hbm, ⟨42, _⟩ => ⟨S1x1024, .f32⟩
  | .hbm, ⟨43, _⟩ => ⟨S8x2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1024x512, .bf16⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S4x1024, .f32⟩
  | .local _ .vmem, ⟨7, _⟩ => ⟨S1x1024, .f32⟩
  | .local _ .vmem, ⟨8, _⟩ => ⟨S1024x32, .bf16⟩
  | .local _ .vmem, ⟨9, _⟩ => ⟨S32x1024, .bf16⟩
  | .local _ .vmem, ⟨10, _⟩ => ⟨S1x1024, .f32⟩
  | .local _ .vmem, ⟨11, _⟩ => ⟨S16x1024, .bf16⟩
  | .local _ .vmem, ⟨12, _⟩ => ⟨S1024x16, .bf16⟩
  | .local _ .vmem, ⟨13, _⟩ => ⟨S16x1024, .f32⟩
  | .local _ .vmem, ⟨14, _⟩ => ⟨S1x1024, .f32⟩
  | .local _ .vmem, ⟨15, _⟩ => ⟨S1024x512, .bf16⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S1x1024, .f32⟩
  | .local _ .vmem, ⟨20, _⟩ => ⟨S8x128x1024, .f32⟩
  | .local _ .vmem, ⟨21, _⟩ => ⟨S8x128x1024, .f32⟩
  | .local _ .vmem, ⟨22, _⟩ => ⟨S8x136x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x16, .f32⟩
  | .local _ .vmem, ⟨28, _⟩ => ⟨S1024x1024, .f32⟩
  | .local _ .vmem, ⟨29, _⟩ => ⟨S2048x1024, .bf16⟩
  | .local _ .vmem, ⟨30, _⟩ => ⟨S128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_209 : BitVec 32 := 0#32
  let c8_i32 : BitVec 32 := 8#32
  let v438 : BitVec 32 := Scalar.addi c0_i32_209 c8_i32
  let c1_i32 : BitVec 32 := 1#32
  ⟨c0_i32_209, v438, c1_i32⟩
def k0_off1 (k0_t1 : Fin k0_t1_loop.trips) (c0_i32_253 : BitVec 32) : Fin 2 → Nat :=
  let c0_i32_209 : BitVec 32 := 0#32
  let c1_i32 : BitVec 32 := 1#32
  let arg31 : BitVec 32 := Scf.iv c0_i32_209 c1_i32 k0_t1
  let c16_i32 : BitVec 32 := 16#32
  let v507 : BitVec 32 := Scalar.muli arg31 c16_i32
  let v508 : BitVec 32 := Scalar.addi c0_i32_253 v507
  let v509 : Index := Scalar.indexCast v508
  let c0_254 : Index := 0#32
  ![v509.toNat, 0]
def k0_off2 (k0_t1 : Fin k0_t1_loop.trips) (c0_i32_259 : BitVec 32) : Fin 2 → Nat :=
  let c0_i32_209 : BitVec 32 := 0#32
  let c1_i32 : BitVec 32 := 1#32
  let arg31 : BitVec 32 := Scf.iv c0_i32_209 c1_i32 k0_t1
  let c16_i32_258 : BitVec 32 := 16#32
  let v515 : BitVec 32 := Scalar.muli arg31 c16_i32_258
  let v516 : BitVec 32 := Scalar.addi c0_i32_259 v515
  let v517 : Index := Scalar.indexCast v516
  let c0_260 : Index := 0#32
  ![v517.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S8x128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x1024 : Shape := ⟨3, ![8, 2048, 1024]⟩
abbrev S1024x512 : Shape := ⟨2, ![1024, 512]⟩
abbrev S512 : Shape := ⟨1, ![512]⟩
abbrev S512x2048 : Shape := ⟨2, ![512, 2048]⟩
abbrev S1024x4 : Shape := ⟨2, ![1024, 4]⟩
abbrev S1024 : Shape := ⟨1, ![1024]⟩
abbrev S1024x64 : Shape := ⟨2, ![1024, 64]⟩
abbrev S32x1024 : Shape := ⟨2, ![32, 1024]⟩
abbrev S1024x16 : Shape := ⟨2, ![1024, 16]⟩
abbrev S512x1024 : Shape := ⟨2, ![512, 1024]⟩
abbrev S8x2048x512 : Shape := ⟨3, ![8, 2048, 512]⟩
abbrev S1x1x512 : Shape := ⟨3, ![1, 1, 512]⟩
abbrev S8x2048x2048 : Shape := ⟨3, ![8, 2048, 2048]⟩
abbrev S_ : Shape := ⟨0, ![]⟩
abbrev S8x2051x1024 : Shape := ⟨3, ![8, 2051, 1024]⟩
abbrev S1024x1 : Shape := ⟨2, ![1024, 1]⟩
abbrev S1x1x1024 : Shape := ⟨3, ![1, 1, 1024]⟩
abbrev S8x2048x64 : Shape := ⟨3, ![8, 2048, 64]⟩
abbrev S8x2048x32 : Shape := ⟨3, ![8, 2048, 32]⟩
abbrev S8x2048x16 : Shape := ⟨3, ![8, 2048, 16]⟩
abbrev S8x1024x16 : Shape := ⟨3, ![8, 1024, 16]⟩
abbrev S2048x8x1024 : Shape := ⟨3, ![2048, 8, 1024]⟩
abbrev S2048x8x16 : Shape := ⟨3, ![2048, 8, 16]⟩
abbrev S1x8x1024 : Shape := ⟨3, ![1, 8, 1024]⟩
abbrev S8x1024 : Shape := ⟨2, ![8, 1024]⟩
abbrev S1x8x16 : Shape := ⟨3, ![1, 8, 16]⟩
abbrev S8x16 : Shape := ⟨2, ![8, 16]⟩
abbrev S8x1024x1 : Shape := ⟨3, ![8, 1024, 1]⟩
abbrev S1x1024x16 : Shape := ⟨3, ![1, 1024, 16]⟩
abbrev S8x1x16 : Shape := ⟨3, ![8, 1, 16]⟩
abbrev S8x2048 : Shape := ⟨2, ![8, 2048]⟩
abbrev S8x2048x1 : Shape := ⟨3, ![8, 2048, 1]⟩

abbrev nBuf : Space → Nat
  | .hbm => 212
  | .vmem => 0
  | .smem => 0
  | _ => 0

abbrev hbmTy0_0 (i : Nat) : BufTy := match i % 128 with
  | 0 => ⟨S8x2048x1024, .f32⟩
  | 1 => ⟨S1024x512, .f32⟩
  | 2 => ⟨S512, .f32⟩
  | 3 => ⟨S512x2048, .f32⟩
  | 4 => ⟨S1024x4, .f32⟩
  | 5 => ⟨S1024, .f32⟩
  | 6 => ⟨S1024x64, .f32⟩
  | 7 => ⟨S32x1024, .f32⟩
  | 8 => ⟨S1024, .f32⟩
  | 9 => ⟨S1024x16, .f32⟩
  | 10 => ⟨S1024, .f32⟩
  | 11 => ⟨S1024x512, .f32⟩
  | 12 => ⟨S512, .f32⟩
  | 13 => ⟨S512, .f32⟩
  | 14 => ⟨S512x1024, .f32⟩
  | 15 => ⟨S1024, .f32⟩
  | 16 => ⟨S8x2048x512, .f32⟩
  | 17 => ⟨S1x1x512, .f32⟩
  | 18 => ⟨S8x2048x512, .f32⟩
  | 19 => ⟨S8x2048x512, .f32⟩
  | 20 => ⟨S8x2048x2048, .f32⟩
  | 21 => ⟨S8x2048x1024, .f32⟩
  | 22 => ⟨S8x2048x1024, .f32⟩
  | 23 => ⟨S_, .i32⟩
  | 24 => ⟨S_, .f32⟩
  | 25 => ⟨S8x2051x1024, .f32⟩
  | 26 => ⟨S8x2048x1024, .f32⟩
  | 27 => ⟨S1024x1, .f32⟩
  | 28 => ⟨S1024, .f32⟩
  | 29 => ⟨S1x1x1024, .f32⟩
  | 30 => ⟨S8x2048x1024, .f32⟩
  | 31 => ⟨S8x2048x1024, .f32⟩
  | 32 => ⟨S_, .f32⟩
  | 33 => ⟨S8x2048x1024, .f32⟩
  | 34 => ⟨S8x2048x1024, .f32⟩
  | 35 => ⟨S8x2048x1024, .f32⟩
  | 36 => ⟨S1024x1, .f32⟩
  | 37 => ⟨S1024, .f32⟩
  | 38 => ⟨S1x1x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S1024x1, .f32⟩
  | 44 => ⟨S1024, .f32⟩
  | 45 => ⟨S1x1x1024, .f32⟩
  | 46 => ⟨S8x2048x1024, .f32⟩
  | 47 => ⟨S8x2048x1024, .f32⟩
  | 48 => ⟨S8x2048x1024, .f32⟩
  | 49 => ⟨S8x2048x1024, .f32⟩
  | 50 => ⟨S1024x1, .f32⟩
  | 51 => ⟨S1024, .f32⟩
  | 52 => ⟨S1x1x1024, .f32⟩
  | 53 => ⟨S8x2048x1024, .f32⟩
  | 54 => ⟨S8x2048x1024, .f32⟩
  | 55 => ⟨S8x2048x1024, .f32⟩
  | 56 => ⟨S1x1x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S8x2048x1024, .f32⟩
  | 68 => ⟨S8x2048x64, .f32⟩
  | 69 => ⟨S8x2048x32, .f32⟩
  | 70 => ⟨S8x2048x16, .f32⟩
  | 71 => ⟨S8x2048x16, .f32⟩
  | 72 => ⟨S8x2048x1024, .f32⟩
  | 73 => ⟨S1x1x1024, .f32⟩
  | 74 => ⟨S8x2048x1024, .f32⟩
  | 75 => ⟨S8x2048x1024, .f32⟩
  | 76 => ⟨S_, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x1024, .i1⟩
  | 82 => ⟨S8x2048x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S1024x16, .f32⟩
  | 91 => ⟨S1024x16, .f32⟩
  | 92 => ⟨S_, .f32⟩
  | 93 => ⟨S8x1024x16, .f32⟩
  | 94 => ⟨S2048x8x1024, .f32⟩
  | 95 => ⟨S2048x8x16, .f32⟩
  | 96 => ⟨S2048x8x16, .f32⟩
  | 97 => ⟨S2048x8x1024, .f32⟩
  | 98 => ⟨S_, .f32⟩
  | 99 => ⟨S2048x8x1024, .f32⟩
  | 100 => ⟨S_, .i32⟩
  | 101 => ⟨S2048x8x1024, .f32⟩
  | 102 => ⟨S2048x8x16, .f32⟩
  | 103 => ⟨S2048x8x16, .f32⟩
  | 104 => ⟨S2048x8x1024, .f32⟩
  | 105 => ⟨S1024x16, .f32⟩
  | 106 => ⟨S_, .i32⟩
  | 107 => ⟨S8x1024x16, .f32⟩
  | 108 => ⟨S2048x8x1024, .f32⟩
  | 109 => ⟨S_, .i32⟩
  | 110 => ⟨S_, .i1⟩
  | 111 => ⟨S_, .i32⟩
  | 112 => ⟨S_, .i32⟩
  | 113 => ⟨S1x8x1024, .f32⟩
  | 114 => ⟨S8x1024, .f32⟩
  | 115 => ⟨S_, .i32⟩
  | 116 => ⟨S_, .i32⟩
  | 117 => ⟨S1x8x16, .f32⟩
  | 118 => ⟨S8x16, .f32⟩
  | 119 => ⟨S_, .i32⟩
  | 120 => ⟨S_, .i32⟩
  | 121 => ⟨S1x8x16, .f32⟩
  | 122 => ⟨S8x16, .f32⟩
  | 123 => ⟨S_, .i32⟩
  | 124 => ⟨S_, .i32⟩
  | 125 => ⟨S1x8x1024, .f32⟩
  | 126 => ⟨S8x1024, .f32⟩
  | 127 => ⟨S8x1024x1, .f32⟩
  | _ => ⟨S8x2048x1024, .f32⟩

abbrev hbmTy0_1 (i : Nat) : BufTy := match i % 128 with
  | 0 => ⟨S1x1024x16, .f32⟩
  | 1 => ⟨S8x1024x16, .f32⟩
  | 2 => ⟨S8x1024x16, .f32⟩
  | 3 => ⟨S8x1024x16, .f32⟩
  | 4 => ⟨S8x1024x16, .f32⟩
  | 5 => ⟨S8x1024x16, .f32⟩
  | 6 => ⟨S8x1024, .f32⟩
  | 7 => ⟨S8x1024x1, .f32⟩
  | 8 => ⟨S8x1x16, .f32⟩
  | 9 => ⟨S8x1024x16, .f32⟩
  | 10 => ⟨S8x1024x16, .f32⟩
  | 11 => ⟨S8x1024x16, .f32⟩
  | 12 => ⟨S8x1024x16, .f32⟩
  | 13 => ⟨S8x1024, .f32⟩
  | 14 => ⟨S1x8x1024, .f32⟩
  | 15 => ⟨S_, .i32⟩
  | 16 => ⟨S_, .i32⟩
  | 17 => ⟨S2048x8x1024, .f32⟩
  | 18 => ⟨S_, .i32⟩
  | 19 => ⟨S_, .i32⟩
  | 20 => ⟨S8x2048x1024, .f32⟩
  | 21 => ⟨S1x1x1024, .f32⟩
  | 22 => ⟨S8x2048x1024, .f32⟩
  | 23 => ⟨S8x2048x1024, .f32⟩
  | 24 => ⟨S8x2048x1024, .f32⟩
  | 25 => ⟨S8x2048x1024, .f32⟩
  | 26 => ⟨S8x2048x1024, .f32⟩
  | 27 => ⟨S_, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x512, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .i32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S8x2048x512, .f32⟩
  | 50 => ⟨S8x2048x512, .f32⟩
  | 51 => ⟨S8x2048x512, .f32⟩
  | 52 => ⟨S_, .f32⟩
  | 53 => ⟨S_, .f32⟩
  | 54 => ⟨S_, .f32⟩
  | 55 => ⟨S_, .f32⟩
  | 56 => ⟨S8x2048, .f32⟩
  | 57 => ⟨S8x2048x1, .f32⟩
  | 58 => ⟨S8x2048x1, .f32⟩
  | 59 => ⟨S8x2048x1, .f32⟩
  | 60 => ⟨S_, .f32⟩
  | 61 => ⟨S_, .i1⟩
  | 62 => ⟨S_, .f32⟩
  | 63 => ⟨S_, .f32⟩
  | 64 => ⟨S8x2048x1, .f32⟩
  | 65 => ⟨S8x2048x1, .f32⟩
  | 66 => ⟨S8x2048x512, .f32⟩
  | 67 => ⟨S8x2048x512, .f32⟩
  | 68 => ⟨S_, .f32⟩
  | 69 => ⟨S8x2048x1, .f32⟩
  | 70 => ⟨S8x2048x1, .f32⟩
  | 71 => ⟨S8x2048x1, .f32⟩
  | 72 => ⟨S8x2048x512, .f32⟩
  | 73 => ⟨S8x2048x512, .f32⟩
  | 74 => ⟨S1x1x512, .f32⟩
  | 75 => ⟨S8x2048x512, .f32⟩
  | 76 => ⟨S8x2048x512, .f32⟩
  | 77 => ⟨S1x1x512, .f32⟩
  | 78 => ⟨S8x2048x512, .f32⟩
  | 79 => ⟨S8x2048x512, .f32⟩
  | 80 => ⟨S8x2048x1024, .f32⟩
  | 81 => ⟨S1x1x1024, .f32⟩
  | 82 => ⟨S8x2048x1024, .f32⟩
  | 83 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_0 : Ref sig .tc := ⟨.hbm, 61, rfl⟩
abbrev main_v42 : Ref sig .tc := ⟨.hbm, 62, rfl⟩
abbrev main_v43 : Ref sig .tc := ⟨.hbm, 63, rfl⟩
abbrev main_cst_1 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_3 : Ref sig .tc := ⟨.hbm, 98, rfl⟩
abbrev main_v63 : Ref sig .tc := ⟨.hbm, 99, rfl⟩
abbrev main_c_4 : Ref sig .tc := ⟨.hbm, 100, rfl⟩
abbrev main_v64_0 : Ref sig .tc := ⟨.hbm, 101, rfl⟩
abbrev main_v64_1 : Ref sig .tc := ⟨.hbm, 102, rfl⟩
abbrev main_v64_2 : Ref sig .tc := ⟨.hbm, 103, rfl⟩
abbrev main_v64_3 : Ref sig .tc := ⟨.hbm, 104, rfl⟩
abbrev main_v64_4 : Ref sig .tc := ⟨.hbm, 105, rfl⟩
abbrev main_v64_5 : Ref sig .tc := ⟨.hbm, 106, rfl⟩
abbrev main_v64_6 : Ref sig .tc := ⟨.hbm, 107, rfl⟩
abbrev main_v64_7 : Ref sig .tc := ⟨.hbm, 108, rfl⟩
abbrev main_while0c_c_18 : Ref sig .tc := ⟨.hbm, 109, rfl⟩
abbrev main_while0c_v101 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_v0 : Ref sig .tc := ⟨.hbm, 113, rfl⟩
abbrev main_while0b_v101 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_v0 : Ref sig .tc := ⟨.hbm, 117, rfl⟩
abbrev main_while0b_v102 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_v0 : Ref sig .tc := ⟨.hbm, 121, rfl⟩
abbrev main_while0b_v103 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_v0 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_v107 : Ref sig .tc := ⟨.hbm, 129, rfl⟩
abbrev main_while0b_v108 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_v112 : Ref sig .tc := ⟨.hbm, 134, rfl⟩
abbrev main_while0b_v113 : Ref sig .tc := ⟨.hbm, 135, rfl⟩
abbrev main_while0b_v114 : Ref sig .tc := ⟨.hbm, 136, rfl⟩
abbrev main_while0b_v115 : Ref sig .tc := ⟨.hbm, 137, rfl⟩
abbrev main_while0b_v116 : Ref sig .tc := ⟨.hbm, 138, rfl⟩
abbrev main_while0b_v117 : Ref sig .tc := ⟨.hbm, 139, rfl⟩
abbrev main_while0b_v118 : Ref sig .tc := ⟨.hbm, 140, rfl⟩
abbrev main_while0b_v119 : Ref sig .tc := ⟨.hbm, 141, rfl⟩
abbrev main_while0b_call6_v0 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_v120 : Ref sig .tc := ⟨.hbm, 145, rfl⟩
abbrev main_while0b_c_18 : Ref sig .tc := ⟨.hbm, 146, rfl⟩
abbrev main_while0b_v121 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_cst_5 : Ref sig .tc := ⟨.hbm, 155, rfl⟩
abbrev main_v72 : Ref sig .tc := ⟨.hbm, 156, rfl⟩
abbrev main_v73 : Ref sig .tc := ⟨.hbm, 157, rfl⟩
abbrev main_cst_6 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_cst_7 : Ref sig .tc := ⟨.hbm, 164, rfl⟩
abbrev main_v79 : Ref sig .tc := ⟨.hbm, 165, rfl⟩
abbrev main_v80 : Ref sig .tc := ⟨.hbm, 166, rfl⟩
abbrev main_cst_8 : Ref sig .tc := ⟨.hbm, 167, rfl⟩
abbrev main_v81 : Ref sig .tc := ⟨.hbm, 168, rfl⟩
abbrev main_v82 : Ref sig .tc := ⟨.hbm, 169, rfl⟩
abbrev main_c_9 : Ref sig .tc := ⟨.hbm, 170, rfl⟩
abbrev main_call7_cst : Ref sig .tc := ⟨.hbm, 171, rfl⟩
abbrev main_call7_v0 : Ref sig .tc := ⟨.hbm, 172, rfl⟩
abbrev main_call7_v1 : Ref sig .tc := ⟨.hbm, 173, rfl⟩
abbrev main_call7_cst_0 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_call7_v5 : Ref sig .tc := ⟨.hbm, 178, rfl⟩
abbrev main_call7_v6 : Ref sig .tc := ⟨.hbm, 179, rfl⟩
abbrev main_call7_v7 : Ref sig .tc := ⟨.hbm, 180, rfl⟩
abbrev main_call7_cst_1 : Ref sig .tc := ⟨.hbm, 181, rfl⟩
abbrev main_call7_v8 : Ref sig .tc := ⟨.hbm, 182, rfl⟩
abbrev main_call7_cst_2 : Ref sig .tc := ⟨.hbm, 183, rfl⟩
abbrev main_call7_v9 : Ref sig .tc := ⟨.hbm, 184, rfl⟩
abbrev main_call7_v10 : Ref sig .tc := ⟨.hbm, 185, rfl⟩
abbrev main_call7_v11 : Ref sig .tc := ⟨.hbm, 186, rfl⟩
abbrev main_call7_v12 : Ref sig .tc := ⟨.hbm, 187, rfl⟩
abbrev main_call7_cst_3 : Ref sig .tc := ⟨.hbm, 188, rfl⟩
abbrev main_call7_v13 : Ref sig .tc := ⟨.hbm, 189, rfl⟩
abbrev main_call7_cst_4 : Ref sig .tc := ⟨.hbm, 190, rfl⟩
abbrev main_call7_call0_v0 : Ref sig .tc := ⟨.hbm, 191, rfl⟩
abbrev main_call7_call0_v1 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_cst_10 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩

abbrev nD : Nat := 1
abbrev τ : Topo := Topo.v7x

variable {F : FTy → Type} [FloatOps F]

abbrev main_while0_count : Scf.Loop 32 := ⟨0#32, 2048#32, 1#32⟩
-- ==== Proof.Points.lean ====
/- The grid points of the launch: which point opens the sequence, the memrefs the body is handed at a point, and the
   scratch buffers as memrefs. -/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S8x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x16 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x128x1024 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S8x136x1024 .f32 := Memref.whole cc0_scratch0
abbrev scM0_1 : Memref sig .tc .vmem S1024x1024 .f32 := Memref.whole cc0_scratch1
abbrev scM0_2 : Memref sig .tc .vmem S1024x1024 .f32 := Memref.whole cc0_scratch2
abbrev scM0_3 : Memref sig .tc .vmem S1024x1024 .f32 := Memref.whole cc0_scratch3
abbrev scM0_4 : Memref sig .tc .vmem S1024x1024 .f32 := Memref.whole cc0_scratch4
abbrev scM0_5 : Memref sig .tc .vmem S1024x16 .f32 := Memref.whole cc0_scratch5
abbrev scM0_6 : Memref sig .tc .vmem S1024x1024 .f32 := Memref.whole cc0_scratch6
abbrev scM0_7 : Memref sig .tc .vmem S2048x1024 .bf16 := Memref.whole cc0_scratch7
abbrev scM0_8 : Memref sig .tc .vmem S128x1024 .f32 := Memref.whole cc0_scratch8
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal

end
-- ==== Proof.IdealBody.lean ====
/- The body of the kernel at any point of the grid, on any staging memrefs: it runs, every input is left as it was,
   the output and the scratch buffers end at some contents. -/
module

public import proofs.«01_k».proof.Proof.Points

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

set_option maxHeartbeats 40000000 in
/-- The body runs at every point, whichever way its conditional goes. -/
theorem body_runs (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)
    (x0 : Vec F S8x128x1024 .bf16) (x1 : Vec F S1024x512 .bf16) (x2 : Vec F S1x512 .f32) (x3 : Vec F S512x1024 .bf16) (x4 : Vec F S512x1024 .bf16) (x5 : Vec F S4x1024 .f32) (x6 : Vec F S1x1024 .f32) (x7 : Vec F S1024x32 .bf16) (x8 : Vec F S32x1024 .bf16) (x9 : Vec F S1x1024 .f32) (x10 : Vec F S16x1024 .bf16) (x11 : Vec F S1024x16 .bf16) (x12 : Vec F S16x1024 .f32) (x13 : Vec F S1x1024 .f32) (x14 : Vec F S1024x512 .bf16) (x15 : Vec F S1x512 .f32) (x16 : Vec F S1x512 .f32) (x17 : Vec F S512x1024 .bf16) (x18 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
      ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__mamba_kernel_eq_skeleton]; unfold cc0__mamba_kernel_skel
  simp only [k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  by_cases hc0 : cond0_0 i
  · sl_exec (disch := first | sl_exact hc0)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact harg13.read_unread _
    isplitl [H12]
    · iexists _; isplitr; swap; · iexact H12
      ipureintro; exact harg14.read_unread _
    isplitl [H13]
    · iexists _; isplitr; swap; · iexact H13
      ipureintro; exact harg15.read_unread _
    isplitl [H14]
    · iexists _; isplitr; swap; · iexact H14
      ipureintro; exact harg16.read_unread _
    isplitl [H15]
    · iexists _; isplitr; swap; · iexact H15
      ipureintro; exact harg17.read_unread _
    isplitl [H16]
    · iexists _; isplitr; swap; · iexact H16
      ipureintro; exact harg18.read_unread _
    isplitl [H17]
    · iexists _; isplitr; swap; · iexact H17
      ipureintro; exact harg19.read_unread _
    isplitl [H18]
    · iexists _; isplitr; swap; · iexact H18
      ipureintro; exact harg20.read_unread _
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl
  · sl_exec (disch := first | sl_exact hc0)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact harg13.read_unread _
    isplitl [H12]
    · iexists _; isplitr; swap; · iexact H12
      ipureintro; exact harg14.read_unread _
    isplitl [H13]
    · iexists _; isplitr; swap; · iexact H13
      ipureintro; exact harg15.read_unread _
    isplitl [H14]
    · iexists _; isplitr; swap; · iexact H14
      ipureintro; exact harg16.read_unread _
    isplitl [H15]
    · iexists _; isplitr; swap; · iexact H15
      ipureintro; exact harg17.read_unread _
    isplitl [H16]
    · iexists _; isplitr; swap; · iexact H16
      ipureintro; exact harg18.read_unread _
    isplitl [H17]
    · iexists _; isplitr; swap; · iexact H17
      ipureintro; exact harg19.read_unread _
    isplitl [H18]
    · iexists _; isplitr; swap; · iexact H18
      ipureintro; exact harg20.read_unread _
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal

end
-- ==== Proof.IdealFrame.lean ====
/- The program over the extended reals leaves its arguments as they were: every grid point runs to its end from
   whatever the scratch and the result hold, so nothing has to be said of what the body computes. -/
module

public import proofs.«01_k».proof.Proof.IdealBody
public import Idealize.ShloMosaic.Lib.Quiescent

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
variable (m : (ℓ : Loc nD τ sig) → Buf (Elt F) ℓ) (ρ : Dev nD → PrngReg)

/-- The resource algebra of the launch. -/
local notation "𝕄" => MT nD τ sig Unit (Elt F) ℕ (UR sig nD τ) ℕ

/-- Only the result's window is left unnamed; the others keep their blocks. -/
def unnamedW : Fin 20 → Bool := fun w => w.val == 19

/-- The data of the pipelined launch: the arrays as the launch finds them, every input window at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.castSucc = Pipeline.ΦA spec0 c from rfl, show (dats m 0 c).Φ t.succ = Pipeline.ΦA spec0 c from rfl, PhiA0_eq,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19⟩
  iapply (body_runs c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    (defs₀ (F := F)) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) Variants.none () Set.univ unnamedW := fun t => by
  rw [bigSep_W0, bigSep_W0, defs₀_row]
  exact triple_restated (sound_body m c t) rfl .rfl fun _ => .rfl

set_option backward.isDefEq.respectTransparency.types false in
/-- The run: every window but the result's ends as it began, every other buffer as the launch found it. -/
theorem run_main : θ_run defs (onTc (τ := τ) (main (F := F))) (s₀ m ρ)
    (fun r => Pipeline.RDat.FramePost (cfgs 0) (fun c => (dats m 0 c).toRForget unnamedW) (V m) r ∧ r.2.sem = fun _ => 0) :=
  Pipeline.θ_run_frame_forget (Q' := _) cfgs (dats m) (0 : Fin 1) launch0 defs₀ Variants.none unnamedW m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The sixteen arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩, h.2⟩) (run_main m ρ)

end Cert.KernelIdeal

end
-- ==== Proof.RefOps.lean ====
/- The reference's @main as stretches of host operations around its one loop: the operations of each stretch and of each
   function it calls, and that @main and the loop's body are these stretches run in order. -/
module

public import proofs.«01_k».proof.ReferenceIdeal
public import proofs.«01_k».proof.Proof.Gen.ReferenceIdeal
public import Idealize.ShloMosaic.Lib.StableHlo.RunLoop
public import Idealize.ShloMosaic.Lib.Tactic

@[expose] public section

set_option maxRecDepth 16384
set_option maxHeartbeats 4000000

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Facts₀ Cert.ReferenceIdeal.Facts

variable {F : FTy → Type} [FloatOps F]

/-- The operations of the padding of the sequence by three zero rows. -/
abbrev padOps (arg0 : StableHlo.TRef sig ⟨S8x2048x1024, .f32⟩) (arg1 : StableHlo.TRef sig ⟨S_, .i32⟩) (φ : fn_pad.Bufs) : List (HloOp τ sig (Elt F)) :=
  [ StableHlo.TRef.unary arg1 φ.v0 (sitofp .f32),
    StableHlo.TRef.binary arg0 φ.v0 φ.v1 (fun x v => pad S8x2051x1024 ![0, 3, 0] ![0, 0, 0] ![0, 0, 0] x v pads_S8x2048x1024_S8x2051x1024_000_300_000 h_S_) ]

/-- Each of these operations touches TensorCore references only. -/
theorem padOps_sub (arg0 : StableHlo.TRef sig ⟨S8x2048x1024, .f32⟩) (arg1 : StableHlo.TRef sig ⟨S_, .i32⟩) (φ : fn_pad.Bufs) : (padOps arg0 arg1 φ : List (HloOp τ sig (Elt F))).Forall fun op => op.bufs ⊆ StableHlo.tcRefs τ sig :=
  ⟨StableHlo.unary_bufs_sub .., StableHlo.binary_bufs_sub ..⟩

/-- The operations of softplus. -/
abbrev softplusOps (arg0 : StableHlo.TRef sig ⟨S8x2048x1024, .f32⟩) (φ : fn_softplus.Bufs) : List (HloOp τ sig (Elt F)) :=
  [ StableHlo.TRef.nullary φ.cst (constant S_ .f32 0x00000000#32),
    StableHlo.TRef.unary φ.cst φ.v0 (broadcastInDim S8x2048x1024 ![] bcast_S_S8x2048x1024),
    StableHlo.TRef.binary arg0 φ.v0 φ.v1 maximumf,
    StableHlo.TRef.unary φ.cst φ.v2 (broadcastInDim S8x2048x1024 ![] bcast_S_S8x2048x1024),
    StableHlo.TRef.binary arg0 φ.v2 φ.v3 subf,
    StableHlo.TRef.binary φ.v3 φ.v3 φ.v4 (cmpf .une),
    StableHlo.TRef.unary φ.cst φ.v5 (broadcastInDim S8x2048x1024 ![] bcast_S_S8x2048x1024),
    StableHlo.TRef.binary arg0 φ.v5 φ.v6 addf,
    StableHlo.TRef.unary φ.v3 φ.v7 Host.absf,
    StableHlo.TRef.unary φ.v7 φ.v8 Host.negf,
    StableHlo.TRef.unary φ.v8 φ.v9 Host.exp,
    StableHlo.TRef.unary φ.v9 φ.v10 Host.log1p,
    StableHlo.TRef.binary φ.v1 φ.v10 φ.v11 addf,
    StableHlo.TRef.ternary φ.v4 φ.v6 φ.v11 φ.v12 select ]

/-- Each of these operations touches TensorCore references only. -/
theorem softplusOps_sub (arg0 : StableHlo.TRef sig ⟨S8x2048x1024, .f32⟩) (φ : fn_softplus.Bufs) : (softplusOps arg0 φ : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩

/-- The operations of the slice of a time step (1024 columns). -/
abbrev rowOps (arg0 : StableHlo.TRef sig ⟨S2048x8x1024, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x8x1024 x (fun k => (i k (Shape.Idx.first h_S_)).toInt) sliceFits_S2048x8x1024_S1x8x1024),
    StableHlo.TRef.reshape φ.v0 φ.v1 (rfl : (.f32 : EltTy) = .f32) shapeCasts_S1x8x1024_S8x1024 ]

/-- Each of these operations touches TensorCore references only. -/
theorem rowOps_sub (arg0 : StableHlo.TRef sig ⟨S2048x8x1024, .f32⟩) (arg1 : StableHlo.TRef sig ⟨S_, .i32⟩) (φ : fn_dynamic_index_in_dim.Bufs) : (rowOps arg0 arg1 φ : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The operations of the slice of a time step (16 columns). -/
abbrev rowOps16 (arg0 : StableHlo.TRef sig ⟨S2048x8x16, .f32⟩) (arg1 : StableHlo.TRef sig ⟨S_, .i32⟩) (φ : fn_dynamic_index_in_dim_0.Bufs) : List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x8x16 x (fun k => (i k (Shape.Idx.first h_S_)).toInt) sliceFits_S2048x8x16_S1x8x16),
    StableHlo.TRef.reshape φ.v0 φ.v1 (rfl : (.f32 : EltTy) = .f32) shapeCasts_S1x8x16_S8x16 ]

/-- Each of these operations touches TensorCore references only. -/
theorem rowOps16_sub (arg0 : StableHlo.TRef sig ⟨S2048x8x16, .f32⟩) (arg1 : StableHlo.TRef sig ⟨S_, .i32⟩) (φ : fn_dynamic_index_in_dim_0.Bufs) : (rowOps16 arg0 arg1 φ : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The operations of the write of a time step. -/
abbrev writeOps (arg0 : StableHlo.TRef sig ⟨S2048x8x1024, .f32⟩) (arg1 : StableHlo.TRef sig ⟨S8x1024, .f32⟩) (arg2 : StableHlo.TRef sig ⟨S_, .i32⟩) (φ : fn_dynamic_update_index_in_dim.Bufs) : List (HloOp τ sig (Elt F)) :=
  [ StableHlo.TRef.unary arg1 φ.v0 (broadcastInDim S1x8x1024 ![1, 2] bcast_S8x1024_S1x8x1024_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S2048x8x1024_S1x8x1024) ]

/-- Each of these operations touches TensorCore references only. -/
theorem writeOps_sub (arg0 : StableHlo.TRef sig ⟨S2048x8x1024, .f32⟩) (arg1 : StableHlo.TRef sig ⟨S8x1024, .f32⟩) (arg2 : StableHlo.TRef sig ⟨S_, .i32⟩) (φ : fn_dynamic_update_index_in_dim.Bufs) : (writeOps arg0 arg1 arg2 φ : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The operations of the guard of the variance. -/
abbrev whereOps (arg0 : StableHlo.TRef sig ⟨S_, .i1⟩) (arg1 : StableHlo.TRef sig ⟨S8x2048x1, .f32⟩) (arg2 : StableHlo.TRef sig ⟨S_, .f32⟩) (φ : fn_where.Bufs) : List (HloOp τ sig (Elt F)) :=
  [ StableHlo.TRef.unary arg2 φ.v0 id,
    StableHlo.TRef.unary φ.v0 φ.v1 (broadcastInDim S8x2048x1 ![] bcast_S_S8x2048x1),
    StableHlo.TRef.ternary arg0 arg1 φ.v1 φ.v2 (fun p a b => select (broadcastInDim S8x2048x1 ![] bcast_S_S8x2048x1 p) a b) ]

/-- Each of these operations touches TensorCore references only. -/
theorem whereOps_sub (arg0 : StableHlo.TRef sig ⟨S_, .i1⟩) (arg1 : StableHlo.TRef sig ⟨S8x2048x1, .f32⟩) (arg2 : StableHlo.TRef sig ⟨S_, .f32⟩) (φ : fn_where.Bufs) : (whereOps arg0 arg1 arg2 φ : List (HloOp τ sig (Elt F))).Forall fun op => op.bufs ⊆ StableHlo.tcRefs τ sig :=
  ⟨StableHlo.unary_bufs_sub .., StableHlo.unary_bufs_sub .., StableHlo.ternary_bufs_sub ..⟩

/-- The operations of the variance. -/
abbrev varOps (arg0 : StableHlo.TRef sig ⟨S8x2048x512, .f32⟩) (arg1 : StableHlo.TRef sig ⟨S_, .i32⟩) (φ : fn_var.Bufs) : List (HloOp τ sig (Elt F)) :=
  [ StableHlo.TRef.nullary φ.cst (constant S_ .f32 0x00000000#32),
    StableHlo.TRef.binary arg0 φ.cst φ.v0 (fun x v => Host.reduceAdd x v reducesTo_S8x2048x512_S8x2048_d2 h_S_),
    StableHlo.TRef.unary φ.v0 φ.v1 (broadcastInDim S8x2048x1 ![0, 1] bcast_S8x2048_S8x2048x1_0_1),
    StableHlo.TRef.nullary φ.cst_0 (constant S_ .f32 0x44000000#32),
    StableHlo.TRef.unary φ.cst_0 φ.v2 (broadcastInDim S8x2048x1 ![] bcast_S_S8x2048x1),
    StableHlo.TRef.binary φ.v1 φ.v2 φ.v3 Host.divf,
    StableHlo.TRef.unary φ.v3 φ.v4 (broadcastInDim S8x2048x512 ![0, 1, 2] bcast_S8x2048x1_S8x2048x512_0_1_2),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x44000000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S8x2048x512_S8x2048_d2 h_S_),
    StableHlo.TRef.unary φ.v9 φ.v10 (broadcastInDim S8x2048x1 ![0, 1] bcast_S8x2048_S8x2048x1_0_1),
    StableHlo.TRef.unary φ.v8 φ.v11 (broadcastInDim S8x2048x1 ![] bcast_S_S8x2048x1),
    StableHlo.TRef.binary φ.v10 φ.v11 φ.v12 Host.divf,
    StableHlo.TRef.nullary φ.cst_3 (constant S_ .f32 0x00000000#32),
    StableHlo.TRef.binary φ.v8 φ.cst_3 φ.v13 (cmpf .ogt),
    StableHlo.TRef.nullary φ.cst_4 (constant S_ .f32 0x7FC00000#32) ]

/-- Each of these operations touches TensorCore references only. -/
theorem varOps_sub (arg0 : StableHlo.TRef sig ⟨S8x2048x512, .f32⟩) (arg1 : StableHlo.TRef sig ⟨S_, .i32⟩) (φ : fn_var.Bufs) : (varOps arg0 arg1 φ : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub ..⟩

/-- A stretch of operations. -/
abbrev ops0_0 : List (HloOp τ sig (Elt F)) :=
  [ StableHlo.binary main_arg0 main_arg1 main_v0 ((fun l r => Host.dotGeneral dot_S8x2048x1024_S1024x512_S8x2048x512_2_0_01_1_n_n none l r) : (⟨S8x2048x1024, .f32⟩ : BufTy).Contents (Elt F) → (⟨S1024x512, .f32⟩ : BufTy).Contents (Elt F) → (⟨S8x2048x512, .f32⟩ : BufTy).Contents (Elt F)),
    StableHlo.unary main_arg2 main_v1 (broadcastInDim S1x1x512 ![2] bcast_S512_S1x1x512_2 : (⟨S512, .f32⟩ : BufTy).Contents (Elt F) → (⟨S1x1x512, .f32⟩ : BufTy).Contents (Elt F)),
    StableHlo.unary main_v1 main_v2 (broadcastInDim S8x2048x512 ![0, 1, 2] bcast_S1x1x512_S8x2048x512_0_1_2 : (⟨S1x1x512, .f32⟩ : BufTy).Contents (Elt F) → (⟨S8x2048x512, .f32⟩ : BufTy).Contents (Elt F)),
    StableHlo.binary main_v0 main_v2 main_v3 (addf : (⟨S8x2048x512, .f32⟩ : BufTy).Contents (Elt F) → (⟨S8x2048x512, .f32⟩ : BufTy).Contents (Elt F) → (⟨S8x2048x512, .f32⟩ : BufTy).Contents (Elt F)),
    StableHlo.binary main_v3 main_arg3 main_v4 ((fun l r => Host.dotGeneral dot_S8x2048x512_S512x2048_S8x2048x2048_2_0_01_1_n_n none l r) : (⟨S8x2048x512, .f32⟩ : BufTy).Contents (Elt F) → (⟨S512x2048, .f32⟩ : BufTy).Contents (Elt F) → (⟨S8x2048x2048, .f32⟩ : BufTy).Contents (Elt F)),
    StableHlo.unary main_v4 main_v5 ((extractStridedSlice S8x2048x1024 ![0, 0, 0] · slices_S8x2048x2048_S8x2048x1024_0_0_0) : (⟨S8x2048x2048, .f32⟩ : BufTy).Contents (Elt F) → (⟨S8x2048x1024, .f32⟩ : BufTy).Contents (Elt F)),
    StableHlo.unary main_v4 main_v6 ((extractStridedSlice S8x2048x1024 ![0, 0, 1024] · slices_S8x2048x2048_S8x2048x1024_0_0_1024) : (⟨S8x2048x2048, .f32⟩ : BufTy).Contents (Elt F) → (⟨S8x2048x1024, .f32⟩ : BufTy).Contents (Elt F)),
    StableHlo.nullary main_c (constantI S_ 32 0#32) ]

/-- Each of these operations touches TensorCore references only. -/
theorem ops0_0_sub : (ops0_0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub ..⟩

/-- A stretch of operations. -/
abbrev ops0_1 : List (HloOp τ sig (Elt F)) :=
  [ StableHlo.unary main_v7 main_v8 ((extractStridedSlice S8x2048x1024 ![0, 0, 0] · slices_S8x2051x1024_S8x2048x1024_0_0_0) : (⟨S8x2051x1024, .f32⟩ : BufTy).Contents (Elt F) → (⟨S8x2048x1024, .f32⟩ : BufTy).Contents (Elt F)),
    StableHlo.unary main_arg4 main_v9 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v9 main_v10 (rfl : (.f32 : EltTy) = .f32) shapeCasts_S1024x1_S1024,
    StableHlo.unary main_v10 main_v11 (broadcastInDim S1x1x1024 ![2] bcast_S1024_S1x1x1024_2 : (⟨S1024, .f32⟩ : BufTy).Contents (Elt F) → (⟨S1x1x1024, .f32⟩ : BufTy).Contents (Elt F)),
    StableHlo.unary main_v11 main_v12 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v8 main_v12 main_v13 (mulf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst (constant S_ .f32 0x00000000#32),
    StableHlo.unary main_cst main_v14 (broadcastInDim S8x2048x1024 ![] bcast_S_S8x2048x1024 : (⟨S_, .f32⟩ : BufTy).Contents (Elt F) → (⟨S8x2048x1024, .f32⟩ : BufTy).Contents (Elt F)),
    StableHlo.binary main_v14 main_v13 main_v15 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v7 main_v16 ((extractStridedSlice S8x2048x1024 ![0, 1, 0] · slices_S8x2051x1024_S8x2048x1024_0_1_0) : (⟨S8x2051x1024, .f32⟩ : BufTy).Contents (Elt F) → (⟨S8x2048x1024, .f32⟩ : BufTy).Contents (Elt F)),
    StableHlo.unary main_arg4 main_v17 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v17 main_v18 (rfl : (.f32 : EltTy) = .f32) shapeCasts_S1024x1_S1024,
    StableHlo.unary main_v18 main_v19 (broadcastInDim S1x1x1024 ![2] bcast_S1024_S1x1x1024_2 : (⟨S1024, .f32⟩ : BufTy).Contents (Elt F) → (⟨S1x1x1024, .f32⟩ : BufTy).Contents (Elt F)),
    StableHlo.unary main_v19 main_v20 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v16 main_v20 main_v21 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v15 main_v21 main_v22 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v7 main_v23 ((extractStridedSlice S8x2048x1024 ![0, 2, 0] · slices_S8x2051x1024_S8x2048x1024_0_2_0) : (⟨S8x2051x1024, .f32⟩ : BufTy).Contents (Elt F) → (⟨S8x2048x1024, .f32⟩ : BufTy).Contents (Elt F)),
    StableHlo.unary main_arg4 main_v24 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v24 main_v25 (rfl : (.f32 : EltTy) = .f32) shapeCasts_S1024x1_S1024,
    StableHlo.unary main_v25 main_v26 (broadcastInDim S1x1x1024 ![2] bcast_S1024_S1x1x1024_2 : (⟨S1024, .f32⟩ : BufTy).Contents (Elt F) → (⟨S1x1x1024, .f32⟩ : BufTy).Contents (Elt F)),
    StableHlo.unary main_v26 main_v27 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v23 main_v27 main_v28 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v22 main_v28 main_v29 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v7 main_v30 ((extractStridedSlice S8x2048x1024 ![0, 3, 0] · slices_S8x2051x1024_S8x2048x1024_0_3_0) : (⟨S8x2051x1024, .f32⟩ : BufTy).Contents (Elt F) → (⟨S8x2048x1024, .f32⟩ : BufTy).Contents (Elt F)),
    StableHlo.unary main_arg4 main_v31 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v31 main_v32 (rfl : (.f32 : EltTy) = .f32) shapeCasts_S1024x1_S1024,
    StableHlo.unary main_v32 main_v33 (broadcastInDim S1x1x1024 ![2] bcast_S1024_S1x1x1024_2 : (⟨S1024, .f32⟩ : BufTy).Contents (Elt F) → (⟨S1x1x1024, .f32⟩ : BufTy).Contents (Elt F)),
    StableHlo.unary main_v33 main_v34 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v30 main_v34 main_v35 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v29 main_v35 main_v36 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_arg5 main_v37 (broadcastInDim S1x1x1024 ![2] bcast_S1024_S1x1x1024_2 : (⟨S1024, .f32⟩ : BufTy).Contents (Elt F) → (⟨S1x1x1024, .f32⟩ : BufTy).Contents (Elt F)),
    StableHlo.unary main_v37 main_v38 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v38 main_v36 main_v39 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v39 main_v40 (Host.negf : (⟨S8x2048x1024, .f32⟩ : BufTy).Contents (Elt F) → (⟨S8x2048x1024, .f32⟩ : BufTy).Contents (Elt F)),
    StableHlo.unary main_v40 main_v41 (Host.exp : (⟨S8x2048x1024, .f32⟩ : BufTy).Contents (Elt F) → (⟨S8x2048x1024, .f32⟩ : BufTy).Contents (Elt F)),
    StableHlo.nullary main_cst_0 (constant S_ .f32 0x3F800000#32),
    StableHlo.unary main_cst_0 main_v42 (broadcastInDim S8x2048x1024 ![] bcast_S_S8x2048x1024 : (⟨S_, .f32⟩ : BufTy).Contents (Elt F) → (⟨S8x2048x1024, .f32⟩ : BufTy).Contents (Elt F)),
    StableHlo.binary main_v42 main_v41 main_v43 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_1 (constant S_ .f32 0x3F800000#32),
    StableHlo.unary main_cst_1 main_v44 (broadcastInDim S8x2048x1024 ![] bcast_S_S8x2048x1024 : (⟨S_, .f32⟩ : BufTy).Contents (Elt F) → (⟨S8x2048x1024, .f32⟩ : BufTy).Contents (Elt F)),
    StableHlo.binary main_v44 main_v43 main_v45 (Host.divf : (⟨S8x2048x1024, .f32⟩ : BufTy).Contents (Elt F) → (⟨S8x2048x1024, .f32⟩ : BufTy).Contents (Elt F) → (⟨S8x2048x1024, .f32⟩ : BufTy).Contents (Elt F)),
    StableHlo.binary main_v39 main_v45 main_v46 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v46 main_arg6 main_v47 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    StableHlo.unary main_v47 main_v48 ((extractStridedSlice S8x2048x32 ![0, 0, 0] · slices_S8x2048x64_S8x2048x32_0_0_0) : (⟨S8x2048x64, .f32⟩ : BufTy).Contents (Elt F) → (⟨S8x2048x32, .f32⟩ : BufTy).Contents (Elt F)),
    StableHlo.unary main_v47 main_v49 ((extractStridedSlice S8x2048x16 ![0, 0, 32] · slices_S8x2048x64_S8x2048x16_0_0_32) : (⟨S8x2048x64, .f32⟩ : BufTy).Contents (Elt F) → (⟨S8x2048x16, .f32⟩ : BufTy).Contents (Elt F)),
    StableHlo.unary main_v47 main_v50 ((extractStridedSlice S8x2048x16 ![0, 0, 48] · slices_S8x2048x64_S8x2048x16_0_0_48) : (⟨S8x2048x64, .f32⟩ : BufTy).Contents (Elt F) → (⟨S8x2048x16, .f32⟩ : BufTy).Contents (Elt F)),
    StableHlo.binary main_v48 main_arg7 main_v51 ((fun l r => Host.dotGeneral dot_S8x2048x32_S32x1024_S8x2048x1024_2_0_01_1_n_n none l r) : (⟨S8x2048x32, .f32⟩ : BufTy).Contents (Elt F) → (⟨S32x1024, .f32⟩ : BufTy).Contents (Elt F) → (⟨S8x2048x1024, .f32⟩ : BufTy).Contents (Elt F)),
    StableHlo.unary main_arg8 main_v52 (broadcastInDim S1x1x1024 ![2] bcast_S1024_S1x1x1024_2 : (⟨S1024, .f32⟩ : BufTy).Contents (Elt F) → (⟨S1x1x1024, .f32⟩ : BufTy).Contents (Elt F)),
    StableHlo.unary main_v52 main_v53 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v51 main_v53 main_v54 (addf : (⟨S8x2048x1024, .f32⟩ : BufTy).Contents (Elt F) → (⟨S8x2048x1024, .f32⟩ : BufTy).Contents (Elt F) → (⟨S8x2048x1024, .f32⟩ : BufTy).Contents (Elt F)) ]

/-- Each of these operations touches TensorCore references only. -/
theorem ops0_1_sub : (ops0_1 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- A stretch of operations. -/
abbrev ops1_0 : List (HloOp τ sig (Elt F)) :=
  [ StableHlo.unary main_arg9 main_v56 (Host.exp : (⟨S1024x16, .f32⟩ : BufTy).Contents (Elt F) → (⟨S1024x16, .f32⟩ : BufTy).Contents (Elt F)),
    StableHlo.unary main_v56 main_v57 (Host.negf : (⟨S1024x16, .f32⟩ : BufTy).Contents (Elt F) → (⟨S1024x16, .f32⟩ : BufTy).Contents (Elt F)),
    StableHlo.nullary main_cst_2 (constant S_ .f32 0x00000000#32),
    StableHlo.unary main_cst_2 main_v58 (broadcastInDim S8x1024x16 ![] bcast_S_S8x1024x16 : (⟨S_, .f32⟩ : BufTy).Contents (Elt F) → (⟨S8x1024x16, .f32⟩ : BufTy).Contents (Elt F)),
    StableHlo.unary main_v55 main_v59 ((transpose S2048x8x1024 [1, 0, 2] · transposes_S8x2048x1024_S2048x8x1024_1_0_2) : (⟨S8x2048x1024, .f32⟩ : BufTy).Contents (Elt F) → (⟨S2048x8x1024, .f32⟩ : BufTy).Contents (Elt F)),
    StableHlo.unary main_v49 main_v60 ((transpose S2048x8x16 [1, 0, 2] · transposes_S8x2048x16_S2048x8x16_1_0_2) : (⟨S8x2048x16, .f32⟩ : BufTy).Contents (Elt F) → (⟨S2048x8x16, .f32⟩ : BufTy).Contents (Elt F)),
    StableHlo.unary main_v50 main_v61 ((transpose S2048x8x16 [1, 0, 2] · transposes_S8x2048x16_S2048x8x16_1_0_2) : (⟨S8x2048x16, .f32⟩ : BufTy).Contents (Elt F) → (⟨S2048x8x16, .f32⟩ : BufTy).Contents (Elt F)),
    StableHlo.unary main_v46 main_v62 ((transpose S2048x8x1024 [1, 0, 2] · transposes_S8x2048x1024_S2048x8x1024_1_0_2) : (⟨S8x2048x1024, .f32⟩ : BufTy).Contents (Elt F) → (⟨S2048x8x1024, .f32⟩ : BufTy).Contents (Elt F)),
    StableHlo.nullary main_cst_3 (constant S_ .f32 0x00000000#32),
    StableHlo.unary main_cst_3 main_v63 (broadcastInDim S2048x8x1024 ![] bcast_S_S2048x8x1024 : (⟨S_, .f32⟩ : BufTy).Contents (Elt F) → (⟨S2048x8x1024, .f32⟩ : BufTy).Contents (Elt F)),
    StableHlo.nullary main_c_4 (constantI S_ 32 0#32),
    StableHlo.unary main_v59 main_v64_0 id,
    StableHlo.unary main_v60 main_v64_1 id,
    StableHlo.unary main_v61 main_v64_2 id,
    StableHlo.unary main_v62 main_v64_3 id,
    StableHlo.unary main_v57 main_v64_4 id,
    StableHlo.unary main_c_4 main_v64_5 id,
    StableHlo.unary main_v58 main_v64_6 id,
    StableHlo.unary main_v63 main_v64_7 id ]

/-- Each of these operations touches TensorCore references only. -/
theorem ops1_0_sub : (ops1_0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- A stretch of operations. -/
abbrev ops1_1 : List (HloOp τ sig (Elt F)) :=
  [ StableHlo.unary main_v64_7 main_v65 ((transpose S8x2048x1024 [1, 0, 2] · transposes_S2048x8x1024_S8x2048x1024_1_0_2) : (⟨S2048x8x1024, .f32⟩ : BufTy).Contents (Elt F) → (⟨S8x2048x1024, .f32⟩ : BufTy).Contents (Elt F)),
    StableHlo.unary main_arg10 main_v66 (broadcastInDim S1x1x1024 ![2] bcast_S1024_S1x1x1024_2 : (⟨S1024, .f32⟩ : BufTy).Contents (Elt F) → (⟨S1x1x1024, .f32⟩ : BufTy).Contents (Elt F)),
    StableHlo.unary main_v66 main_v67 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v67 main_v46 main_v68 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v65 main_v68 main_v69 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v6 main_v70 (Host.negf : (⟨S8x2048x1024, .f32⟩ : BufTy).Contents (Elt F) → (⟨S8x2048x1024, .f32⟩ : BufTy).Contents (Elt F)),
    StableHlo.unary main_v70 main_v71 (Host.exp : (⟨S8x2048x1024, .f32⟩ : BufTy).Contents (Elt F) → (⟨S8x2048x1024, .f32⟩ : BufTy).Contents (Elt F)),
    StableHlo.nullary main_cst_5 (constant S_ .f32 0x3F800000#32),
    StableHlo.unary main_cst_5 main_v72 (broadcastInDim S8x2048x1024 ![] bcast_S_S8x2048x1024 : (⟨S_, .f32⟩ : BufTy).Contents (Elt F) → (⟨S8x2048x1024, .f32⟩ : BufTy).Contents (Elt F)),
    StableHlo.binary main_v72 main_v71 main_v73 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_6 (constant S_ .f32 0x3F800000#32),
    StableHlo.unary main_cst_6 main_v74 (broadcastInDim S8x2048x1024 ![] bcast_S_S8x2048x1024 : (⟨S_, .f32⟩ : BufTy).Contents (Elt F) → (⟨S8x2048x1024, .f32⟩ : BufTy).Contents (Elt F)),
    StableHlo.binary main_v74 main_v73 main_v75 (Host.divf : (⟨S8x2048x1024, .f32⟩ : BufTy).Contents (Elt F) → (⟨S8x2048x1024, .f32⟩ : BufTy).Contents (Elt F) → (⟨S8x2048x1024, .f32⟩ : BufTy).Contents (Elt F)),
    StableHlo.binary main_v6 main_v75 main_v76 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v69 main_v76 main_v77 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_v77 main_arg11 main_v78 ((fun l r => Host.dotGeneral dot_S8x2048x1024_S1024x512_S8x2048x512_2_0_01_1_n_n none l r) : (⟨S8x2048x1024, .f32⟩ : BufTy).Contents (Elt F) → (⟨S1024x512, .f32⟩ : BufTy).Contents (Elt F) → (⟨S8x2048x512, .f32⟩ : BufTy).Contents (Elt F)),
    StableHlo.nullary main_cst_7 (constant S_ .f32 0x00000000#32),
    StableHlo.binary main_v78 main_cst_7 main_v79 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    StableHlo.unary main_v79 main_v80 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_8 (constant S_ .f32 0x44000000#32),
    StableHlo.unary main_cst_8 main_v81 (broadcastInDim S8x2048x1 ![] bcast_S_S8x2048x1 : (⟨S_, .f32⟩ : BufTy).Contents (Elt F) → (⟨S8x2048x1, .f32⟩ : BufTy).Contents (Elt F)),
    StableHlo.binary main_v80 main_v81 main_v82 (Host.divf : (⟨S8x2048x1, .f32⟩ : BufTy).Contents (Elt F) → (⟨S8x2048x1, .f32⟩ : BufTy).Contents (Elt F) → (⟨S8x2048x1, .f32⟩ : BufTy).Contents (Elt F)),
    StableHlo.nullary main_c_9 (constantI S_ 32 0#32) ]

/-- Each of these operations touches TensorCore references only. -/
theorem ops1_1_sub : (ops1_1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩

/-- A stretch of operations. -/
abbrev ops1_2 : List (HloOp τ sig (Elt F)) :=
  [ StableHlo.unary main_v82 main_v84 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    StableHlo.binary main_v78 main_v84 main_v85 (subf : (⟨S8x2048x512, .f32⟩ : BufTy).Contents (Elt F) → (⟨S8x2048x512, .f32⟩ : BufTy).Contents (Elt F) → (⟨S8x2048x512, .f32⟩ : BufTy).Contents (Elt F)),
    StableHlo.nullary main_cst_10 (constant S_ .f32 0x3727C5AC#32),
    StableHlo.unary main_cst_10 main_v86 (broadcastInDim S8x2048x1 ![] bcast_S_S8x2048x1 : (⟨S_, .f32⟩ : BufTy).Contents (Elt F) → (⟨S8x2048x1, .f32⟩ : BufTy).Contents (Elt F)),
    StableHlo.binary main_v83 main_v86 main_v87 (addf : (⟨S8x2048x1, .f32⟩ : BufTy).Contents (Elt F) → (⟨S8x2048x1, .f32⟩ : BufTy).Contents (Elt F) → (⟨S8x2048x1, .f32⟩ : BufTy).Contents (Elt F)),
    StableHlo.unary main_v87 main_v88 (Host.rsqrt : (⟨S8x2048x1, .f32⟩ : BufTy).Contents (Elt F) → (⟨S8x2048x1, .f32⟩ : BufTy).Contents (Elt F)),
    StableHlo.unary main_v88 main_v89 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    StableHlo.binary main_v85 main_v89 main_v90 (mulf : (⟨S8x2048x512, .f32⟩ : BufTy).Contents (Elt F) → (⟨S8x2048x512, .f32⟩ : BufTy).Contents (Elt F) → (⟨S8x2048x512, .f32⟩ : BufTy).Contents (Elt F)),
    StableHlo.unary main_arg12 main_v91 (broadcastInDim S1x1x512 ![2] bcast_S512_S1x1x512_2 : (⟨S512, .f32⟩ : BufTy).Contents (Elt F) → (⟨S1x1x512, .f32⟩ : BufTy).Contents (Elt F)),
    StableHlo.unary main_v91 main_v92 (broadcastInDim S8x2048x512 ![0, 1, 2] bcast_S1x1x512_S8x2048x512_0_1_2 : (⟨S1x1x512, .f32⟩ : BufTy).Contents (Elt F) → (⟨S8x2048x512, .f32⟩ : BufTy).Contents (Elt F)),
    StableHlo.binary main_v90 main_v92 main_v93 (mulf : (⟨S8x2048x512, .f32⟩ : BufTy).Contents (Elt F) → (⟨S8x2048x512, .f32⟩ : BufTy).Contents (Elt F) → (⟨S8x2048x512, .f32⟩ : BufTy).Contents (Elt F)),
    StableHlo.unary main_arg13 main_v94 (broadcastInDim S1x1x512 ![2] bcast_S512_S1x1x512_2 : (⟨S512, .f32⟩ : BufTy).Contents (Elt F) → (⟨S1x1x512, .f32⟩ : BufTy).Contents (Elt F)),
    StableHlo.unary main_v94 main_v95 (broadcastInDim S8x2048x512 ![0, 1, 2] bcast_S1x1x512_S8x2048x512_0_1_2 : (⟨S1x1x512, .f32⟩ : BufTy).Contents (Elt F) → (⟨S8x2048x512, .f32⟩ : BufTy).Contents (Elt F)),
    StableHlo.binary main_v93 main_v95 main_v96 (addf : (⟨S8x2048x512, .f32⟩ : BufTy).Contents (Elt F) → (⟨S8x2048x512, .f32⟩ : BufTy).Contents (Elt F) → (⟨S8x2048x512, .f32⟩ : BufTy).Contents (Elt F)),
    StableHlo.binary main_v96 main_arg14 main_v97 ((fun l r => Host.dotGeneral dot_S8x2048x512_S512x1024_S8x2048x1024_2_0_01_1_n_n none l r) : (⟨S8x2048x512, .f32⟩ : BufTy).Contents (Elt F) → (⟨S512x1024, .f32⟩ : BufTy).Contents (Elt F) → (⟨S8x2048x1024, .f32⟩ : BufTy).Contents (Elt F)),
    StableHlo.unary main_arg15 main_v98 (broadcastInDim S1x1x1024 ![2] bcast_S1024_S1x1x1024_2 : (⟨S1024, .f32⟩ : BufTy).Contents (Elt F) → (⟨S1x1x1024, .f32⟩ : BufTy).Contents (Elt F)) ]

/-- Each of these operations touches TensorCore references only. -/
theorem ops1_2_sub : (ops1_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub ..⟩

/-- A stretch of operations. -/
abbrev ops2_0 : List (HloOp τ sig (Elt F)) :=
  [ StableHlo.unary main_v98 main_v99 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v97 main_v99 main_v100 (addf : (⟨S8x2048x1024, .f32⟩ : BufTy).Contents (Elt F) → (⟨S8x2048x1024, .f32⟩ : BufTy).Contents (Elt F) → (⟨S8x2048x1024, .f32⟩ : BufTy).Contents (Elt F)) ]

/-- Each of these operations touches TensorCore references only. -/
theorem ops2_0_sub : (ops2_0 : List (HloOp τ sig (Elt F))).Forall fun op => op.bufs ⊆ StableHlo.tcRefs τ sig :=
  ⟨StableHlo.unary_bufs_sub .., StableHlo.binary_bufs_sub ..⟩

/-- A stretch of operations. -/
abbrev opsB0 : List (HloOp τ sig (Elt F)) :=
  [ StableHlo.unary main_while0b_v101 main_while0b_v105 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v64_4 main_while0b_v106 (broadcastInDim S1x1024x16 ![1, 2] bcast_S1024x16_S1x1024x16_1_2 : (⟨S1024x16, .f32⟩ : BufTy).Contents (Elt F) → (⟨S1x1024x16, .f32⟩ : BufTy).Contents (Elt F)),
    StableHlo.unary main_while0b_v105 main_while0b_v107 (broadcastInDim S8x1024x16 ![0, 1, 2] bcast_S8x1024x1_S8x1024x16_0_1_2 : (⟨S8x1024x1, .f32⟩ : BufTy).Contents (Elt F) → (⟨S8x1024x16, .f32⟩ : BufTy).Contents (Elt F)),
    StableHlo.unary main_while0b_v106 main_while0b_v108 (broadcastInDim S8x1024x16 ![0, 1, 2] bcast_S1x1024x16_S8x1024x16_0_1_2 : (⟨S1x1024x16, .f32⟩ : BufTy).Contents (Elt F) → (⟨S8x1024x16, .f32⟩ : BufTy).Contents (Elt F)),
    StableHlo.binary main_while0b_v107 main_while0b_v108 main_while0b_v109 (mulf : (⟨S8x1024x16, .f32⟩ : BufTy).Contents (Elt F) → (⟨S8x1024x16, .f32⟩ : BufTy).Contents (Elt F) → (⟨S8x1024x16, .f32⟩ : BufTy).Contents (Elt F)),
    StableHlo.unary main_while0b_v109 main_while0b_v110 (Host.exp : (⟨S8x1024x16, .f32⟩ : BufTy).Contents (Elt F) → (⟨S8x1024x16, .f32⟩ : BufTy).Contents (Elt F)),
    StableHlo.binary main_v64_6 main_while0b_v110 main_while0b_v111 (mulf : (⟨S8x1024x16, .f32⟩ : BufTy).Contents (Elt F) → (⟨S8x1024x16, .f32⟩ : BufTy).Contents (Elt F) → (⟨S8x1024x16, .f32⟩ : BufTy).Contents (Elt F)),
    StableHlo.binary main_while0b_v101 main_while0b_v104 main_while0b_v112 (mulf : (⟨S8x1024, .f32⟩ : BufTy).Contents (Elt F) → (⟨S8x1024, .f32⟩ : BufTy).Contents (Elt F) → (⟨S8x1024, .f32⟩ : BufTy).Contents (Elt F)),
    StableHlo.unary main_while0b_v112 main_while0b_v113 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_while0b_v102 main_while0b_v114 (broadcastInDim S8x1x16 ![0, 2] bcast_S8x16_S8x1x16_0_2 : (⟨S8x16, .f32⟩ : BufTy).Contents (Elt F) → (⟨S8x1x16, .f32⟩ : BufTy).Contents (Elt F)),
    StableHlo.unary main_while0b_v113 main_while0b_v115 (broadcastInDim S8x1024x16 ![0, 1, 2] bcast_S8x1024x1_S8x1024x16_0_1_2 : (⟨S8x1024x1, .f32⟩ : BufTy).Contents (Elt F) → (⟨S8x1024x16, .f32⟩ : BufTy).Contents (Elt F)),
    StableHlo.unary main_while0b_v114 main_while0b_v116 (broadcastInDim S8x1024x16 ![0, 1, 2] bcast_S8x1x16_S8x1024x16_0_1_2 : (⟨S8x1x16, .f32⟩ : BufTy).Contents (Elt F) → (⟨S8x1024x16, .f32⟩ : BufTy).Contents (Elt F)),
    StableHlo.binary main_while0b_v115 main_while0b_v116 main_while0b_v117 (mulf : (⟨S8x1024x16, .f32⟩ : BufTy).Contents (Elt F) → (⟨S8x1024x16, .f32⟩ : BufTy).Contents (Elt F) → (⟨S8x1024x16, .f32⟩ : BufTy).Contents (Elt F)),
    StableHlo.binary main_while0b_v111 main_while0b_v117 main_while0b_v118 (addf : (⟨S8x1024x16, .f32⟩ : BufTy).Contents (Elt F) → (⟨S8x1024x16, .f32⟩ : BufTy).Contents (Elt F) → (⟨S8x1024x16, .f32⟩ : BufTy).Contents (Elt F)),
    StableHlo.binary main_while0b_v118 main_while0b_v103 main_while0b_v119 ((fun l r => Host.dotGeneral dot_S8x1024x16_S8x16_S8x1024_2_1_1_n_0_0 none l r) : (⟨S8x1024x16, .f32⟩ : BufTy).Contents (Elt F) → (⟨S8x16, .f32⟩ : BufTy).Contents (Elt F) → (⟨S8x1024, .f32⟩ : BufTy).Contents (Elt F)) ]

/-- Each of these operations touches TensorCore references only. -/
theorem opsB0_sub : (opsB0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

/-- A stretch of operations. -/
abbrev opsB1 : List (HloOp τ sig (Elt F)) :=
  [ StableHlo.nullary main_while0b_c_18 (constantI S_ 32 1#32),
    StableHlo.binary main_v64_5 main_while0b_c_18 main_while0b_v121 (addi : (⟨S_, .i32⟩ : BufTy).Contents (Elt F) → (⟨S_, .i32⟩ : BufTy).Contents (Elt F) → (⟨S_, .i32⟩ : BufTy).Contents (Elt F)),
    StableHlo.unary main_while0b_v121 main_v64_5 id,
    StableHlo.unary main_while0b_v118 main_v64_6 id,
    StableHlo.unary main_while0b_v120 main_v64_7 id ]

/-- Each of these operations touches TensorCore references only. -/
theorem opsB1_sub : (opsB1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- The condition of the loop: the counter against 2048. -/
abbrev condOps : List (HloOp τ sig (Elt F)) :=
  [ StableHlo.nullary main_while0c_c_18 (constantI S_ 32 2048#32),
    StableHlo.binary main_v64_5 main_while0c_c_18 main_while0c_v101 (cmpi .slt : (⟨S_, .i32⟩ : BufTy).Contents (Elt F) → (⟨S_, .i32⟩ : BufTy).Contents (Elt F) → (⟨S_, .i1⟩ : BufTy).Contents (Elt F)) ]

/-- The stretches before the loop. -/
abbrev preI : List (List (HloOp τ sig (Elt F))) :=
  [ ops0_0, padOps (.of main_v5) (.of main_c) main_call0, ops0_1, softplusOps (.of main_v54) main_call1, ops1_0 ]
/-- The stretches of one trip of the loop. -/
abbrev bodyI : List (List (HloOp τ sig (Elt F))) :=
  [ rowOps (.of main_v64_0) (.of main_v64_5) main_while0b_call2, rowOps16 (.of main_v64_1) (.of main_v64_5) main_while0b_call3, rowOps16 (.of main_v64_2) (.of main_v64_5) main_while0b_call4, rowOps (.of main_v64_3) (.of main_v64_5) main_while0b_call5, opsB0, writeOps (.of main_v64_7) (.of main_while0b_v119) (.of main_v64_5) main_while0b_call6, opsB1 ]
/-- The stretches after the loop. -/
abbrev postI : List (List (HloOp τ sig (Elt F))) :=
  [ ops1_1, varOps (.of main_v78) (.of main_c_9) main_call7, whereOps main_call7.v13 main_call7.v12 main_call7.cst_4 main_call7.call0, ops1_2, ops2_0 ]

/-- They touch TensorCore references only and allocate nothing. -/
theorem preI_plain : StableHlo.Plain (preI (F := F)) :=
  .cons (ops0_0_sub ) (.cons (padOps_sub (.of main_v5) (.of main_c) main_call0) (.cons (ops0_1_sub ) (.cons (softplusOps_sub (.of main_v54) main_call1) (.cons (ops1_0_sub ) (.nil)))))

/-- They touch TensorCore references only and allocate nothing. -/
theorem bodyI_plain : StableHlo.Plain (bodyI (F := F)) :=
  .cons (rowOps_sub (.of main_v64_0) (.of main_v64_5) main_while0b_call2) (.cons (rowOps16_sub (.of main_v64_1) (.of main_v64_5) main_while0b_call3) (.cons (rowOps16_sub (.of main_v64_2) (.of main_v64_5) main_while0b_call4) (.cons (rowOps_sub (.of main_v64_3) (.of main_v64_5) main_while0b_call5) (.cons (opsB0_sub ) (.cons (writeOps_sub (.of main_v64_7) (.of main_while0b_v119) (.of main_v64_5) main_while0b_call6) (.cons (opsB1_sub ) (.nil)))))))

/-- They touch TensorCore references only and allocate nothing. -/
theorem postI_plain : StableHlo.Plain (postI (F := F)) :=
  .cons (ops1_1_sub ) (.cons (varOps_sub (.of main_v78) (.of main_c_9) main_call7) (.cons (whereOps_sub main_call7.v13 main_call7.v12 main_call7.cst_4 main_call7.call0) (.cons (ops1_2_sub ) (.cons (ops2_0_sub ) (.nil)))))

/-- A window of @main is its stretches in order. -/
theorem part0_chain (c : Dev nD) : main_part0 (F := F) c = (Pipeline.chain
  [ StableHlo.seq (ops0_0),
    StableHlo.seq (padOps (.of main_v5) (.of main_c) main_call0),
    StableHlo.seq (ops0_1),
    StableHlo.seq (softplusOps (.of main_v54) main_call1) ] : Prog (TpuEff nD τ sig (Elt F) (HostLoop.Sig (Pipeline.Sig Λ₀ (Fin 0) fun p => (pcfgs (F := F) p).Adm) 1) .tc) PUnit) := by
  unfold main_part0
  chain_rfl

/-- A window of @main is its stretches in order. -/
theorem part1_chain (c : Dev nD) : main_part1 (F := F) c = (Pipeline.chain
  [ StableHlo.seq (ops1_0),
    HostLoop.enter 0,
    StableHlo.seq (ops1_1),
    StableHlo.seq (varOps (.of main_v78) (.of main_c_9) main_call7),
    StableHlo.seq (whereOps main_call7.v13 main_call7.v12 main_call7.cst_4 main_call7.call0),
    StableHlo.seq (ops1_2) ] : Prog (TpuEff nD τ sig (Elt F) (HostLoop.Sig (Pipeline.Sig Λ₀ (Fin 0) fun p => (pcfgs (F := F) p).Adm) 1) .tc) PUnit) := by
  unfold main_part1
  chain_rfl

/-- A window of @main is its stretches in order. -/
theorem part2_chain (c : Dev nD) : main_part2 (F := F) c = (Pipeline.chain
  [ StableHlo.seq (ops2_0) ] : Prog (TpuEff nD τ sig (Elt F) (HostLoop.Sig (Pipeline.Sig Λ₀ (Fin 0) fun p => (pcfgs (F := F) p).Adm) 1) .tc) PUnit) := by
  unfold main_part2
  chain_rfl

/-- The loop's body is its stretches in order. -/
theorem body_chain : main_while0_body (F := F) = (Pipeline.chain
  ((bodyI (F := F)).map fun ops => StableHlo.seq ops) : Prog (TpuEff nD τ sig (Elt F) (HostLoop.Sig (Pipeline.Sig Λ₀ (Fin 0) fun p => (pcfgs (F := F) p).Adm) 1) .tc) PUnit) := by
  show _ = (Pipeline.chain
  [ StableHlo.seq (rowOps (.of main_v64_0) (.of main_v64_5) main_while0b_call2),
    StableHlo.seq (rowOps16 (.of main_v64_1) (.of main_v64_5) main_while0b_call3),
    StableHlo.seq (rowOps16 (.of main_v64_2) (.of main_v64_5) main_while0b_call4),
    StableHlo.seq (rowOps (.of main_v64_3) (.of main_v64_5) main_while0b_call5),
    StableHlo.seq (opsB0),
    StableHlo.seq (writeOps (.of main_v64_7) (.of main_while0b_v119) (.of main_v64_5) main_while0b_call6),
    StableHlo.seq (opsB1) ] : Prog (TpuEff nD τ sig (Elt F) (HostLoop.Sig (Pipeline.Sig Λ₀ (Fin 0) fun p => (pcfgs (F := F) p).Adm) 1) .tc) PUnit)
  unfold main_while0_body
  chain_rfl

/-- @main is the stretches before the loop, the loop, and the stretches after it. -/
theorem main_chain (c : Dev nD) : main (F := F) c = (Pipeline.chain
  ((preI.map fun ops => StableHlo.seq ops) ++ HostLoop.enter 0 :: postI.map fun ops => StableHlo.seq ops) : Prog (TpuEff nD τ sig (Elt F) (HostLoop.Sig (Pipeline.Sig Λ₀ (Fin 0) fun p => (pcfgs (F := F) p).Adm) 1) .tc) PUnit) := by
  show _ = (Pipeline.chain
  [ StableHlo.seq (ops0_0),
    StableHlo.seq (padOps (.of main_v5) (.of main_c) main_call0),
    StableHlo.seq (ops0_1),
    StableHlo.seq (softplusOps (.of main_v54) main_call1),
    StableHlo.seq (ops1_0),
    HostLoop.enter 0,
    StableHlo.seq (ops1_1),
    StableHlo.seq (varOps (.of main_v78) (.of main_c_9) main_call7),
    StableHlo.seq (whereOps main_call7.v13 main_call7.v12 main_call7.cst_4 main_call7.call0),
    StableHlo.seq (ops1_2),
    StableHlo.seq (ops2_0) ] : Prog (TpuEff nD τ sig (Elt F) (HostLoop.Sig (Pipeline.Sig Λ₀ (Fin 0) fun p => (pcfgs (F := F) p).Adm) 1) .tc) PUnit)
  unfold main
  rewrite [part0_chain, part1_chain, part2_chain]
  simp only [Pipeline.chain, Pipeline.chainK, bind_assoc, pure_bind, bind_pure_unit]

end Cert.ReferenceIdeal

end
-- ==== Proof.RefRun.lean ====
/- The run of the reference: its loop makes 2048 trips, every buffer ends at the fold of its operations, and the
   arguments end as they began. -/
module

public import proofs.«01_k».proof.Proof.RefOps
public import Idealize.ShloMosaic.Lib.StableHlo.RunRead
public import Idealize.ShloMosaic.Lib.StableHlo.RunClose
public import Idealize.ShloMosaic.Lib.Quiescent

@[expose] public section

set_option maxRecDepth 16384
set_option maxHeartbeats 4000000

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Facts₀ Cert.ReferenceIdeal.Facts
open Idealize.ShloMosaic.StableHlo

variable {F : FTy → Type} [FloatOps F] [∀ e, Nonempty (Elt F e)]

/-- The buffers written before the loop. -/
abbrev preW : List (Ref sig .tc) :=
  [main_v0, main_v1, main_v2, main_v3, main_v4, main_v5, main_v6, main_c,
    main_call0_v0, main_v7, main_v8, main_v9, main_v10, main_v11, main_v12, main_v13,
    main_cst, main_v14, main_v15, main_v16, main_v17, main_v18, main_v19, main_v20,
    main_v21, main_v22, main_v23, main_v24, main_v25, main_v26, main_v27, main_v28,
    main_v29, main_v30, main_v31, main_v32, main_v33, main_v34, main_v35, main_v36,
    main_v37, main_v38, main_v39, main_v40, main_v41, main_cst_0, main_v42, main_v43,
    main_cst_1, main_v44, main_v45, main_v46, main_v47, main_v48, main_v49, main_v50,
    main_v51, main_v52, main_v53, main_v54, main_call1_cst, main_call1_v0, main_call1_v1, main_call1_v2,
    main_call1_v3, main_call1_v4, main_call1_v5, main_call1_v6, main_call1_v7, main_call1_v8, main_call1_v9, main_call1_v10,
    main_call1_v11, main_v55, main_v56, main_v57, main_cst_2, main_v58, main_v59, main_v60,
    main_v61, main_v62, main_cst_3, main_v63, main_c_4, main_v64_0, main_v64_1, main_v64_2,
    main_v64_3, main_v64_4, main_v64_5, main_v64_6, main_v64_7]

/-- The buffers written in one trip. -/
abbrev bodyW : List (Ref sig .tc) :=
  [main_while0b_call2_c, main_while0b_call2_c_0, main_while0b_call2_v0, main_while0b_v101, main_while0b_call3_c, main_while0b_call3_c_0, main_while0b_call3_v0, main_while0b_v102,
    main_while0b_call4_c, main_while0b_call4_c_0, main_while0b_call4_v0, main_while0b_v103, main_while0b_call5_c, main_while0b_call5_c_0, main_while0b_call5_v0, main_while0b_v104,
    main_while0b_v105, main_while0b_v106, main_while0b_v107, main_while0b_v108, main_while0b_v109, main_while0b_v110, main_while0b_v111, main_while0b_v112,
    main_while0b_v113, main_while0b_v114, main_while0b_v115, main_while0b_v116, main_while0b_v117, main_while0b_v118, main_while0b_v119, main_while0b_call6_v0,
    main_while0b_call6_c, main_while0b_call6_c_0, main_while0b_v120, main_while0b_c_18, main_while0b_v121, main_v64_5, main_v64_6, main_v64_7]

/-- The buffers written after the loop. -/
abbrev postW : List (Ref sig .tc) :=
  [main_v65, main_v66, main_v67, main_v68, main_v69, main_v70, main_v71, main_cst_5,
    main_v72, main_v73, main_cst_6, main_v74, main_v75, main_v76, main_v77, main_v78,
    main_cst_7, main_v79, main_v80, main_cst_8, main_v81, main_v82, main_c_9, main_call7_cst,
    main_call7_v0, main_call7_v1, main_call7_cst_0, main_call7_v2, main_call7_v3, main_call7_v4, main_call7_v5, main_call7_v6,
    main_call7_v7, main_call7_cst_1, main_call7_v8, main_call7_cst_2, main_call7_v9, main_call7_v10, main_call7_v11, main_call7_v12,
    main_call7_cst_3, main_call7_v13, main_call7_cst_4, main_call7_call0_v0, main_call7_call0_v1, main_v83, main_v84, main_v85,
    main_cst_10, main_v86, main_v87, main_v88, main_v89, main_v90, main_v91, main_v92,
    main_v93, main_v94, main_v95, main_v96, main_v97, main_v98, main_v99, main_v100]

/-- A buffer that stretches do not write keeps its contents. -/
theorem afterL_keep {items : List (List (HloOp τ sig (Elt F)))} (W : List (Ref sig .tc)) {r : Ref sig .tc}
    (hW : items.flatten.map HloOp.writes = W.map fun w => {Proc.devRef (τ := τ) .tc w}) (hr : r ∉ W) (V : Valuation τ sig (Elt F)) :
    afterL items V (Proc.devRef .tc r) = V (Proc.devRef .tc r) := by
  rw [afterL_eq_after_flatten]; exact after_unwritten W hW hr V

omit [∀ e, Nonempty (Elt F e)] in
theorem pre_keep {r : Ref sig .tc} (hr : r ∉ preW) (V : Valuation τ sig (Elt F)) :
    afterL preI V (Proc.devRef .tc r) = V (Proc.devRef .tc r) := afterL_keep preW rfl hr V
omit [∀ e, Nonempty (Elt F e)] in
theorem body_keep {r : Ref sig .tc} (hr : r ∉ bodyW) (V : Valuation τ sig (Elt F)) :
    afterL bodyI V (Proc.devRef .tc r) = V (Proc.devRef .tc r) := afterL_keep bodyW rfl hr V
omit [∀ e, Nonempty (Elt F e)] in
theorem post_keep {r : Ref sig .tc} (hr : r ∉ postW) (V : Valuation τ sig (Elt F)) :
    afterL postI V (Proc.devRef .tc r) = V (Proc.devRef .tc r) := afterL_keep postW rfl hr V
omit [∀ e, Nonempty (Elt F e)] in
/-- The two buffers of the loop's condition. -/
theorem cond_keep {r : Ref sig .tc} (hr : r ∉ [main_while0c_c_18, main_while0c_v101]) (V : Valuation τ sig (Elt F)) :
    after condOps V (Proc.devRef .tc r) = V (Proc.devRef .tc r) := after_unwritten _ rfl hr V

omit [∀ e, Nonempty (Elt F e)] in
/-- What no trip writes is at trip `k` what it was at the loop's entry. -/
theorem atTrip_keep {r : Ref sig .tc} (hb : r ∉ bodyW) (hc : r ∉ [main_while0c_c_18, main_while0c_v101])
    (W₀ : Dev nD → Valuation τ sig (Elt F)) (c : Dev nD) : ∀ k, atTrip condOps bodyI W₀ k c (Proc.devRef .tc r) = W₀ c (Proc.devRef .tc r)
  | 0 => rfl
  | k + 1 => by rw [atTrip_succ, body_keep hb, cond_keep hc, atTrip_keep hb hc W₀ c k]

omit [∀ e, Nonempty (Elt F e)] in
/-- One trip adds one to the counter. -/
theorem body_ctr (V : Valuation τ sig (Elt F)) :
    afterL bodyI V (Proc.devRef .tc main_v64_5) = addi (V (Proc.devRef .tc main_v64_5)) (constantI S_ 32 1#32) := by
  simp only [bodyI, afterL_cons, afterL_nil]
  after_reads_simp
  rfl

omit [∀ e, Nonempty (Elt F e)] in
/-- The counter starts at zero. -/
theorem pre_ctr (V : Valuation τ sig (Elt F)) : afterL preI V (Proc.devRef .tc main_v64_5) = constantI S_ 32 0#32 := by
  simp only [preI, afterL_cons, afterL_nil]
  after_reads_simp
  rfl

omit [∀ e, Nonempty (Elt F e)] in
/-- Before trip `k` the counter is `k`. -/
theorem ctr (m : (ℓ : Loc nD τ sig) → Buf (Elt F) ℓ) (c : Dev nD) :
    ∀ k, atTrip condOps bodyI (entryContents preI m) k c (Proc.devRef .tc main_v64_5) = (fun _ => (BitVec.ofNat 32 k : BitVec 32))
  | 0 => pre_ctr _
  | k + 1 => by
    rw [atTrip_succ, body_ctr, cond_keep (by decide), ctr m c k]
    funext i
    show BitVec.ofNat 32 k + 1#32 = BitVec.ofNat 32 (k + 1)
    rw [BitVec.ofNat_add]

/-- The loop goes on exactly while the counter is below 2048. -/
theorem pred_iff (k : ℕ) (hk : k ≤ 2048) : Iff (IntOp.cmpi .slt (BitVec.ofNat 32 k) 2048#32 = 1#1) (k < 2048) := by
  have : (BitVec.ofNat 32 k).toInt = k := by
    rw [BitVec.toInt_eq_toNat_of_lt] <;> rw [BitVec.toNat_ofNat, Nat.mod_eq_of_lt (by omega)]
    omega
  unfold IntOp.cmpi
  by_cases h : k < 2048
  · simp [BitVec.slt, this, h]
  · simp [BitVec.slt, this, h]

set_option backward.isDefEq.respectTransparency.types false in
omit [∀ e, Nonempty (Elt F e)] in
/-- The loop's condition, run for the `k`-th time. -/
theorem cond_spec (m : (ℓ : Loc nD τ sig) → Buf (Elt F) ℓ) :
    CondSpec (pcfgs (F := F)) defs₀ loops main_while0_cond condOps bodyI (entryContents preI m) 2048 := by
  intro k hk c bd
  have hctr := ctr m c k
  generalize atTrip condOps bodyI (entryContents preI m) k c = V at hctr ⊢
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V (Proc.devRef .tc main_v64_5) HostLoop.idx0)
        (HloOp.result _ V (Proc.devRef .tc main_while0c_c_18) HostLoop.idx0) = 1#1) (k < 2048)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-- What every buffer of the program holds at the end. -/
abbrev final (m : (ℓ : Loc nD τ sig) → Buf (Elt F) ℓ) (c : Dev nD) : Valuation τ sig (Elt F) :=
  finalContents condOps preI bodyI postI 2048 m c

/-- The run: every tensor value of the program ends at `final`. -/
theorem run (m : (ℓ : Loc nD τ sig) → Buf (Elt F) ℓ) (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  run_loop pcfgs defs₀ loops main 0 main_while0_cond main_while0_body rfl preI bodyI postI condOps preI_plain bodyI_plain postI_plain
    main_chain body_chain 2048 m ρ (cond_spec m)

omit [∀ e, Nonempty (Elt F e)] in
/-- A buffer the program never writes ends as it began. -/
theorem final_keep {r : Ref sig .tc} (h1 : r ∉ preW) (h2 : r ∉ bodyW) (h3 : r ∉ postW) (h4 : r ∉ [main_while0c_c_18, main_while0c_v101])
    (m : (ℓ : Loc nD τ sig) → Buf (Elt F) ℓ) (c : Dev nD) : final m c (Proc.devRef .tc r) = m ((c.tc : Thread nD τ).loc r) := by
  unfold final finalContents
  rw [post_keep h3, cond_keep h4, atTrip_keep h2 h4, entryContents, pre_keep h1]

/-- The sixteen arguments end as they began, and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨(h c main_arg0 rfl).trans (final_keep (by decide) (by decide) (by decide) (by decide) m c),
      (h c main_arg1 rfl).trans (final_keep (by decide) (by decide) (by decide) (by decide) m c),
      (h c main_arg2 rfl).trans (final_keep (by decide) (by decide) (by decide) (by decide) m c),
      (h c main_arg3 rfl).trans (final_keep (by decide) (by decide) (by decide) (by decide) m c),
      (h c main_arg4 rfl).trans (final_keep (by decide) (by decide) (by decide) (by decide) m c),
      (h c main_arg5 rfl).trans (final_keep (by decide) (by decide) (by decide) (by decide) m c),
      (h c main_arg6 rfl).trans (final_keep (by decide) (by decide) (by decide) (by decide) m c),
      (h c main_arg7 rfl).trans (final_keep (by decide) (by decide) (by decide) (by decide) m c),
      (h c main_arg8 rfl).trans (final_keep (by decide) (by decide) (by decide) (by decide) m c),
      (h c main_arg9 rfl).trans (final_keep (by decide) (by decide) (by decide) (by decide) m c),
      (h c main_arg10 rfl).trans (final_keep (by decide) (by decide) (by decide) (by decide) m c),
      (h c main_arg11 rfl).trans (final_keep (by decide) (by decide) (by decide) (by decide) m c),
      (h c main_arg12 rfl).trans (final_keep (by decide) (by decide) (by decide) (by decide) m c),
      (h c main_arg13 rfl).trans (final_keep (by decide) (by decide) (by decide) (by decide) m c),
      (h c main_arg14 rfl).trans (final_keep (by decide) (by decide) (by decide) (by decide) m c),
      (h c main_arg15 rfl).trans (final_keep (by decide) (by decide) (by decide) (by decide) m c)⟩,
    Idealize.ShloMosaic.sem_eq_zero_of_no_sems (by decide) r.2⟩) (run m ρ)

end Cert.ReferenceIdeal

end
-- ==== Proof.Claims.lean ====
/- The three frames and the rewrite of the constant. -/
module

public import proofs.«01_k».proof.Defs
public import proofs.«01_k».proof.Proof.BitsFrame
public import proofs.«01_k».proof.Proof.IdealFrame
public import proofs.«01_k».proof.Proof.RefRun

@[expose] public section

noncomputable section

namespace Cert.Proof

open Idealize.ShloMosaic Idealize.SL.Sem

/-- The kernel leaves its arguments as they were. -/
theorem frame_p : Cert.quiescent_Kernel (hKernel := Cert.Kernel.Gen.facts) := fun m g _ => Cert.Kernel.frame m g

/-- So does the kernel over the extended reals, -/
theorem frame_pi : Cert.quiescent_KernelIdeal (hKernelIdeal := Cert.KernelIdeal.Gen.facts) := fun m g _ => Cert.KernelIdeal.frame m g

/-- and so does the reference. -/
theorem frame_ri : Cert.quiescent_ReferenceIdeal (hReferenceIdeal := Cert.ReferenceIdeal.Gen.facts) := fun m g _ => Cert.ReferenceIdeal.frame m g

/-- The constant's name stands for the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

end Cert.Proof

end
-- ==== Proof.TripVal.lean ====
/- One trip of the loop: sixteen steps of the recurrence in each of the eight sequences.  What a trip stores is
   restated over one step function, and the list of its stores over one recursion. -/
module

public import proofs.«01_k».proof.Proof.Points
public import Idealize.ShloMosaic.Lib.WritesUnit
public import Idealize.ShloMosaic.Lib.WholeRead
public import Idealize.ShloMosaic.Lib.Pointwise

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

theorem slj : ∀ j : Fin 16, S16x1024.Slices ![j.val, 0] S1x1024 := by decide
theorem slb : ∀ g : Fin 8, S16x1024.Slices ![0, 128 * g.val] S16x128 := by decide
theorem sly : ∀ g : Fin 8, S128x1024.Slices ![16 * g.val, 0] S16x1024 := by decide
theorem inb30 : ∀ g : Fin 8, ∀ a, (![16 * g.val, 0] : Fin 2 → ℕ) a + S16x1024.size a ≤ S128x1024.size a := by decide
theorem inb29 (m : Fin 128) : ∀ a, (![16 * m.val, 0] : Fin 2 → ℕ) a + S16x1024.size a ≤ S2048x1024.size a := by
  intro a
  match a with
  | ⟨0, _⟩ => show 16 * m.val + 16 ≤ 2048; omega
  | ⟨1, _⟩ => show 0 + 1024 ≤ 1024; omega

/-- The word the loop counts with at trip `k`. -/
def ivK (k : Fin k0_t1_loop.trips) : BitVec 32 := Scf.iv 0#32 1#32 k

/-- Column `16 k + j` of a sequence's input projection, picked out of the 128 columns by a masked sum. -/
def bcolK (bt : FVec F S16x128 .f32) (k : Fin k0_t1_loop.trips) (j : Fin 16) : FVec F S16x1 .f32 :=
  shapeCast S16x1 (multiReduction .add [1] S16
    (select (cmpi .eq (iota .tc S16x128 32 [1] iota_S16x128_d1_w32)
      (broadcast S16x128 (Scalar.addi (Scalar.muli (ivK k) 16#32) (BitVec.ofNat 32 j.val)))) bt
      (broadcast S16x128 (Scalar.ofBits .f32 0x00000000#32)))
    0x00000000#32 reduces_S16x128_S16 (.inl rfl) rfl) shapeCasts_S16_S16x1

/-- One step of the recurrence for one sequence. -/
def stepK (an : FVec F S16x1024 .f32) (bt : FVec F S16x128 .f32) (dt u : FVec F S16x1024 .f32)
    (k : Fin k0_t1_loop.trips) (j : Fin 16) (h : FVec F S16x1024 .f32) : FVec F S16x1024 .f32 :=
  addf (mulf h (exp2 (mulf (broadcastTo S16x1024 (extractStridedSlice S1x1024 ![j.val, 0] dt (slj j))
      broadcasts_S1x1024_S16x1024) an)))
    (mulf (broadcastTo S16x1024 (extractStridedSlice S1x1024 ![j.val, 0] u (slj j)) broadcasts_S1x1024_S16x1024)
      (broadcastTo S16x1024 (bcolK bt k j) broadcasts_S16x1_S16x1024))

/-- The state after `n` steps of a trip. -/
def hK (an : FVec F S16x1024 .f32) (bt : FVec F S16x128 .f32) (dt u : FVec F S16x1024 .f32)
    (k : Fin k0_t1_loop.trips) (h : FVec F S16x1024 .f32) : ℕ → FVec F S16x1024 .f32
  | 0 => h
  | n + 1 => stepK an bt dt u k ⟨n % 16, Nat.mod_lt _ (by decide)⟩ (hK an bt dt u k h n)

/-- The input projection of sequence `g`. -/
def btK (v392 : FVec F S1024x1024 .bf16) (v421 : Vec F S16x1024 .bf16) (g : Fin 8) : FVec F S16x128 .f32 :=
  extractStridedSlice S16x128 ![0, 128 * g.val] (k0_pay418 v392 v421) (slb g)

section
variable (arg14 : Memref sig .tc .vmem S16x1024 .f32) (arg25 arg26 : Memref sig .tc .vmem S1024x1024 .f32) (arg30 : Memref sig .tc .vmem S128x1024 .f32) (v392 : FVec F S1024x1024 .bf16) (v421 : Vec F S16x1024 .bf16) (X_arg14 : BufTy.Contents (Elt F) arg14.view.ty) (X_arg25 : BufTy.Contents (Elt F) arg25.view.ty) (X_arg26 : BufTy.Contents (Elt F) arg26.view.ty) (k : Fin k0_t1_loop.trips) (f_arg30 : BufTy.Contents (Elt F) arg30.view.ty)

/-- Sequence `g`'s state after `n` steps of trip `k`, over what the buffers hold. -/
def hT (g : Fin 8) (n : ℕ) : FVec F S16x1024 .f32 :=
  hK (k0_pay9 (View.readAt (Elt F) arg14.view (Rect.unit (s := S16x1024) ![0, 0] S16x1024.size inb_S16x1024_S16x1024_0_0).toLoadRect X_arg14))
    (btK v392 v421 g)
    (View.readAt (Elt F) arg25.view (Rect.unit (s := S1024x1024) (k0_off1 k (BitVec.ofNat 32 (128 * g.val))) S16x1024.size (k0_off1_inb k g)).toLoadRect X_arg25)
    (View.readAt (Elt F) arg26.view (Rect.unit (s := S1024x1024) (k0_off1 k (BitVec.ofNat 32 (128 * g.val))) S16x1024.size (k0_off1_inb k g)).toLoadRect X_arg26)
    k
    (View.readAt (Elt F) arg30.view (Rect.unit (s := S128x1024) ![16 * g.val, 0] S16x1024.size (inb30 g)).toLoadRect f_arg30) n

/-- The stores into the stack of states, the first `m` of them, last first. -/
def pcs29 : ℕ → List (View.Piece (Elt F) S2048x1024 .bf16)
  | 0 => []
  | m + 1 => ⟨Rect.unit (s := S2048x1024) ![16 * (m % 128), 0] S16x1024.size (inb29 ⟨m % 128, Nat.mod_lt _ (by decide)⟩),
      shapeCast S16x1024 (truncf .bf16 (hT arg14 arg25 arg26 arg30 v392 v421 X_arg14 X_arg25 X_arg26 k f_arg30 ⟨m / 16 % 8, Nat.mod_lt _ (by decide)⟩ (m % 16 + 1)) bitsLt_bf16_f32) shapeCasts_S16x1024_S16x1024⟩ :: pcs29 m

/-- The stores into the carried state, the first `g` of them, last first. -/
def pcs30 : ℕ → List (View.Piece (Elt F) S128x1024 .f32)
  | 0 => []
  | g + 1 => ⟨Rect.unit (s := S128x1024) ![16 * (g % 8), 0] S16x1024.size (inb30 ⟨g % 8, Nat.mod_lt _ (by decide)⟩),
      shapeCast S16x1024 (hT arg14 arg25 arg26 arg30 v392 v421 X_arg14 X_arg25 X_arg26 k f_arg30 ⟨g % 8, Nat.mod_lt _ (by decide)⟩ 16) shapeCasts_S16x1024_S16x1024⟩ :: pcs30 g

/-- The trip's stores into the stack of states. -/
theorem HW_eq : trip_k0_t1.sl.HW_arg29_128 arg14 arg25 arg26 arg30 v392 v421 X_arg14 X_arg25 X_arg26 k f_arg30 = pcs29 arg14 arg25 arg26 arg30 v392 v421 X_arg14 X_arg25 X_arg26 k f_arg30 128 := by
  rfl
end

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)
variable (v391 : Vec F S1024x1024 .f32) (v392 : FVec F S1024x1024 .bf16) (v413 : FVec F S1024x1024 .f32) (v414 : Vec F S1024x1024 .f32) (v421 : Vec F S16x1024 .bf16) (X_arg14 : BufTy.Contents (Elt F) arg14.view.ty) (X_arg25 : BufTy.Contents (Elt F) arg25.view.ty) (X_arg26 : BufTy.Contents (Elt F) arg26.view.ty) (X_arg27 : BufTy.Contents (Elt F) arg27.view.ty) (k : Fin k0_t1_loop.trips) (f_arg28 : BufTy.Contents (Elt F) arg28.view.ty) (f_arg29 : BufTy.Contents (Elt F) arg29.view.ty) (f_arg30 : BufTy.Contents (Elt F) arg30.view.ty)

/-- The trip's stores into the carried state. -/
theorem trip30 : (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 k).2.2.1 f_arg28 f_arg29 f_arg30 = pcs30 arg14 arg25 arg26 arg30 v392 v421 X_arg14 X_arg25 X_arg26 k f_arg30 8 := by
  unfold trip_k0_t1
  rfl

end Cert.KernelIdeal

end
-- ==== Proof.TripIdeal.lean ====
/- The operations of one trip, read at an index over the extended reals: the picked column, one step, the
   block-diagonal product. -/
module

public import proofs.«01_k».proof.Proof.TripVal
public import Idealize.ShloMosaic.Lib.Pipeline.Value

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

theorem trips8 : k0_t1_loop.trips = 8 := by decide

theorem bmask : ∀ (k : Fin k0_t1_loop.trips) (j : Fin 16) (x : Fin 128),
    IntOp.cmpi .eq (BitVec.ofNat 32 x.val) (Scalar.addi (Scalar.muli (ivK k) 16#32) (BitVec.ofNat 32 j.val))
      = if x.val = 16 * k.val + j.val then 1#1 else 0#1 := by decide +kernel

theorem kj_lt (k : Fin k0_t1_loop.trips) (j : Fin 16) : 16 * k.val + j.val < 128 := by
  have := k.isLt; have h := trips8; omega

theorem select_one {α : Type} (a b : α) : Scalar.select (1#1) a b = a := rfl
theorem select_zero {α : Type} (a b : α) : Scalar.select (0#1) a b = b := rfl

/-- The masked sum picks the column. -/
theorem bcolK_apply (bt : FVec Ideal S16x128 .f32) (k : Fin k0_t1_loop.trips) (j : Fin 16) (n : Fin 16) :
    bcolK (F := Ideal) bt k j (ix2 n 0) = bt (ix2 n ⟨16 * k.val + j.val, kj_lt k j⟩) := by
  pointwise [bcolK]
  rw [Finset.sum_eq_single (⟨16 * k.val + j.val, kj_lt k j⟩ : Fin 128)]
  · rw [bmask, if_pos rfl, select_one]
  · intro x _ hx
    rw [bmask, if_neg (fun h => hx (Fin.ext h)), select_zero]
  · intro h; exact absurd (Finset.mem_univ _) h

theorem stepK_apply (an : FVec Ideal S16x1024 .f32) (bt : FVec Ideal S16x128 .f32) (dt u h : FVec Ideal S16x1024 .f32)
    (k : Fin k0_t1_loop.trips) (j : Fin 16) (n : Fin 16) (d : Fin 1024) :
    stepK (F := Ideal) an bt dt u k j h (ix2 n d)
      = h (ix2 n d) * FloatOps.exp2 (F := Ideal) (φ := .f32) (dt (ix2 j d) * an (ix2 n d))
        + u (ix2 j d) * bt (ix2 n ⟨16 * k.val + j.val, kj_lt k j⟩) := by
  rw [← bcolK_apply bt]
  pointwise [stepK]

theorem btK_apply (v392 : FVec Ideal S1024x1024 .bf16) (v421 : Vec Ideal S16x1024 .bf16) (g : Fin 8) (n : Fin 16) (x : Fin 128) :
    btK (F := Ideal) v392 v421 g (ix2 n x) = k0_pay418 (F := Ideal) v392 v421 (ix2 n ⟨128 * g.val + x.val, by omega⟩) := by
  pointwise [btK]

theorem cmask : ∀ (r : Fin 16) (q : Fin 256),
    IntOp.cmpi .eq (IntOp.shrsi .vector (BitVec.ofNat 32 q.val) 4#32) (BitVec.ofNat 32 r.val)
      = if q.val / 16 = r.val then 1#1 else 0#1 := by decide +kernel

theorem cmask_apply (r : Fin 16) (q : Fin 256) : k0_pay10 (ix2 r q) = if q.val / 16 = r.val then 1#1 else 0#1 := by
  rw [← cmask]
  pointwise [k0_pay10]

/-- The block-diagonal spread of a sequence's sixteen rows. -/
theorem cb_apply (c8 : Vec Ideal S16x16 .f32) (r : Fin 16) (q : Fin 256) :
    k0_pay11 (F := Ideal) c8 k0_pay10 (ix2 r q)
      = if q.val / 16 = r.val then c8 (ix2 r ⟨q.val % 16, Nat.mod_lt _ (by decide)⟩) else 0 := by
  have hc : ∀ h, concatenate S16x256 (1 : Fin 2) (List.replicate 16 (⟨S16x16, c8⟩ : (s : Shape) × (s.Idx → _))) h (ix2 r q)
      = c8 (ix2 r ⟨q.val % 16, Nat.mod_lt _ (by decide)⟩) := fun h =>
    concatenate_replicate_apply (t := S16x256) (s₁ := S16x16) (1 : Fin 2) 16 c8 h rfl (ix2 r q) _ rfl (fun b hb => by
      match b with
      | ⟨0, _⟩ => rfl
      | ⟨1, _⟩ => exact absurd rfl hb)
  show Scalar.select (k0_pay10 (ix2 r q)) (concatenate S16x256 (1 : Fin 2) (List.replicate 16 ⟨S16x16, c8⟩) _ (ix2 r q)) (Ideal.ofBits .f32 0x00000000#32) = _
  rw [hc, cmask_apply, Ideal.ofBits_zero_f32]
  split
  · rw [select_one]
  · rw [select_zero]

theorem lmask : ∀ q : Fin 2048, IntOp.shrsi .vector (BitVec.ofNat 32 q.val) 8#32 = BitVec.ofNat 32 (q.val / 256) := by decide +kernel
theorem rmask : ∀ r : Fin 128, IntOp.shrsi .vector (BitVec.ofNat 32 r.val) 4#32 = BitVec.ofNat 32 (r.val / 16) := by decide +kernel
theorem emask : ∀ a b : Fin 8, IntOp.cmpi .eq (BitVec.ofNat 32 a.val) (BitVec.ofNat 32 b.val)
    = if a.val = b.val then 1#1 else 0#1 := by decide +kernel

theorem dmask_apply (r : Fin 128) (q : Fin 2048) :
    cmpi CmpIPredicate.eq (shrsi (iota Kind.tc S128x2048 32 [1] iota_S128x2048_d1_w32) (broadcast S128x2048 8#32))
          (shrsi (iota Kind.tc S128x2048 32 [0] iota_S128x2048_d0_w32) (broadcast S128x2048 4#32)) (ix2 r q)
      = if q.val / 256 = r.val / 16 then 1#1 else 0#1 := by
  rw [← emask ⟨q.val / 256, by omega⟩ ⟨r.val / 16, by omega⟩, ← lmask, ← rmask]
  pointwise []

/-- The eight sequences' spreads side by side, repeated for the eight sequences, off-diagonal blocks zeroed. -/
def cbdK (f : Fin 8 → FVec Ideal S16x256 .f32) : FVec Ideal S128x2048 .bf16 :=
  fun j => if (j 1).val / 256 = (j 0).val / 16 then
    f ⟨(j 1).val / 256, by have := (j 1).isLt; show _ < 8; change (j 1).val < 2048 at this; omega⟩
      (ix2 ⟨(j 0).val % 16, Nat.mod_lt _ (by decide)⟩ ⟨(j 1).val % 256, Nat.mod_lt _ (by decide)⟩) else 0

theorem pay360_eq (f : Fin 8 → FVec Ideal S16x256 .f32) (s : Vec Ideal S2048x1024 .bf16) :
    k0_pay360 (F := Ideal) (f 0) (f 1) (f 2) (f 3) (f 4) (f 5) (f 6) (f 7) s
      = matmul (φ₁ := .bf16) (φ₂ := .bf16) dot_S128x2048_S2048x1024_S128x1024_1_0_0_1_n_n none (cbdK f) (s : FVec Ideal S2048x1024 .bf16) (constant S128x1024 .f32 0x00000000#32) := by
  unfold k0_pay360
  refine congrArg (fun c : FVec Ideal S128x2048 .bf16 => matmul (φ₁ := .bf16) (φ₂ := .bf16) dot_S128x2048_S2048x1024_S128x1024_1_0_0_1_n_n none c (s : FVec Ideal S2048x1024 .bf16) (constant S128x1024 .f32 0x00000000#32)) ?_
  funext j
  obtain ⟨r, q, rfl⟩ : ∃ (r : Fin 128) (q : Fin 2048), j = ix2 r q := ⟨j 0, j 1, eq_ix2 j⟩
  have h1 : ∀ (X : S16x2048.Idx → Elt Ideal .f32) h, concatenate S128x2048 (0 : Fin 2) (List.replicate 8 (⟨S16x2048, X⟩ : (s : Shape) × (s.Idx → _))) h (ix2 r q)
      = X (ix2 ⟨r.val % 16, Nat.mod_lt _ (by decide)⟩ q) := fun X h =>
    concatenate_replicate_apply (t := S128x2048) (s₁ := S16x2048) (0 : Fin 2) 8 X h rfl (ix2 r q) (ix2 ⟨r.val % 16, Nat.mod_lt _ (by decide)⟩ q) rfl (fun b hb => by
      match b with
      | ⟨1, _⟩ => rfl
      | ⟨0, _⟩ => exact absurd rfl hb)
  have h2 : ∀ h' (a : Fin 16), concatenate S16x2048 (1 : Fin 2) (List.ofFn fun n : Fin 8 => (⟨S16x256, f n⟩ : (s : Shape) × (s.Idx → _))) h' (ix2 a q)
      = f ⟨q.val / 256, by omega⟩ (ix2 a ⟨q.val % 256, Nat.mod_lt _ (by decide)⟩) := fun h' a =>
    concatenate_ofFn_apply (t := S16x2048) (s₁ := S16x256) (1 : Fin 2) f h' rfl 256 rfl (ix2 a q) ⟨q.val / 256, by omega⟩ rfl _ rfl (fun b hb => by
      match b with
      | ⟨0, _⟩ => rfl
      | ⟨1, _⟩ => exact absurd rfl hb)
  refine (congrArg₂ (fun m c => Scalar.select m c (Ideal.ofBits .f32 0x00000000#32)) (dmask_apply r q)
    ((h1 (concatenate S16x2048 (1 : Fin 2) (List.ofFn fun n : Fin 8 => ⟨S16x256, f n⟩) concatenates_S16x256_S16x256_S16x256_S16x256_S16x256_S16x256_S16x256_S16x256_S16x2048_d1) concatenates_S16x2048_S16x2048_S16x2048_S16x2048_S16x2048_S16x2048_S16x2048_S16x2048_S128x2048_d0).trans (h2 _ _))).trans ?_
  rw [Ideal.ofBits_zero_f32]
  show _ = if q.val / 256 = r.val / 16 then f ⟨q.val / 256, by omega⟩ (ix2 ⟨r.val % 16, Nat.mod_lt _ (by decide)⟩ ⟨q.val % 256, Nat.mod_lt _ (by decide)⟩) else 0
  split
  · rw [select_one]
  · rw [select_zero]

/-- The block-diagonal product: row `r` sums over its own sequence's sixteen states at its own step. -/
theorem y32_apply (c : Fin 8 → Vec Ideal S16x16 .f32) (s : Vec Ideal S2048x1024 .bf16) (r : Fin 128) (d : Fin 1024) :
    k0_pay360 (F := Ideal) (k0_pay11 (c 0) k0_pay10) (k0_pay11 (c 1) k0_pay10) (k0_pay11 (c 2) k0_pay10) (k0_pay11 (c 3) k0_pay10)
      (k0_pay11 (c 4) k0_pay10) (k0_pay11 (c 5) k0_pay10) (k0_pay11 (c 6) k0_pay10) (k0_pay11 (c 7) k0_pay10) s (ix2 r d)
      = ∑ n : Fin 16, c ⟨r.val / 16, by omega⟩ (ix2 ⟨r.val % 16, Nat.mod_lt _ (by decide)⟩ n) * s (ix2 ⟨16 * r.val + n.val, by omega⟩ d) := by
  rw [pay360_eq (fun g => k0_pay11 (c g) k0_pay10)]
  pointwise []
  have e : ∀ q : Fin 2048, cbdK (fun g => k0_pay11 (c g) k0_pay10) (ix2 r q) * s (ix2 q d)
      = if q.val / 16 = r.val then c ⟨r.val / 16, by omega⟩ (ix2 ⟨r.val % 16, Nat.mod_lt _ (by decide)⟩ ⟨q.val % 16, Nat.mod_lt _ (by decide)⟩) * s (ix2 q d) else 0 := by
    intro q
    show (if q.val / 256 = r.val / 16 then k0_pay11 (c ⟨q.val / 256, by omega⟩) k0_pay10 (ix2 ⟨r.val % 16, Nat.mod_lt _ (by decide)⟩ ⟨q.val % 256, Nat.mod_lt _ (by decide)⟩) else 0) * s (ix2 q d) = _
    rw [cb_apply]
    by_cases h : q.val / 16 = r.val
    · have h1 : q.val / 256 = r.val / 16 := by omega
      have h2 : q.val % 256 / 16 = r.val % 16 := by omega
      have h3 : q.val % 256 % 16 = q.val % 16 := by omega
      rw [if_pos h1, if_pos h2, if_pos h]
      simp only [h1, h3]
    · rw [if_neg h]
      by_cases h1 : q.val / 256 = r.val / 16
      · have h2 : ¬ q.val % 256 / 16 = r.val % 16 := by omega
        rw [if_pos h1, if_neg h2, zero_mul]
      · rw [if_neg h1, zero_mul]
  rw [Finset.sum_congr rfl fun q _ => e q]
  rw [← Equiv.sum_comp (finProdFinEquiv (m := 128) (n := 16)), Fintype.sum_prod_type, Finset.sum_eq_single r]
  · refine Finset.sum_congr rfl fun n _ => ?_
    have hv : (finProdFinEquiv (m := 128) (n := 16) (r, n)).val = n.val + 16 * r.val := rfl
    have h1 : (finProdFinEquiv (m := 128) (n := 16) (r, n)).val / 16 = r.val := by omega
    have h2 : (finProdFinEquiv (m := 128) (n := 16) (r, n)).val % 16 = n.val := by omega
    have h3 : (finProdFinEquiv (m := 128) (n := 16) (r, n)) = (⟨16 * r.val + n.val, by omega⟩ : Fin 2048) := Fin.ext (by rw [hv]; exact Nat.add_comm _ _)
    have h4 : (⟨(finProdFinEquiv (m := 128) (n := 16) (r, n)).val % 16, Nat.mod_lt _ (by decide)⟩ : Fin 16) = n := Fin.ext h2
    rw [if_pos h1, h4, h3]
  · intro a _ ha
    refine Finset.sum_eq_zero fun n _ => if_neg ?_
    have hv : (finProdFinEquiv (m := 128) (n := 16) (a, n)).val = n.val + 16 * a.val := rfl
    intro h
    exact ha (Fin.ext (by omega))
  · intro h; exact absurd (Finset.mem_univ _) h

end Cert.KernelIdeal

end
-- ==== Proof.TripOut.lean ====
/- One trip's stores into the output rows, and what the three written buffers read as after a trip. -/
module

public import proofs.«01_k».proof.Proof.TripIdeal

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

/-- Sequence `g`'s sixteen rows of the output projection at trip `k`. -/
def cblkK (arg27 : Memref sig .tc .vmem S1024x16 .f32) (X_arg27 : BufTy.Contents (Elt F) arg27.view.ty) (k : Fin k0_t1_loop.trips) (g : Fin 8) : Vec F S16x16 .f32 :=
  View.readAt (Elt F) arg27.view (Rect.unit (s := S1024x16) (k0_off2 k (BitVec.ofNat 32 (128 * g.val))) S16x16.size (k0_off2_inb k g)).toLoadRect X_arg27

section
variable (arg14 : Memref sig .tc .vmem S16x1024 .f32) (arg25 arg26 : Memref sig .tc .vmem S1024x1024 .f32) (arg27 : Memref sig .tc .vmem S1024x16 .f32) (arg29 : Memref sig .tc .vmem S2048x1024 .bf16) (arg30 : Memref sig .tc .vmem S128x1024 .f32) (v392 : FVec F S1024x1024 .bf16) (v421 : Vec F S16x1024 .bf16) (X_arg14 : BufTy.Contents (Elt F) arg14.view.ty) (X_arg25 : BufTy.Contents (Elt F) arg25.view.ty) (X_arg26 : BufTy.Contents (Elt F) arg26.view.ty) (X_arg27 : BufTy.Contents (Elt F) arg27.view.ty) (k : Fin k0_t1_loop.trips) (f_arg30 : BufTy.Contents (Elt F) arg30.view.ty)

/-- The trip's block of output rows. -/
def y32K : FVec F S128x1024 .f32 :=
  k0_pay360 (k0_pay11 (cblkK arg27 X_arg27 k 0) k0_pay10) (k0_pay11 (cblkK arg27 X_arg27 k 1) k0_pay10) (k0_pay11 (cblkK arg27 X_arg27 k 2) k0_pay10) (k0_pay11 (cblkK arg27 X_arg27 k 3) k0_pay10) (k0_pay11 (cblkK arg27 X_arg27 k 4) k0_pay10) (k0_pay11 (cblkK arg27 X_arg27 k 5) k0_pay10) (k0_pay11 (cblkK arg27 X_arg27 k 6) k0_pay10) (k0_pay11 (cblkK arg27 X_arg27 k 7) k0_pay10)
    (arg29.view.readCov (pcs29 arg14 arg25 arg26 arg30 v392 v421 X_arg14 X_arg25 X_arg26 k f_arg30 128) (Rect.unit (s := S2048x1024) ![0, 0] S2048x1024.size inb_S2048x1024_S2048x1024_0_0).toLoadRect)

/-- The stores into the output rows, the first `g` of them, last first. -/
def pcs28 : ℕ → List (View.Piece (Elt F) S1024x1024 .f32)
  | 0 => []
  | g + 1 => ⟨Rect.unit (s := S1024x1024) (k0_off1 k (BitVec.ofNat 32 (128 * (g % 8)))) S16x1024.size (k0_off1_inb k ⟨g % 8, Nat.mod_lt _ (by decide)⟩),
      shapeCast S16x1024 (extractStridedSlice S16x1024 ![16 * (g % 8), 0] (y32K arg14 arg25 arg26 arg27 arg29 arg30 v392 v421 X_arg14 X_arg25 X_arg26 X_arg27 k f_arg30) (sly ⟨g % 8, Nat.mod_lt _ (by decide)⟩)) shapeCasts_S16x1024_S16x1024⟩ :: pcs28 g
end

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)
variable (v391 : Vec F S1024x1024 .f32) (v392 : FVec F S1024x1024 .bf16) (v413 : FVec F S1024x1024 .f32) (v414 : Vec F S1024x1024 .f32) (v421 : Vec F S16x1024 .bf16) (X_arg14 : BufTy.Contents (Elt F) arg14.view.ty) (X_arg25 : BufTy.Contents (Elt F) arg25.view.ty) (X_arg26 : BufTy.Contents (Elt F) arg26.view.ty) (X_arg27 : BufTy.Contents (Elt F) arg27.view.ty) (k : Fin k0_t1_loop.trips) (f_arg28 : BufTy.Contents (Elt F) arg28.view.ty) (f_arg29 : BufTy.Contents (Elt F) arg29.view.ty) (f_arg30 : BufTy.Contents (Elt F) arg30.view.ty)

/-- The trip's stores into the output rows. -/
theorem trip28 : (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 k).1 f_arg28 f_arg29 f_arg30 = pcs28 arg14 arg25 arg26 arg27 arg29 arg30 v392 v421 X_arg14 X_arg25 X_arg26 X_arg27 k f_arg30 8 := by
  unfold trip_k0_t1
  rfl

end Cert.KernelIdeal

end
-- ==== Proof.TripRead.lean ====
/- What the three written buffers read as after one trip, over the extended reals: the recurrence of
   sequence `g` in plain form (`hM`) and the output rows. -/
module

public import proofs.«01_k».proof.Proof.TripOut

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

/-- A load of a unit rectangle reads the buffer at the shifted index. -/
theorem readAt_unit {κ : Kind} {sp : Space} {s : Shape} {e : EltTy} (v : View sig κ sp s e) {off off' size : Fin s.rank → ℕ}
    (inb : ∀ a, off a + size a ≤ s.size a) (X : v.ty.Contents (Elt Ideal)) (x : (Rect.unit off size inb).shape.Idx) (y : s.Idx)
    (heq : off = off') (h : ∀ a, (y a).val = off' a + (x a).val) :
    View.readAt (Elt Ideal) v (Rect.unit off size inb).toLoadRect X x = v.read (Elt Ideal) X y := by
  subst heq
  show v.read (Elt Ideal) X _ = _
  refine congrArg _ (funext fun a => Fin.ext ?_)
  show off a + 1 * (x a).val = _
  rw [h a, Nat.one_mul]

theorem sc_f (v : FVec Ideal S16x1024 .f32) (h) (n : Fin 16) (d : Fin 1024) : shapeCast S16x1024 v h (ix2 n d) = v (ix2 n d) := by
  pointwise []
theorem sc_b (v : FVec Ideal S16x1024 .f32) (h) (n : Fin 16) (d : Fin 1024) :
    shapeCast S16x1024 (truncf .bf16 v bitsLt_bf16_f32) h (ix2 n d) = v (ix2 n d) := by
  pointwise []
theorem sc_y (v : FVec Ideal S128x1024 .f32) (h) (g : Fin 8) (hs) (n : Fin 16) (d : Fin 1024) :
    shapeCast S16x1024 (extractStridedSlice S16x1024 ![16 * g.val, 0] v hs) h (ix2 n d) = v (ix2 ⟨16 * g.val + n.val, by omega⟩ d) := by
  pointwise []

/-- Row `τ` of sequence `g` among the point's 1024 rows. -/
def rowM (g : Fin 8) (τ : ℕ) : Fin 1024 := ⟨(128 * g.val + τ) % 1024, Nat.mod_lt _ (by decide)⟩

/-- The recurrence of sequence `g` over a point's rows: the state after `τ` steps. -/
def hM (an : FVec Ideal S16x1024 .f32) (bt : FVec Ideal S16x1024 .f32) (dt u : FVec Ideal S1024x1024 .f32)
    (h0 : FVec Ideal S128x1024 .f32) (g : Fin 8) : ℕ → Fin 16 → Fin 1024 → EReal
  | 0, n, d => h0 (ix2 ⟨16 * g.val + n.val, by omega⟩ d)
  | τ + 1, n, d => hM an bt dt u h0 g τ n d * FloatOps.exp2 (F := Ideal) (φ := .f32) (dt (ix2 (rowM g τ) d) * an (ix2 n d))
      + u (ix2 (rowM g τ) d) * bt (ix2 n (rowM g τ))

/-- Output row `τ` of sequence `g`. -/
def yM (cc : FVec Ideal S1024x16 .f32) (an : FVec Ideal S16x1024 .f32) (bt : FVec Ideal S16x1024 .f32) (dt u : FVec Ideal S1024x1024 .f32)
    (h0 : FVec Ideal S128x1024 .f32) (g : Fin 8) (τ : ℕ) (d : Fin 1024) : EReal :=
  ∑ n : Fin 16, cc (ix2 (rowM g τ) n) * hM an bt dt u h0 g (τ + 1) n d

section
variable (arg14 : Memref sig .tc .vmem S16x1024 .f32) (arg25 arg26 : Memref sig .tc .vmem S1024x1024 .f32) (arg27 : Memref sig .tc .vmem S1024x16 .f32) (arg28 : Memref sig .tc .vmem S1024x1024 .f32) (arg29 : Memref sig .tc .vmem S2048x1024 .bf16) (arg30 : Memref sig .tc .vmem S128x1024 .f32) (v392 : FVec Ideal S1024x1024 .bf16) (v421 : Vec Ideal S16x1024 .bf16) (X_arg14 : BufTy.Contents (Elt Ideal) arg14.view.ty) (X_arg25 : BufTy.Contents (Elt Ideal) arg25.view.ty) (X_arg26 : BufTy.Contents (Elt Ideal) arg26.view.ty) (X_arg27 : BufTy.Contents (Elt Ideal) arg27.view.ty) (k : Fin k0_t1_loop.trips) (f_arg30 : BufTy.Contents (Elt Ideal) arg30.view.ty)

theorem hT_apply (H0 : FVec Ideal S128x1024 .f32) (g : Fin 8)
    (h30 : ∀ (n : Fin 16) (d : Fin 1024), arg30.view.read (Elt Ideal) f_arg30 (ix2 ⟨16 * g.val + n.val, by omega⟩ d)
      = hM (k0_pay9 (arg14.view.read (Elt Ideal) X_arg14)) (k0_pay418 v392 v421) (arg25.view.read (Elt Ideal) X_arg25) (arg26.view.read (Elt Ideal) X_arg26) H0 g (16 * k.val) n d)
    (m : ℕ) (hm : m ≤ 16) (n : Fin 16) (d : Fin 1024) :
    hT (F := Ideal) arg14 arg25 arg26 arg30 v392 v421 X_arg14 X_arg25 X_arg26 k f_arg30 g m (ix2 n d)
      = hM (k0_pay9 (arg14.view.read (Elt Ideal) X_arg14)) (k0_pay418 v392 v421) (arg25.view.read (Elt Ideal) X_arg25) (arg26.view.read (Elt Ideal) X_arg26) H0 g (16 * k.val + m) n d := by
  have hk : k.val < 8 := trips8 ▸ k.isLt
  induction m with
  | zero =>
    refine (readAt_unit arg30.view (inb30 g) f_arg30 (ix2 n d) (ix2 ⟨16 * g.val + n.val, by omega⟩ d) rfl (fun a => ?_)).trans (h30 n d)
    match a with
    | ⟨0, _⟩ => rfl
    | ⟨1, _⟩ => exact (Nat.zero_add _).symm
  | succ m ih =>
    have hm' : m % 16 = m := Nat.mod_eq_of_lt (by omega)
    refine (stepK_apply _ _ _ _ _ k ⟨m % 16, Nat.mod_lt _ (by decide)⟩ n d).trans ?_
    have hr : ∀ (v : View sig .tc .vmem S1024x1024 .f32) (X : v.ty.Contents (Elt Ideal)),
        View.readAt (Elt Ideal) v (Rect.unit (s := S1024x1024) (k0_off1 k (BitVec.ofNat 32 (128 * g.val))) S16x1024.size (k0_off1_inb k g)).toLoadRect X (ix2 ⟨m % 16, Nat.mod_lt _ (by decide)⟩ d)
        = v.read (Elt Ideal) X (ix2 (rowM g (16 * k.val + m)) d) := fun v X =>
      readAt_unit v (k0_off1_inb k g) X (ix2 ⟨m % 16, Nat.mod_lt _ (by decide)⟩ d) (ix2 (rowM g (16 * k.val + m)) d) (k0_off1_eq k g) (fun a => by
        match a with
        | ⟨0, _⟩ => show (128 * g.val + (16 * k.val + m)) % 1024 = 128 * g.val + 16 * k.val + m % 16; omega
        | ⟨1, _⟩ => exact (Nat.zero_add _).symm)
    have hb : btK (F := Ideal) v392 v421 g (ix2 n ⟨16 * k.val + m % 16, kj_lt k ⟨m % 16, Nat.mod_lt _ (by decide)⟩⟩)
        = k0_pay418 (F := Ideal) v392 v421 (ix2 n (rowM g (16 * k.val + m))) := by
      refine (btK_apply v392 v421 g n _).trans (congrArg (fun r => k0_pay418 (F := Ideal) v392 v421 (ix2 n r)) (Fin.ext ?_))
      show 128 * g.val + (16 * k.val + m % 16) = (128 * g.val + (16 * k.val + m)) % 1024
      omega
    have ha : View.readAt (Elt Ideal) arg14.view (Rect.unit (s := S16x1024) ![0, 0] S16x1024.size inb_S16x1024_S16x1024_0_0).toLoadRect X_arg14
        = arg14.view.read (Elt Ideal) X_arg14 := funext fun x =>
      readAt_unit arg14.view inb_S16x1024_S16x1024_0_0 X_arg14 x x rfl (fun a => by
        match a with
        | ⟨0, _⟩ => exact (Nat.zero_add _).symm
        | ⟨1, _⟩ => exact (Nat.zero_add _).symm)
    rw [hr, hr, hb]
    exact congrArg₂ (· + ·) (congrArg₂ (· * ·) (ih (by omega)) (by rw [ha]; rfl)) rfl

/-- The stack of states after `M` stores. -/
theorem read29 (f : BufTy.Contents (Elt Ideal) arg29.view.ty) (M : ℕ) (hM : M ≤ 128) (m : Fin 128) (hm : m.val < M) (n : Fin 16) (d : Fin 1024) :
    arg29.view.read (Elt Ideal) (arg29.view.writes (Elt Ideal) f (pcs29 (F := Ideal) arg14 arg25 arg26 arg30 v392 v421 X_arg14 X_arg25 X_arg26 k f_arg30 M)) (ix2 ⟨16 * m.val + n.val, by omega⟩ d)
      = hT (F := Ideal) arg14 arg25 arg26 arg30 v392 v421 X_arg14 X_arg25 X_arg26 k f_arg30 ⟨m.val / 16, by omega⟩ (m.val % 16 + 1) (ix2 n d) := by
  induction M with
  | zero => omega
  | succ M ih =>
    have hMM : M % 128 = M := Nat.mod_eq_of_lt (by omega)
    have ho : (![16 * (M % 128), 0] : Fin 2 → ℕ) = ![16 * M, 0] := by rw [hMM]
    by_cases h : m.val = M
    · refine (View.read_writes_cons_rows_of_mem arg29.view f (inb29 ⟨M % 128, Nat.mod_lt _ (by decide)⟩) _ _ (ix2 ⟨16 * m.val + n.val, by omega⟩ d) (ix2 n d) ho
        (by show 16 * m.val + n.val = 16 * M + n.val; omega) rfl).trans ((sc_b _ _ n d).trans ?_)
      have hg : (⟨M / 16 % 8, Nat.mod_lt _ (by decide)⟩ : Fin 8) = ⟨m.val / 16, by omega⟩ := Fin.ext (by show M / 16 % 8 = m.val / 16; omega)
      rw [hg]
      exact congrArg (fun q => hT (F := Ideal) arg14 arg25 arg26 arg30 v392 v421 X_arg14 X_arg25 X_arg26 k f_arg30 ⟨m.val / 16, by omega⟩ (q % 16 + 1) (ix2 n d)) h.symm
    · refine (View.read_writes_cons_rows_of_not_mem arg29.view f (inb29 ⟨M % 128, Nat.mod_lt _ (by decide)⟩) _ _ (ix2 ⟨16 * m.val + n.val, by omega⟩ d) ho rfl
        (by show 16 * m.val + n.val < 16 * M ∨ 16 * M + 16 ≤ 16 * m.val + n.val; omega)).trans (ih (by omega) (by omega))

/-- The carried state after `G` stores. -/
theorem read30 (f : BufTy.Contents (Elt Ideal) arg30.view.ty) (G : ℕ) (hG : G ≤ 8) (g : Fin 8) (hg : g.val < G) (n : Fin 16) (d : Fin 1024) :
    arg30.view.read (Elt Ideal) (arg30.view.writes (Elt Ideal) f (pcs30 (F := Ideal) arg14 arg25 arg26 arg30 v392 v421 X_arg14 X_arg25 X_arg26 k f_arg30 G)) (ix2 ⟨16 * g.val + n.val, by omega⟩ d)
      = hT (F := Ideal) arg14 arg25 arg26 arg30 v392 v421 X_arg14 X_arg25 X_arg26 k f_arg30 g 16 (ix2 n d) := by
  induction G with
  | zero => omega
  | succ G ih =>
    have hGG : G % 8 = G := Nat.mod_eq_of_lt (by omega)
    have ho : (![16 * (G % 8), 0] : Fin 2 → ℕ) = ![16 * G, 0] := by rw [hGG]
    by_cases h : g.val = G
    · refine (View.read_writes_cons_rows_of_mem arg30.view f (inb30 ⟨G % 8, Nat.mod_lt _ (by decide)⟩) _ _ (ix2 ⟨16 * g.val + n.val, by omega⟩ d) (ix2 n d) ho
        (by show 16 * g.val + n.val = 16 * G + n.val; omega) rfl).trans ((sc_f _ _ n d).trans ?_)
      have he : (⟨G % 8, Nat.mod_lt _ (by decide)⟩ : Fin 8) = g := Fin.ext (by show G % 8 = g.val; omega)
      rw [he]
    · refine (View.read_writes_cons_rows_of_not_mem arg30.view f (inb30 ⟨G % 8, Nat.mod_lt _ (by decide)⟩) _ _ (ix2 ⟨16 * g.val + n.val, by omega⟩ d) ho rfl
        (by show 16 * g.val + n.val < 16 * G ∨ 16 * G + 16 ≤ 16 * g.val + n.val; omega)).trans (ih (by omega) (by omega))

theorem off28 (G : ℕ) (hG : G < 8) : k0_off1 k (BitVec.ofNat 32 (128 * (G % 8))) = ![128 * G + 16 * k.val, 0] := by
  have hGG : G % 8 = G := Nat.mod_eq_of_lt hG
  rw [hGG]; exact k0_off1_eq k ⟨G, hG⟩

/-- The output rows of this trip after `G` stores. -/
theorem read28 (f : BufTy.Contents (Elt Ideal) arg28.view.ty) (G : ℕ) (hG : G ≤ 8) (g : Fin 8) (hg : g.val < G) (n : Fin 16) (d : Fin 1024)
    (r : Fin 1024) (hr : r.val = 128 * g.val + 16 * k.val + n.val) :
    arg28.view.read (Elt Ideal) (arg28.view.writes (Elt Ideal) f (pcs28 (F := Ideal) arg14 arg25 arg26 arg27 arg29 arg30 v392 v421 X_arg14 X_arg25 X_arg26 X_arg27 k f_arg30 G)) (ix2 r d)
      = y32K (F := Ideal) arg14 arg25 arg26 arg27 arg29 arg30 v392 v421 X_arg14 X_arg25 X_arg26 X_arg27 k f_arg30 (ix2 ⟨16 * g.val + n.val, by omega⟩ d) := by
  have hk : k.val < 8 := trips8 ▸ k.isLt
  induction G with
  | zero => omega
  | succ G ih =>
    by_cases h : g.val = G
    · refine (View.read_writes_cons_rows_of_mem arg28.view f (k0_off1_inb k ⟨G % 8, Nat.mod_lt _ (by decide)⟩) _ _ (ix2 r d) (ix2 n d) (off28 k G (by omega))
        (by show r.val = 128 * G + 16 * k.val + n.val; omega) rfl).trans ((sc_y _ _ ⟨G % 8, Nat.mod_lt _ (by decide)⟩ _ n d).trans ?_)
      have he : (⟨16 * (G % 8) + n.val, by omega⟩ : Fin 128) = ⟨16 * g.val + n.val, by omega⟩ := Fin.ext (by show 16 * (G % 8) + n.val = 16 * g.val + n.val; omega)
      exact congrArg (fun q => y32K (F := Ideal) arg14 arg25 arg26 arg27 arg29 arg30 v392 v421 X_arg14 X_arg25 X_arg26 X_arg27 k f_arg30 (ix2 q d)) he
    · refine (View.read_writes_cons_rows_of_not_mem arg28.view f (k0_off1_inb k ⟨G % 8, Nat.mod_lt _ (by decide)⟩) _ _ (ix2 r d) (off28 k G (by omega)) rfl
        (by show r.val < 128 * G + 16 * k.val ∨ 128 * G + 16 * k.val + 16 ≤ r.val; omega)).trans (ih (by omega) (by omega))

/-- The output rows of the other trips stay. -/
theorem keep28 (f : BufTy.Contents (Elt Ideal) arg28.view.ty) (G : ℕ) (hG : G ≤ 8) (d : Fin 1024)
    (r : Fin 1024) (hr : r.val % 128 / 16 ≠ k.val) :
    arg28.view.read (Elt Ideal) (arg28.view.writes (Elt Ideal) f (pcs28 (F := Ideal) arg14 arg25 arg26 arg27 arg29 arg30 v392 v421 X_arg14 X_arg25 X_arg26 X_arg27 k f_arg30 G)) (ix2 r d)
      = arg28.view.read (Elt Ideal) f (ix2 r d) := by
  have hk : k.val < 8 := trips8 ▸ k.isLt
  induction G with
  | zero => rfl
  | succ G ih =>
    refine (View.read_writes_cons_rows_of_not_mem arg28.view f (k0_off1_inb k ⟨G % 8, Nat.mod_lt _ (by decide)⟩) _ _ (ix2 r d) (off28 k G (by omega)) rfl
        (by show r.val < 128 * G + 16 * k.val ∨ 128 * G + 16 * k.val + 16 ≤ r.val; omega)).trans (ih (by omega))

theorem y32K_apply (H0 : FVec Ideal S128x1024 .f32)
    (h30 : ∀ (g : Fin 8) (n : Fin 16) (d : Fin 1024), arg30.view.read (Elt Ideal) f_arg30 (ix2 ⟨16 * g.val + n.val, by omega⟩ d)
      = hM (k0_pay9 (arg14.view.read (Elt Ideal) X_arg14)) (k0_pay418 v392 v421) (arg25.view.read (Elt Ideal) X_arg25) (arg26.view.read (Elt Ideal) X_arg26) H0 g (16 * k.val) n d)
    (g : Fin 8) (j : Fin 16) (d : Fin 1024) :
    y32K (F := Ideal) arg14 arg25 arg26 arg27 arg29 arg30 v392 v421 X_arg14 X_arg25 X_arg26 X_arg27 k f_arg30 (ix2 ⟨16 * g.val + j.val, by omega⟩ d)
      = yM (arg27.view.read (Elt Ideal) X_arg27) (k0_pay9 (arg14.view.read (Elt Ideal) X_arg14)) (k0_pay418 v392 v421) (arg25.view.read (Elt Ideal) X_arg25) (arg26.view.read (Elt Ideal) X_arg26) H0 g (16 * k.val + j.val) d := by
  have hk : k.val < 8 := trips8 ▸ k.isLt
  refine (y32_apply (cblkK arg27 X_arg27 k) _ ⟨16 * g.val + j.val, by omega⟩ d).trans ?_
  refine Finset.sum_congr rfl fun n _ => ?_
  have hg : (⟨(16 * g.val + j.val) / 16, by omega⟩ : Fin 8) = g := Fin.ext (by show (16 * g.val + j.val) / 16 = g.val; omega)
  have hj : (⟨(16 * g.val + j.val) % 16, Nat.mod_lt _ (by decide)⟩ : Fin 16) = j := Fin.ext (by show (16 * g.val + j.val) % 16 = j.val; omega)
  have hs : arg29.view.readCov (pcs29 (F := Ideal) arg14 arg25 arg26 arg30 v392 v421 X_arg14 X_arg25 X_arg26 k f_arg30 128) (Rect.unit (s := S2048x1024) ![0, 0] S2048x1024.size inb_S2048x1024_S2048x1024_0_0).toLoadRect
      (ix2 ⟨16 * (16 * g.val + j.val) + n.val, by omega⟩ d)
      = hM (k0_pay9 (arg14.view.read (Elt Ideal) X_arg14)) (k0_pay418 v392 v421) (arg25.view.read (Elt Ideal) X_arg25) (arg26.view.read (Elt Ideal) X_arg26) H0 g (16 * k.val + (j.val + 1)) n d := by
    refine (readAt_unit arg29.view inb_S2048x1024_S2048x1024_0_0 _ (ix2 ⟨16 * (16 * g.val + j.val) + n.val, by omega⟩ d) (ix2 ⟨16 * (16 * g.val + j.val) + n.val, by omega⟩ d) rfl (fun a => by
        match a with
        | ⟨0, _⟩ => exact (Nat.zero_add _).symm
        | ⟨1, _⟩ => exact (Nat.zero_add _).symm)).trans ?_
    refine (read29 (f := arg29.view.junk) arg14 arg25 arg26 arg30 v392 v421 X_arg14 X_arg25 X_arg26 k f_arg30 (arg29 := arg29) 128 le_rfl ⟨16 * g.val + j.val, by omega⟩ (by show 16 * g.val + j.val < 128; omega) n d).trans ?_
    show hT (F := Ideal) arg14 arg25 arg26 arg30 v392 v421 X_arg14 X_arg25 X_arg26 k f_arg30 ⟨(16 * g.val + j.val) / 16, by omega⟩ ((16 * g.val + j.val) % 16 + 1) (ix2 n d) = _
    rw [hg]
    have : (16 * g.val + j.val) % 16 = j.val := by omega
    rw [this]
    exact hT_apply arg14 arg25 arg26 arg30 v392 v421 X_arg14 X_arg25 X_arg26 k f_arg30 H0 g (h30 g) (j.val + 1) (by omega) n d
  have hc : cblkK (F := Ideal) arg27 X_arg27 k g (ix2 j n) = arg27.view.read (Elt Ideal) X_arg27 (ix2 (rowM g (16 * k.val + j.val)) n) :=
    readAt_unit arg27.view (k0_off2_inb k g) X_arg27 (ix2 j n) (ix2 (rowM g (16 * k.val + j.val)) n) (k0_off2_eq k g) (fun a => by
        match a with
        | ⟨0, _⟩ => show (128 * g.val + (16 * k.val + j.val)) % 1024 = 128 * g.val + 16 * k.val + j.val; omega
        | ⟨1, _⟩ => exact (Nat.zero_add _).symm)
  show cblkK (F := Ideal) arg27 X_arg27 k ⟨(16 * g.val + j.val) / 16, by omega⟩ (ix2 ⟨(16 * g.val + j.val) % 16, Nat.mod_lt _ (by decide)⟩ n) * _ = _
  rw [hg, hj, hc]
  exact congrArg (arg27.view.read (Elt Ideal) X_arg27 (ix2 (rowM g (16 * k.val + j.val)) n) * ·) hs
end

end Cert.KernelIdeal

end
-- ==== Proof.TripLoop.lean ====
/- What the buffers read as after any number of trips. -/
module

public import proofs.«01_k».proof.Proof.TripRead

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)
variable (v391 : Vec Ideal S1024x1024 .f32) (v392 : FVec Ideal S1024x1024 .bf16) (v413 : FVec Ideal S1024x1024 .f32) (v414 : Vec Ideal S1024x1024 .f32) (v421 : Vec Ideal S16x1024 .bf16) (X_arg14 : BufTy.Contents (Elt Ideal) arg14.view.ty) (X_arg25 : BufTy.Contents (Elt Ideal) arg25.view.ty) (X_arg26 : BufTy.Contents (Elt Ideal) arg26.view.ty) (X_arg27 : BufTy.Contents (Elt Ideal) arg27.view.ty) (G_arg28 : BufTy.Contents (Elt Ideal) arg28.view.ty) (G_arg29 : BufTy.Contents (Elt Ideal) arg29.view.ty) (G_arg30 : BufTy.Contents (Elt Ideal) arg30.view.ty)

theorem pb30_succ (k : Fin k0_t1_loop.trips) : (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 (k.val + 1)).2.2)
    = arg30.view.writes (Elt Ideal) (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) (pcs30 (F := Ideal) arg14 arg25 arg26 arg30 v392 v421 X_arg14 X_arg25 X_arg26 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) 8) := by
  rw [pb_k0_t1_succ]
  refine (View.writes_append _ _ _ _).trans ?_
  exact congrArg _ (trip30 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 k (arg28.view.writes (Elt Ideal) G_arg28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).1) (arg29.view.writes (Elt Ideal) G_arg29 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.1) (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2))

theorem pb28_succ (k : Fin k0_t1_loop.trips) : (arg28.view.writes (Elt Ideal) G_arg28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 (k.val + 1)).1)
    = arg28.view.writes (Elt Ideal) (arg28.view.writes (Elt Ideal) G_arg28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).1) (pcs28 (F := Ideal) arg14 arg25 arg26 arg27 arg29 arg30 v392 v421 X_arg14 X_arg25 X_arg26 X_arg27 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) 8) := by
  rw [pb_k0_t1_succ]
  refine (View.writes_append _ _ _ _).trans ?_
  exact congrArg _ (trip28 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 k (arg28.view.writes (Elt Ideal) G_arg28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).1) (arg29.view.writes (Elt Ideal) G_arg29 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.1) (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2))

theorem pb_read (K : ℕ) (hK : K ≤ 8) :
    (∀ (g : Fin 8) (n : Fin 16) (d : Fin 1024), arg30.view.read (Elt Ideal) (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 K).2.2) (ix2 ⟨16 * g.val + n.val, by omega⟩ d)
      = hM (k0_pay9 (arg14.view.read (Elt Ideal) X_arg14)) (k0_pay418 v392 v421) (arg25.view.read (Elt Ideal) X_arg25) (arg26.view.read (Elt Ideal) X_arg26) (arg30.view.read (Elt Ideal) G_arg30) g (16 * K) n d)
    ∧ (∀ (g : Fin 8) (τ : ℕ) (d : Fin 1024), τ < 16 * K → arg28.view.read (Elt Ideal) (arg28.view.writes (Elt Ideal) G_arg28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 K).1) (ix2 (rowM g τ) d)
      = yM (arg27.view.read (Elt Ideal) X_arg27) (k0_pay9 (arg14.view.read (Elt Ideal) X_arg14)) (k0_pay418 v392 v421) (arg25.view.read (Elt Ideal) X_arg25) (arg26.view.read (Elt Ideal) X_arg26) (arg30.view.read (Elt Ideal) G_arg30) g τ d) := by
  induction K with
  | zero => exact ⟨fun g n d => rfl, fun g τ d h => absurd h (Nat.not_lt_zero _)⟩
  | succ K ih =>
    obtain ⟨ih30, ih28⟩ := ih (by omega)
    obtain ⟨k, hk⟩ : ∃ k : Fin k0_t1_loop.trips, k.val = K := ⟨⟨K, trips8.symm ▸ hK⟩, rfl⟩
    subst hk
    refine ⟨fun g n d => ?_, fun g τ d hτ => ?_⟩
    · rw [pb30_succ]
      refine (read30 arg14 arg25 arg26 arg30 v392 v421 X_arg14 X_arg25 X_arg26 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) _ 8 le_rfl g g.isLt n d).trans ((hT_apply arg14 arg25 arg26 arg30 v392 v421 X_arg14 X_arg25 X_arg26 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) _ g (ih30 g) 16 le_rfl n d).trans ?_)
      rw [Nat.mul_succ]
    · rw [pb28_succ]
      by_cases h : τ < 16 * k.val
      · refine (keep28 arg14 arg25 arg26 arg27 arg28 arg29 arg30 v392 v421 X_arg14 X_arg25 X_arg26 X_arg27 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) _ 8 le_rfl d (rowM g τ) ?_).trans (ih28 g τ d h)
        show (128 * g.val + τ) % 1024 % 128 / 16 ≠ k.val
        omega
      · refine (read28 arg14 arg25 arg26 arg27 arg28 arg29 arg30 v392 v421 X_arg14 X_arg25 X_arg26 X_arg27 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) _ 8 le_rfl g g.isLt ⟨τ - 16 * k.val, by omega⟩ d (rowM g τ) ?_).trans
          ((y32K_apply arg14 arg25 arg26 arg27 arg29 arg30 v392 v421 X_arg14 X_arg25 X_arg26 X_arg27 k (arg30.view.writes (Elt Ideal) G_arg30 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 v421 X_arg14 X_arg25 X_arg26 X_arg27 G_arg28 G_arg29 G_arg30 k.val).2.2) _ ih30 g ⟨τ - 16 * k.val, by omega⟩ d).trans ?_)
        · show (128 * g.val + τ) % 1024 = 128 * g.val + 16 * k.val + (τ - 16 * k.val)
          omega
        · have e : 16 * k.val + (τ - 16 * k.val) = τ := by omega
          show yM _ _ _ _ _ _ g (16 * k.val + (τ - 16 * k.val)) d = _
          rw [e]

end Cert.KernelIdeal

end
-- ==== Proof.Reads.lean ====
/- Whole loads and whole stores read back. -/
module

public import proofs.«01_k».proof.Proof.TripLoop

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄" => MT nD τ sig Unit (Elt F) ℕ (UR sig nD τ) ℕ

/-- A whole load reads what the buffer reads as. -/
theorem rd_full {κ : Kind} {sp : Space} {s : Shape} {e : EltTy} (v : View sig κ sp s e) {off : Fin s.rank → ℕ}
    (inb : ∀ a, off a + s.size a ≤ s.size a) (X : v.ty.Contents (Elt Ideal)) :
    View.readAt (Elt Ideal) v (Rect.unit off s.size inb).toLoadRect X = v.read (Elt Ideal) X :=
  funext fun x => readAt_unit v inb X x x rfl (fun a => by have := inb a; omega)

/-- A whole load of contents given by what they read as. -/
theorem rd_unread {κ : Kind} {sp : Space} {s : Shape} {e : EltTy} {m : Memref sig κ sp s e} (h : m.IsWhole) {off : Fin s.rank → ℕ}
    (inb : ∀ a, off a + s.size a ≤ s.size a) (x : s.Idx → Elt Ideal e) :
    View.readAt (Elt Ideal) m.view (Rect.unit off s.size inb).toLoadRect (h.unread x) = x :=
  (rd_full m.view inb _).trans (h.read_unread _)

/-- A whole store reads back. -/
theorem rd_store {κ : Kind} {sp : Space} {s : Shape} {e : EltTy} (v : View sig κ sp s e) {off : Fin s.rank → ℕ}
    (inb : ∀ a, off a + s.size a ≤ s.size a) (f : v.ty.Contents (Elt Ideal)) (w : s.Idx → Elt Ideal e) (L : List (View.Piece (Elt Ideal) s e)) :
    v.read (Elt Ideal) (v.writes (Elt Ideal) f (⟨Rect.unit off s.size inb, w⟩ :: L)) = w :=
  funext fun x => View.read_writes_cons_unit_of_mem v f inb w L x x rfl (fun a => by have := inb a; omega)

/-- `X` with the rectangle of sizes `size` at `off` replaced by `w`. -/
def upd {s : Shape} {α : Type} (off size : Fin s.rank → ℕ) (w : (⟨s.rank, size⟩ : Shape).Idx → α) (X : s.Idx → α) : s.Idx → α :=
  fun y => if h : ∀ a, off a ≤ (y a).val ∧ (y a).val < off a + size a then w (Rect.unitLocal (s := s) (off := off) (size := size) y h) else X y

/-- The rectangle of sizes `size` at `off`, read out of `X`. -/
def ldw {s : Shape} {α : Type} (off size : Fin s.rank → ℕ) (inb : ∀ a, off a + size a ≤ s.size a) (X : s.Idx → α) : (⟨s.rank, size⟩ : Shape).Idx → α :=
  fun x => X ((Rect.unit off size inb).toLoadRect.idx x)

/-- A store on top of others reads as the update of what the others left. -/
theorem rd_upd {κ : Kind} {sp : Space} {s : Shape} {e : EltTy} (v : View sig κ sp s e) {off size : Fin s.rank → ℕ}
    (inb : ∀ a, off a + size a ≤ s.size a) (f : v.ty.Contents (Elt Ideal)) (w : (Rect.unit off size inb).shape.Idx → Elt Ideal e) (L : List (View.Piece (Elt Ideal) s e)) :
    v.read (Elt Ideal) (v.writes (Elt Ideal) f (⟨Rect.unit off size inb, w⟩ :: L)) = upd off size w (v.read (Elt Ideal) (v.writes (Elt Ideal) f L)) :=
  funext fun y => View.read_writes_cons_unit v f inb w L y rfl

/-- A load reads the rectangle. -/
theorem rd_ldw {κ : Kind} {sp : Space} {s : Shape} {e : EltTy} (v : View sig κ sp s e) {off size : Fin s.rank → ℕ}
    (inb : ∀ a, off a + size a ≤ s.size a) (f : v.ty.Contents (Elt Ideal)) :
    View.readAt (Elt Ideal) v (Rect.unit off size inb).toLoadRect f = ldw off size inb (v.read (Elt Ideal) f) := rfl

theorem rd_nil {κ : Kind} {sp : Space} {s : Shape} {e : EltTy} {m : Memref sig κ sp s e} (h : m.IsWhole) (x : s.Idx → Elt Ideal e) :
    m.view.read (Elt Ideal) (m.view.writes (Elt Ideal) (h.unread x) []) = x := h.read_unread x

/-- The whole rectangle of a rank 2 shape. -/
theorem ldw_whole2 {α : Type} {a b : ℕ} (inb : ∀ k : Fin 2, ![0, 0] k + ![a, b] k ≤ ![a, b] k) (X : (⟨2, ![a, b]⟩ : Shape).Idx → α) :
    ldw (s := ⟨2, ![a, b]⟩) ![0, 0] ![a, b] inb X = X :=
  funext fun x => congrArg X (funext fun k => by fin_cases k <;> exact Fin.ext (by simp [Rect.toLoadRect, Rect.unit]))

/-- The whole rectangle of a rank 3 shape. -/
theorem ldw_whole3 {α : Type} {a b c : ℕ} (inb : ∀ k : Fin 3, ![0, 0, 0] k + ![a, b, c] k ≤ ![a, b, c] k) (X : (⟨3, ![a, b, c]⟩ : Shape).Idx → α) :
    ldw (s := ⟨3, ![a, b, c]⟩) ![0, 0, 0] ![a, b, c] inb X = X :=
  funext fun x => congrArg X (funext fun k => by fin_cases k <;> exact Fin.ext (by simp [Rect.toLoadRect, Rect.unit]))

/-- The whole rectangle of a rank 2 shape replaced. -/
theorem upd_whole2 {α : Type} {a b : ℕ} (w X : (⟨2, ![a, b]⟩ : Shape).Idx → α) : upd (s := ⟨2, ![a, b]⟩) ![0, 0] ![a, b] w X = w := by
  funext y
  have h : ∀ k : Fin 2, ![0, 0] k ≤ (y k).val ∧ (y k).val < ![0, 0] k + ![a, b] k := fun k => ⟨by fin_cases k <;> exact Nat.zero_le _, by
    have := (y k).isLt; fin_cases k <;> simpa using this⟩
  rw [upd, dif_pos h]
  exact congrArg w (funext fun k => by fin_cases k <;> exact Fin.ext (by simp [Rect.unitLocal]))

/-- A load that ends before a store's rectangle along an axis does not see the store. -/
theorem ldw_upd_lt {s : Shape} {α : Type} {off size off' size' : Fin s.rank → ℕ} (inb : ∀ a, off a + size a ≤ s.size a) (w : (⟨s.rank, size'⟩ : Shape).Idx → α)
    (X : s.Idx → α) (k : Fin s.rank) (h : off k + size k ≤ off' k) : ldw off size inb (upd off' size' w X) = ldw off size inb X := by
  funext x
  have hn : ¬ ∀ a, off' a ≤ ((Rect.unit off size inb).toLoadRect.idx x a).val ∧ ((Rect.unit off size inb).toLoadRect.idx x a).val < off' a + size' a := by
    intro hh
    have h1 := (hh k).1
    have h2 : ((Rect.unit off size inb).toLoadRect.idx x k).val = off k + 1 * (x k).val := rfl
    have h3 : (x k).val < size k := (x k).isLt
    omega
  show upd off' size' w X _ = X _
  rw [upd, dif_neg hn]

end Cert.KernelIdeal

end
-- ==== Proof.Part83.lean ====
/- The eighty-third part of the body: the step sizes and inputs stored, the scan run, its results loaded. -/
module

public import proofs.«01_k».proof.Proof.Reads

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

def hEnd (v391 : Vec Ideal S1024x1024 .f32) (v392 : FVec Ideal S1024x1024 .bf16) (v413 : FVec Ideal S1024x1024 .f32) (x10 : Vec Ideal S16x1024 .bf16) (x12 : Vec Ideal S16x1024 .f32) (h0 : Vec Ideal S128x1024 .f32) : Vec Ideal S128x1024 .f32 :=
  fun j => hM (k0_pay9 x12) (k0_pay418 v392 x10) (k0_pay416 v413) (k0_pay417 v391 v413) h0
    ⟨(j 0).val / 16, by have : (j 0).val < 128 := (j 0).isLt; omega⟩ 128 ⟨(j 0).val % 16, Nat.mod_lt _ (by decide)⟩ (j 1)
def yEnd (v391 : Vec Ideal S1024x1024 .f32) (v392 : FVec Ideal S1024x1024 .bf16) (v413 : FVec Ideal S1024x1024 .f32) (x10 : Vec Ideal S16x1024 .bf16) (x11 : Vec Ideal S1024x16 .bf16) (x12 : Vec Ideal S16x1024 .f32) (h0 : Vec Ideal S128x1024 .f32) : Vec Ideal S1024x1024 .f32 :=
  fun j => yM (k0_pay419 v392 x11) (k0_pay9 x12) (k0_pay418 v392 x10) (k0_pay416 v413) (k0_pay417 v391 v413) h0
    ⟨(j 0).val / 128, by have : (j 0).val < 1024 := (j 0).isLt; omega⟩ ((j 0).val % 128) (j 1)

set_option maxHeartbeats 4000000 in
theorem part83 (v391 : Vec Ideal S1024x1024 .f32) (v392 : FVec Ideal S1024x1024 .bf16) (v413 : FVec Ideal S1024x1024 .f32) (v414 : Vec Ideal S1024x1024 .f32)
  (x10 : Vec Ideal S16x1024 .bf16) (x11 : Vec Ideal S1024x16 .bf16) (x12 : Vec Ideal S16x1024 .f32) (x13 : Vec Ideal S1x1024 .f32) (z xc : Vec Ideal S1024x1024 .f32) (h0 : Vec Ideal S128x1024 .f32)
  (E : Set ℕ) (K : _ → sProp 𝕄I) :
   iprop(owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg23 fullShare z ∗ owns (c : Thread nD τ) arg24 fullShare xc ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare h0 ∗ (iprop(owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg23 fullShare z ∗ owns (c : Thread nD τ) arg24 fullShare xc ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare (hEnd v391 v392 v413 x10 x12 h0)) -∗ K ⟨k0_pay429 (yEnd v391 v392 v413 x10 x11 x12 h0) x13 xc, z, k0_pay430 (F := Ideal)⟩))
   ⊢ wp frame (wpE (defs₀ (F := Ideal)) Variants.none c none) E (k0_part83 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414) K := by
  simp only [k0_part83_eq_skeleton]; unfold k0_part83_skel
  unfold owns
  iintro ⟨⟨%f10, %hf10, H10⟩, ⟨%f11, %hf11, H11⟩, ⟨%f12, %hf12, H12⟩, ⟨%f13, %hf13, H13⟩, ⟨%fz, %hfz, HZ⟩, ⟨%fx, %hfx, HX⟩, ⟨%d25, %f25, -, H25⟩, ⟨%d26, %f26, -, H26⟩, ⟨%d27, %f27, -, H27⟩, ⟨%d28, %f28, -, H28⟩, ⟨%d29, %f29, -, H29⟩, ⟨%f30, %hf30, H30⟩, Hk⟩
  obtain rfl := harg12.eq_unread hf10; obtain rfl := harg13.eq_unread hf11; obtain rfl := harg14.eq_unread hf12; obtain rfl := harg15.eq_unread hf13; obtain rfl := harg23.eq_unread hfz; obtain rfl := harg24.eq_unread hfx
  obtain rfl := harg30.eq_unread hf30
  sl_exec
  sl_step
  have e25 : arg25.view.read (Elt Ideal) (arg25.view.writes (Elt Ideal) arg25.view.junk (part83.sl.H25_1 v413)) = k0_pay416 v413 :=
    rd_store arg25.view _ _ _ _
  have e26 : arg26.view.read (Elt Ideal) (arg26.view.writes (Elt Ideal) arg26.view.junk (part83.sl.H26_1 v391 v413)) = k0_pay417 v391 v413 :=
    rd_store arg26.view _ _ _ _
  have e27 : arg27.view.read (Elt Ideal) (arg27.view.writes (Elt Ideal) arg27.view.junk (part83.sl.H27_1 c arg13 harg13 v392 x11)) = k0_pay419 v392 x11 :=
    (rd_store arg27.view _ _ _ _).trans (congrArg (k0_pay419 v392) (rd_unread harg13 _ x11))
  have hp := pb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414
          (View.readAt (Elt Ideal) arg12.view (Rect.unit (s := S16x1024) ![0, 0] S16x1024.size inb_S16x1024_S16x1024_0_0).toLoadRect (harg12.unread x10))
          (harg14.unread x12) (arg25.view.writes (Elt Ideal) arg25.view.junk (part83.sl.H25_1 v413))
          (arg26.view.writes (Elt Ideal) arg26.view.junk (part83.sl.H26_1 v391 v413))
          (arg27.view.writes (Elt Ideal) arg27.view.junk (part83.sl.H27_1 c arg13 harg13 v392 x11))
          f28 f29 (harg30.unread h0) 8 le_rfl
  have e12 : k0_pay418 v392 (View.readAt (Elt Ideal) arg12.view (Rect.unit (s := S16x1024) ![0, 0] S16x1024.size inb_S16x1024_S16x1024_0_0).toLoadRect (harg12.unread x10)) = k0_pay418 v392 x10 :=
    congrArg (k0_pay418 v392) (rd_unread harg12 _ x10)
  rw [e25, e26, e27, harg14.read_unread, harg30.read_unread, e12] at hp
  obtain ⟨hp30, hp28⟩ := hp
  have e439 : part83.sl.v439 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 x10 x11 x12 h0 f28 f29 = yEnd v391 v392 v413 x10 x11 x12 h0 := by
    refine (rd_full arg28.view _ _).trans (funext fun j => ?_)
    have hj : j = ix2 (rowM ⟨(j 0).val / 128, by have : (j 0).val < 1024 := (j 0).isLt; omega⟩ ((j 0).val % 128)) (j 1) := by
      have h1 : rowM ⟨(j 0).val / 128, by have : (j 0).val < 1024 := (j 0).isLt; omega⟩ ((j 0).val % 128) = j 0 := Fin.ext (by
        have : (j 0).val < 1024 := (j 0).isLt
        show (128 * ((j 0).val / 128) + (j 0).val % 128) % 1024 = (j 0).val
        omega)
      rw [h1]; exact eq_ix2 j
    have h2 := hp28 ⟨(j 0).val / 128, by have : (j 0).val < 1024 := (j 0).isLt; omega⟩ ((j 0).val % 128) (j 1) (by omega)
    exact (congrArg _ hj).trans h2
  rw [e439, rd_unread harg15, rd_unread harg24, rd_unread harg23]
  iapply Hk
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; exact harg14.read_unread _
  isplitl [H13]
  · iexists _; isplitr; swap; · iexact H13
    ipureintro; exact harg15.read_unread _
  isplitl [HZ]
  · iexists _; isplitr; swap; · iexact HZ
    ipureintro; exact harg23.read_unread _
  isplitl [HX]
  · iexists _; isplitr; swap; · iexact HX
    ipureintro; exact harg24.read_unread _
  isplitl [H25]
  · iexists _; iexists _; isplitr; swap; · iexact H25
    ipureintro; rfl
  isplitl [H26]
  · iexists _; iexists _; isplitr; swap; · iexact H26
    ipureintro; rfl
  isplitl [H27]
  · iexists _; iexists _; isplitr; swap; · iexact H27
    ipureintro; rfl
  isplitl [H28]
  · iexists _; iexists _; isplitr; swap; · iexact H28
    ipureintro; rfl
  isplitl [H29]
  · iexists _; iexists _; isplitr; swap; · iexact H29
    ipureintro; rfl
  iexists _; isplitr; swap; · iexact H30
  ipureintro
  funext j
  have hj : j = ix2 ⟨16 * ((j 0).val / 16) + (j 0).val % 16, by have : (j 0).val < 128 := (j 0).isLt; omega⟩ (j 1) := by
    have h1 : (⟨16 * ((j 0).val / 16) + (j 0).val % 16, by have : (j 0).val < 128 := (j 0).isLt; omega⟩ : Fin 128) = j 0 := Fin.ext (by
      show 16 * ((j 0).val / 16) + (j 0).val % 16 = (j 0).val
      omega)
    rw [h1]; exact eq_ix2 j
  have h2 := hp30 ⟨(j 0).val / 16, by have : (j 0).val < 128 := (j 0).isLt; omega⟩ ⟨(j 0).val % 16, Nat.mod_lt _ (by decide)⟩ (j 1)
  exact (congrArg _ hj).trans h2

end Cert.KernelIdeal

end
-- ==== Proof.BodyDefs.lean ====
/- The states a point goes through, and the scan stated for a run of the body. -/
module

public import proofs.«01_k».proof.Proof.Part83

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

/-- The rows `8..135` of each block of the window filled with the projected inputs. -/
def fillX (x0 : Vec Ideal S8x128x1024 .bf16) (x1 : Vec Ideal S1024x512 .bf16) (x2 : Vec Ideal S1x512 .f32) (x3 : Vec Ideal S512x1024 .bf16) (X : Vec Ideal S8x136x1024 .f32) : Vec Ideal S8x136x1024 .f32 :=
  (upd (s := S8x136x1024) ![7, 8, 0] S1x128x1024.size (k0_pay382 (k0_pay373 x0 x1 x2 x3)) (upd (s := S8x136x1024) ![6, 8, 0] S1x128x1024.size (k0_pay381 (k0_pay373 x0 x1 x2 x3)) (upd (s := S8x136x1024) ![5, 8, 0] S1x128x1024.size (k0_pay380 (k0_pay373 x0 x1 x2 x3)) (upd (s := S8x136x1024) ![4, 8, 0] S1x128x1024.size (k0_pay379 (k0_pay373 x0 x1 x2 x3)) (upd (s := S8x136x1024) ![3, 8, 0] S1x128x1024.size (k0_pay378 (k0_pay373 x0 x1 x2 x3)) (upd (s := S8x136x1024) ![2, 8, 0] S1x128x1024.size (k0_pay377 (k0_pay373 x0 x1 x2 x3)) (upd (s := S8x136x1024) ![1, 8, 0] S1x128x1024.size (k0_pay376 x0 x1 x2 x3) (upd (s := S8x136x1024) ![0, 8, 0] S1x128x1024.size (k0_pay375 x0 x1 x2 x3) X))))))))

/-- The first rows of each block of the window zeroed. -/
def zeroX (X : Vec Ideal S8x136x1024 .f32) : Vec Ideal S8x136x1024 .f32 :=
  (upd (s := S8x136x1024) ![7, 0, 0] S1x8x1024.size (k0_pay371 (F := Ideal)) (upd (s := S8x136x1024) ![6, 0, 0] S1x8x1024.size (k0_pay370 (F := Ideal)) (upd (s := S8x136x1024) ![5, 0, 0] S1x8x1024.size (k0_pay369 (k0_pay8 (F := Ideal))) (upd (s := S8x136x1024) ![4, 0, 0] S1x8x1024.size (k0_pay7 (F := Ideal)) (upd (s := S8x136x1024) ![3, 0, 0] S1x8x1024.size (k0_pay6 (F := Ideal)) (upd (s := S8x136x1024) ![2, 0, 0] S1x8x1024.size (k0_pay5 (F := Ideal)) (upd (s := S8x136x1024) ![1, 0, 0] S1x8x1024.size (k0_pay4 (F := Ideal)) (upd (s := S8x136x1024) ![0, 0, 0] S1x8x1024.size (k0_pay3 (F := Ideal)) X))))))))

/-- The window after the last rows of block 0 have moved to its front. -/
def T0 (S : Vec Ideal S8x136x1024 .f32) : Vec Ideal S8x136x1024 .f32 := (upd (s := S8x136x1024) ![0, 0, 0] S1x8x1024.size (k0_pay387 (k0_pay383 (ldw (s := S8x136x1024) ![0, 0, 0] S1x136x1024.size inb_S8x136x1024_S1x136x1024_0_0_0 S))) S)

/-- The window after the last rows of block 1 have moved to its front. -/
def T1 (S : Vec Ideal S8x136x1024 .f32) : Vec Ideal S8x136x1024 .f32 := (upd (s := S8x136x1024) ![1, 0, 0] S1x8x1024.size (k0_pay390 (k0_pay388 (ldw (s := S8x136x1024) ![1, 0, 0] S1x136x1024.size inb_S8x136x1024_S1x136x1024_1_0_0 S))) (T0 S))

/-- The window after the last rows of block 2 have moved to its front. -/
def T2 (S : Vec Ideal S8x136x1024 .f32) : Vec Ideal S8x136x1024 .f32 := (upd (s := S8x136x1024) ![2, 0, 0] S1x8x1024.size (k0_pay393 (ldw (s := S8x136x1024) ![2, 0, 0] S1x136x1024.size inb_S8x136x1024_S1x136x1024_2_0_0 (T1 S))) (T1 S))

/-- The window after the last rows of block 3 have moved to its front. -/
def T3 (S : Vec Ideal S8x136x1024 .f32) : Vec Ideal S8x136x1024 .f32 := (upd (s := S8x136x1024) ![3, 0, 0] S1x8x1024.size (k0_pay397 (k0_pay396 (ldw (s := S8x136x1024) ![3, 0, 0] S1x136x1024.size inb_S8x136x1024_S1x136x1024_3_0_0 (T1 S)))) (T2 S))

/-- The window after the last rows of block 4 have moved to its front. -/
def T4 (S : Vec Ideal S8x136x1024 .f32) : Vec Ideal S8x136x1024 .f32 := (upd (s := S8x136x1024) ![4, 0, 0] S1x8x1024.size (k0_pay400 (k0_pay398 (ldw (s := S8x136x1024) ![4, 0, 0] S1x136x1024.size inb_S8x136x1024_S1x136x1024_4_0_0 (T2 S)))) (T3 S))

/-- The window after the last rows of block 5 have moved to its front. -/
def T5 (S : Vec Ideal S8x136x1024 .f32) : Vec Ideal S8x136x1024 .f32 := (upd (s := S8x136x1024) ![5, 0, 0] S1x8x1024.size (k0_pay404 (k0_pay401 (ldw (s := S8x136x1024) ![5, 0, 0] S1x136x1024.size inb_S8x136x1024_S1x136x1024_5_0_0 (T3 S)))) (T4 S))

/-- The window after the last rows of block 6 have moved to its front. -/
def T6 (S : Vec Ideal S8x136x1024 .f32) : Vec Ideal S8x136x1024 .f32 := (upd (s := S8x136x1024) ![6, 0, 0] S1x8x1024.size (k0_pay409 (k0_pay405 (ldw (s := S8x136x1024) ![6, 0, 0] S1x136x1024.size inb_S8x136x1024_S1x136x1024_6_0_0 (T4 S)))) (T5 S))

/-- The window after the last rows of block 7 have moved to its front. -/
def T7 (S : Vec Ideal S8x136x1024 .f32) : Vec Ideal S8x136x1024 .f32 := (upd (s := S8x136x1024) ![7, 0, 0] S1x8x1024.size (k0_pay413 (k0_pay410 (ldw (s := S8x136x1024) ![7, 0, 0] S1x136x1024.size inb_S8x136x1024_S1x136x1024_7_0_0 (T5 S)))) (T6 S))

/-- The convolved and gated rows after block 0. -/
def C0 (S : Vec Ideal S8x136x1024 .f32) (x5 : Vec Ideal S4x1024 .f32) (x6 : Vec Ideal S1x1024 .f32) (X : Vec Ideal S1024x1024 .f32) : Vec Ideal S1024x1024 .f32 := (upd (s := S1024x1024) ![0, 0] S128x1024.size (k0_pay386 (k0_pay383 (ldw (s := S8x136x1024) ![0, 0, 0] S1x136x1024.size inb_S8x136x1024_S1x136x1024_0_0_0 S)) (k0_pay384 x6) (k0_pay385 (ldw (s := S8x136x1024) ![0, 0, 0] S1x136x1024.size inb_S8x136x1024_S1x136x1024_0_0_0 S)) (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) X)

/-- The convolved and gated rows after block 1. -/
def C1 (S : Vec Ideal S8x136x1024 .f32) (x5 : Vec Ideal S4x1024 .f32) (x6 : Vec Ideal S1x1024 .f32) (X : Vec Ideal S1024x1024 .f32) : Vec Ideal S1024x1024 .f32 := (upd (s := S1024x1024) ![128, 0] S128x1024.size (k0_pay389 (k0_pay388 (ldw (s := S8x136x1024) ![1, 0, 0] S1x136x1024.size inb_S8x136x1024_S1x136x1024_1_0_0 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (C0 S x5 x6 X))

/-- The convolved and gated rows after block 2. -/
def C2 (S : Vec Ideal S8x136x1024 .f32) (x5 : Vec Ideal S4x1024 .f32) (x6 : Vec Ideal S1x1024 .f32) (X : Vec Ideal S1024x1024 .f32) : Vec Ideal S1024x1024 .f32 := (upd (s := S1024x1024) ![256, 0] S128x1024.size (k0_pay392 (ldw (s := S8x136x1024) ![2, 0, 0] S1x136x1024.size inb_S8x136x1024_S1x136x1024_2_0_0 (T1 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (C1 S x5 x6 X))

/-- The convolved and gated rows after block 3. -/
def C3 (S : Vec Ideal S8x136x1024 .f32) (x5 : Vec Ideal S4x1024 .f32) (x6 : Vec Ideal S1x1024 .f32) (X : Vec Ideal S1024x1024 .f32) : Vec Ideal S1024x1024 .f32 := (upd (s := S1024x1024) ![384, 0] S128x1024.size (k0_pay395 (ldw (s := S8x136x1024) ![3, 0, 0] S1x136x1024.size inb_S8x136x1024_S1x136x1024_3_0_0 (T1 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (C2 S x5 x6 X))

/-- The convolved and gated rows after block 4. -/
def C4 (S : Vec Ideal S8x136x1024 .f32) (x5 : Vec Ideal S4x1024 .f32) (x6 : Vec Ideal S1x1024 .f32) (X : Vec Ideal S1024x1024 .f32) : Vec Ideal S1024x1024 .f32 := (upd (s := S1024x1024) ![512, 0] S128x1024.size (k0_pay399 (ldw (s := S8x136x1024) ![4, 0, 0] S1x136x1024.size inb_S8x136x1024_S1x136x1024_4_0_0 (T2 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (C3 S x5 x6 X))

/-- The convolved and gated rows after block 5. -/
def C5 (S : Vec Ideal S8x136x1024 .f32) (x5 : Vec Ideal S4x1024 .f32) (x6 : Vec Ideal S1x1024 .f32) (X : Vec Ideal S1024x1024 .f32) : Vec Ideal S1024x1024 .f32 := (upd (s := S1024x1024) ![640, 0] S128x1024.size (k0_pay403 (k0_pay402 (ldw (s := S8x136x1024) ![5, 0, 0] S1x136x1024.size inb_S8x136x1024_S1x136x1024_5_0_0 (T3 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5))) (C4 S x5 x6 X))

/-- The convolved and gated rows after block 6. -/
def C6 (S : Vec Ideal S8x136x1024 .f32) (x5 : Vec Ideal S4x1024 .f32) (x6 : Vec Ideal S1x1024 .f32) (X : Vec Ideal S1024x1024 .f32) : Vec Ideal S1024x1024 .f32 := (upd (s := S1024x1024) ![768, 0] S128x1024.size (k0_pay408 (k0_pay406 (ldw (s := S8x136x1024) ![6, 0, 0] S1x136x1024.size inb_S8x136x1024_S1x136x1024_6_0_0 (T4 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (k0_pay407 (ldw (s := S8x136x1024) ![6, 0, 0] S1x136x1024.size inb_S8x136x1024_S1x136x1024_6_0_0 (T4 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (Scalar.ofBits .f32 0x3F800000#32)) (C5 S x5 x6 X))

/-- The convolved and gated rows after block 7. -/
def C7 (S : Vec Ideal S8x136x1024 .f32) (x5 : Vec Ideal S4x1024 .f32) (x6 : Vec Ideal S1x1024 .f32) (X : Vec Ideal S1024x1024 .f32) : Vec Ideal S1024x1024 .f32 := (upd (s := S1024x1024) ![896, 0] S128x1024.size (k0_pay412 (k0_pay411 (ldw (s := S8x136x1024) ![7, 0, 0] S1x136x1024.size inb_S8x136x1024_S1x136x1024_7_0_0 (T5 S)) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) (Scalar.ofBits .f32 0x00000000#32)) (C6 S x5 x6 X))

/-- What a point leaves in its output window, from the filled window `S`, the carried state `h0` and the gates `z`. -/
def outS (xc z : Vec Ideal S1024x1024 .f32) (x7 : Vec Ideal S1024x32 .bf16) (x8 : Vec Ideal S32x1024 .bf16) (x9 : Vec Ideal S1x1024 .f32) (x10 : Vec Ideal S16x1024 .bf16) (x11 : Vec Ideal S1024x16 .bf16) (x12 : Vec Ideal S16x1024 .f32) (x13 : Vec Ideal S1x1024 .f32) (x14 : Vec Ideal S1024x512 .bf16) (x15 x16 : Vec Ideal S1x512 .f32) (x17 : Vec Ideal S512x1024 .bf16) (x18 : Vec Ideal S1x1024 .f32) (h0 : Vec Ideal S128x1024 .f32) : Vec Ideal S8x128x1024 .f32 :=
  k0_pay1 (k0_pay431 (k0_pay429 (yEnd xc (k0_pay414 xc) (k0_pay415 xc x7 x8 x9) x10 x11 x12 h0) x13 xc) z (k0_pay430 (F := Ideal)) x14 x15 x16 x17 x18)

/-- The state a point leaves. -/
def hS (xc : Vec Ideal S1024x1024 .f32) (x7 : Vec Ideal S1024x32 .bf16) (x8 : Vec Ideal S32x1024 .bf16) (x9 : Vec Ideal S1x1024 .f32) (x10 : Vec Ideal S16x1024 .bf16) (x12 : Vec Ideal S16x1024 .f32) (h0 : Vec Ideal S128x1024 .f32) : Vec Ideal S128x1024 .f32 :=
  hEnd xc (k0_pay414 xc) (k0_pay415 xc x7 x8 x9) x10 x12 h0

set_option maxHeartbeats 4000000 in
/-- The scan, stated for a run of the whole body. -/
theorem part83c (v391 : Vec Ideal S1024x1024 .f32) (v392 : FVec Ideal S1024x1024 .bf16) (v413 : FVec Ideal S1024x1024 .f32) (v414 : Vec Ideal S1024x1024 .f32)
  (x10 : Vec Ideal S16x1024 .bf16) (x11 : Vec Ideal S1024x16 .bf16) (x12 : Vec Ideal S16x1024 .f32) (x13 : Vec Ideal S1x1024 .f32) (z xc : Vec Ideal S1024x1024 .f32) (h0 : Vec Ideal S128x1024 .f32) (d25 : Vec Ideal S1024x1024 .f32) (d26 : Vec Ideal S1024x1024 .f32) (d27 : Vec Ideal S1024x16 .f32) (d28 : Vec Ideal S1024x1024 .f32) (d29 : Vec Ideal S2048x1024 .bf16)
  (E : Set ℕ) :
   iprop(owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg23 fullShare z ∗ owns (c : Thread nD τ) arg24 fullShare xc ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare h0)
   ⊢ wp frame (wpE (defs₀ (F := Ideal)) Variants.none c none) E (k0_part83 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414)
     (fun r => (iprop(⌜r = ⟨k0_pay429 (yEnd v391 v392 v413 x10 x11 x12 h0) x13 xc, z, k0_pay430 (F := Ideal)⟩⌝ ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg23 fullShare z ∗ owns (c : Thread nD τ) arg24 fullShare xc ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare (hEnd v391 v392 v413 x10 x12 h0)) : sProp 𝕄I)) := by
  refine Idealize.SL.BI.BIBase.Entails.trans ?_ (part83 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 x10 x11 x12 x13 z xc h0 E _)
  iintro ⟨H12, H13, H14, H15, H23, H24, H25, H26, H27, H28, H29, H30⟩
  isplitl [H12]; · iexact H12
  isplitl [H13]; · iexact H13
  isplitl [H14]; · iexact H14
  isplitl [H15]; · iexact H15
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexact H30
  iintro H
  isplitr
  · ipureintro; rfl
  iexact H

end Cert.KernelIdeal

end
-- ==== Proof.Rows.lean ====
/- The mathematics of the block, row by row over the extended reals: what each time step's row of each sequence
   comes to, from the arrays the kernel is launched on. -/
module

public import Idealize.ShloMosaic.Lib.Pointwise

@[expose] public section

noncomputable section

namespace Cert.Rows

open Idealize.ShloMosaic

/-- A matrix of extended reals. -/
abbrev A2 (a b : ℕ) := (⟨2, ![a, b]⟩ : Shape).Idx → EReal
/-- A box of extended reals. -/
abbrev A3 (a b c : ℕ) := (⟨3, ![a, b, c]⟩ : Shape).Idx → EReal

/-- `v` over one plus the exponential of `-v`. -/
def siluE (v : EReal) : EReal := Ideal.div v (1 + Ideal.exp (0 - v))

/-- The softplus. -/
def softE (s : EReal) : EReal := max s 0 + Ideal.log (1 + Ideal.exp (0 - FloatOps.absf (F := Ideal) (φ := .f32) s))

/-- The layer normalisation of a row. -/
def normE (m lg lb : Fin 512 → EReal) (k : Fin 512) : EReal :=
  (m k - Ideal.div (∑ x, m x) (Ideal.ofBits FTy.f32 1140850688#32))
    * Ideal.rsqrt (Ideal.div (∑ x, (m x - Ideal.div (∑ x, m x) (Ideal.ofBits FTy.f32 1140850688#32)) * (m x - Ideal.div (∑ x, m x) (Ideal.ofBits FTy.f32 1140850688#32)))
        (Ideal.ofBits FTy.f32 1140850688#32) + Ideal.ofBits FTy.f32 925353388#32) * lg k + lb k

/-- The arrays of the launch. -/
structure Arrs where
  x : A3 8 2048 1024
  wd : A2 1024 512
  bdn : A2 1 512
  wia : A2 512 1024
  wib : A2 512 1024
  cw : A2 4 1024
  cb : A2 1 1024
  wx1 : A2 1024 32
  wdt : A2 32 1024
  bdt : A2 1 1024
  wbt : A2 16 1024
  wc : A2 1024 16
  an : A2 16 1024
  dsk : A2 1 1024
  wo : A2 1024 512
  lng : A2 1 512
  lnb : A2 1 512
  wu : A2 512 1024
  bup : A2 1 1024

/-- A time step as a row number. -/
def at' (l : ℕ) : Fin 2048 := ⟨l % 2048, Nat.mod_lt _ (by decide)⟩

variable (o : Arrs)

/-- The down projection of a row. -/
def hdn (g : Fin 8) (l : ℕ) (k : Fin 512) : EReal := ∑ q, o.x (ix3 g (at' l) q) * o.wd (ix2 q k) + o.bdn (ix2 0 k)
/-- The row the convolution reads. -/
def ina (g : Fin 8) (l : ℕ) (d : Fin 1024) : EReal := ∑ k, hdn o g l k * o.wia (ix2 k d)
/-- The row that gates. -/
def zz (g : Fin 8) (l : ℕ) (d : Fin 1024) : EReal := ∑ k, hdn o g l k * o.wib (ix2 k d)
/-- The rows with eight zero rows in front. -/
def inP (g : Fin 8) (p : ℕ) (d : Fin 1024) : EReal := if p < 8 then 0 else ina o g (p - 8) d
/-- The causal convolution, gated by itself. -/
def xc (g : Fin 8) (l : ℕ) (d : Fin 1024) : EReal :=
  siluE (o.cb (ix2 0 d) + inP o g (l + 5) d * o.cw (ix2 0 d) + inP o g (l + 6) d * o.cw (ix2 1 d)
    + inP o g (l + 7) d * o.cw (ix2 2 d) + inP o g (l + 8) d * o.cw (ix2 3 d))
/-- The step sizes. -/
def dt (g : Fin 8) (l : ℕ) (d : Fin 1024) : EReal :=
  softE (∑ k, (∑ q, xc o g l q * o.wx1 (ix2 q k)) * o.wdt (ix2 k d) + o.bdt (ix2 0 d))
/-- What enters the state. -/
def bt (g : Fin 8) (l : ℕ) (n : Fin 16) : EReal := ∑ q, o.wbt (ix2 n q) * xc o g l q
/-- What reads the state. -/
def cc (g : Fin 8) (l : ℕ) (n : Fin 16) : EReal := ∑ q, xc o g l q * o.wc (ix2 q n)
/-- The state after `l` steps. -/
def st (g : Fin 8) : ℕ → Fin 16 → Fin 1024 → EReal
  | 0, _, _ => 0
  | l + 1, n, d => st g l n d * Ideal.exp (dt o g l d * o.an (ix2 n d)) + dt o g l d * xc o g l d * bt o g l n
/-- The scan's output. -/
def yy (g : Fin 8) (l : ℕ) (d : Fin 1024) : EReal := ∑ n, cc o g l n * st o g (l + 1) n d
/-- The output projection of the gated row. -/
def mm (g : Fin 8) (l : ℕ) (k : Fin 512) : EReal :=
  ∑ q, (yy o g l q + o.dsk (ix2 0 q) * xc o g l q) * siluE (zz o g l q) * o.wo (ix2 q k)
/-- The result's row. -/
def out (g : Fin 8) (l : ℕ) (d : Fin 1024) : EReal :=
  ∑ k, normE (mm o g l) (fun k => o.lng (ix2 0 k)) (fun k => o.lnb (ix2 0 k)) k * o.wu (ix2 k d) + o.bup (ix2 0 d)

/-- The result. -/
def outA : A3 8 2048 1024 := fun j => out o (j 0) (j 1).val (j 2)

/-! ### The two programs' ways of writing the same numbers -/

theorem absf_nonneg (s : EReal) : 0 ≤ FloatOps.absf (F := Ideal) (φ := .f32) s := by
  show (0 : EReal) ≤ max s (-s)
  rcases le_total 0 s with h | h
  · exact le_max_of_le_left h
  · exact le_max_of_le_right (by simpa using EReal.neg_le_neg_iff.2 h)

theorem exp_nonneg (s : EReal) : 0 ≤ Ideal.exp s := by
  induction s with
  | bot => exact le_refl _
  | top => exact le_top
  | coe r => exact EReal.coe_nonneg.2 (Real.exp_pos r).le

theorem one_add_exp_ne (s : EReal) : 1 + Ideal.exp s ≠ 0 := by
  have h : (0 : EReal) < 1 + Ideal.exp s := lt_of_lt_of_le zero_lt_one (le_add_of_nonneg_right (exp_nonneg s))
  exact h.ne'

/-- A quotient is a product with the reciprocal. -/
theorem silu_eq (v : EReal) : v * Ideal.div 1 (1 + Ideal.exp (-v)) = siluE v := by
  unfold siluE Ideal.div
  rw [zero_sub, if_neg (one_add_exp_ne _), if_neg (one_add_exp_ne _), one_mul]

/-- The two softpluses. -/
theorem soft_eq (s : EReal) : max s 0 + Ideal.log1p (Ideal.exp (-FloatOps.absf (F := Ideal) (φ := .f32) s)) = softE s := by
  unfold softE Ideal.log1p
  rw [zero_sub]

/-- Two to the power `y / log 2` is the exponential of `y`. -/
theorem exp2_eq (y : EReal) : Ideal.exp2 (y * (((Real.log 2)⁻¹ : ℝ) : EReal)) = Ideal.exp y := by
  have h2 : 0 < Real.log 2 := Real.log_pos (by norm_num)
  induction y with
  | bot => rw [EReal.bot_mul_coe_of_pos (inv_pos.2 h2)]; rfl
  | top => rw [EReal.top_mul_coe_of_pos (inv_pos.2 h2)]; rfl
  | coe r =>
    rw [← EReal.coe_mul]
    show ((Real.rpow 2 (r * (Real.log 2)⁻¹) : ℝ) : EReal) = (Real.exp r : EReal)
    refine congrArg _ ?_
    show (2 : ℝ) ^ (r * (Real.log 2)⁻¹) = _
    rw [Real.rpow_def_of_pos (by norm_num), mul_comm r, ← mul_assoc, mul_inv_cancel₀ h2.ne', one_mul]

/-- The word `512`. -/
theorem ofBits_512 : Ideal.ofBits FTy.f32 1140850688#32 = ((512 : ℝ) : EReal) := by
  simp [Ideal.ofBits, Ideal.ieee, -EReal.coe_mul]; norm_num

/-- A vector of extended reals. -/
abbrev A1 (a : ℕ) := (⟨1, ![a]⟩ : Shape).Idx → EReal

/-- The arrays of the launch, from the arguments. -/
def ofArgs (a0 : A3 8 2048 1024) (a1 : A2 1024 512) (a2 : A1 512) (a3 : A2 512 2048) (a4 : A2 1024 4) (a5 : A1 1024) (a6 : A2 1024 64)
    (a7 : A2 32 1024) (a8 : A1 1024) (a9 : A2 1024 16) (a10 : A1 1024) (a11 : A2 1024 512) (a12 a13 : A1 512) (a14 : A2 512 1024) (a15 : A1 1024) : Arrs where
  x := a0
  wd := a1
  bdn := fun j => a2 (ix1 (j 1))
  wia := fun j => a3 (ix2 (j 0) ⟨(j 1).val, Nat.lt_trans (j 1).isLt (by decide)⟩)
  wib := fun j => a3 (ix2 (j 0) ⟨1024 + (j 1).val, Nat.add_lt_add_left (j 1).isLt 1024⟩)
  cw := fun j => a4 (ix2 (j 1) (j 0))
  cb := fun j => a5 (ix1 (j 1))
  wx1 := fun j => a6 (ix2 (j 0) ⟨(j 1).val, Nat.lt_trans (j 1).isLt (by decide)⟩)
  wdt := a7
  bdt := fun j => a8 (ix1 (j 1))
  wbt := fun j => a6 (ix2 (j 1) ⟨32 + (j 0).val, Nat.lt_trans (Nat.add_lt_add_left (j 0).isLt 32) (by decide)⟩)
  wc := fun j => a6 (ix2 (j 0) ⟨48 + (j 1).val, Nat.add_lt_add_left (j 1).isLt 48⟩)
  an := fun j => -Ideal.exp (a9 (ix2 (j 1) (j 0)))
  dsk := fun j => a10 (ix1 (j 1))
  wo := a11
  lng := fun j => a12 (ix1 (j 1))
  lnb := fun j => a13 (ix1 (j 1))
  wu := a14
  bup := fun j => a15 (ix1 (j 1))

end Cert.Rows

end
-- ==== Proof.KRows.lean ====
/- What a point writes into its two big scratch arrays, read at an index: the window of projected rows and the
   convolved rows. -/
module

public import proofs.«01_k».proof.Proof.BodyDefs
public import proofs.«01_k».proof.Proof.Rows

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

open Cert.Rows

theorem upd_128 {α : Type} (k : ℕ) (w : S1x128x1024.Idx → α) (X : S8x136x1024.Idx → α) (g : Fin 8) (r : Fin 136) (d : Fin 1024) :
    upd (s := S8x136x1024) ![k, 8, 0] S1x128x1024.size w X (ix3 g r d) = if h : g.val = k ∧ 8 ≤ r.val then w (ix3 0 ⟨r.val - 8, by omega⟩ d) else X (ix3 g r d) := by
  unfold upd
  by_cases h : g.val = k ∧ 8 ≤ r.val
  · rw [dif_pos h, dif_pos (fun a => by
      match a with
      | ⟨0, _⟩ => show k ≤ g.val ∧ g.val < k + 1; omega
      | ⟨1, _⟩ => show 8 ≤ r.val ∧ r.val < 8 + 128; omega
      | ⟨2, _⟩ => show 0 ≤ d.val ∧ d.val < 0 + 1024; omega)]
    refine congrArg w (funext fun a => Fin.ext ?_)
    match a with
    | ⟨0, _⟩ => show g.val - k = 0; omega
    | ⟨1, _⟩ => rfl
    | ⟨2, _⟩ => rfl
  · rw [dif_neg h, dif_neg]
    intro hh
    have h0 : k ≤ g.val ∧ g.val < k + 1 := hh 0
    have h1 : 8 ≤ r.val ∧ r.val < 8 + 128 := hh 1
    exact h ⟨by omega, h1.1⟩

theorem upd_8 {α : Type} (k : ℕ) (w : S1x8x1024.Idx → α) (X : S8x136x1024.Idx → α) (g : Fin 8) (r : Fin 136) (d : Fin 1024) :
    upd (s := S8x136x1024) ![k, 0, 0] S1x8x1024.size w X (ix3 g r d) = if h : g.val = k ∧ r.val < 8 then w (ix3 0 ⟨r.val, h.2⟩ d) else X (ix3 g r d) := by
  unfold upd
  by_cases h : g.val = k ∧ r.val < 8
  · rw [dif_pos h, dif_pos (fun a => by
      match a with
      | ⟨0, _⟩ => show k ≤ g.val ∧ g.val < k + 1; omega
      | ⟨1, _⟩ => show 0 ≤ r.val ∧ r.val < 0 + 8; omega
      | ⟨2, _⟩ => show 0 ≤ d.val ∧ d.val < 0 + 1024; omega)]
    refine congrArg w (funext fun a => Fin.ext ?_)
    match a with
    | ⟨0, _⟩ => show g.val - k = 0; omega
    | ⟨1, _⟩ => rfl
    | ⟨2, _⟩ => rfl
  · rw [dif_neg h, dif_neg]
    intro hh
    have h0 : k ≤ g.val ∧ g.val < k + 1 := hh 0
    have h1 : 0 ≤ r.val ∧ r.val < 0 + 8 := hh 1
    exact h ⟨by omega, by omega⟩

theorem upd_c {α : Type} (k : ℕ) (w : S128x1024.Idx → α) (X : S1024x1024.Idx → α) (r : Fin 1024) (d : Fin 1024) :
    upd (s := S1024x1024) ![k, 0] S128x1024.size w X (ix2 r d) = if h : k ≤ r.val ∧ r.val < k + 128 then w (ix2 ⟨r.val - k, by omega⟩ d) else X (ix2 r d) := by
  unfold upd
  by_cases h : k ≤ r.val ∧ r.val < k + 128
  · rw [dif_pos h, dif_pos (fun a => by
      match a with
      | ⟨0, _⟩ => exact h
      | ⟨1, _⟩ => show 0 ≤ d.val ∧ d.val < 0 + 1024; omega)]
    refine congrArg w (funext fun a => ?_)
    match a with
    | ⟨0, _⟩ => rfl
    | ⟨1, _⟩ => rfl
  · rw [dif_neg h, dif_neg]
    intro hh
    exact h (hh 0)

theorem ldw_win (k : ℕ) (hk : k < 8) (inb) (X : Vec Ideal S8x136x1024 .f32) (r : Fin 136) (d : Fin 1024) :
    ldw (s := S8x136x1024) ![k, 0, 0] S1x136x1024.size inb X (ix3 0 r d) = X (ix3 ⟨k, hk⟩ r d) := by
  unfold ldw
  refine congrArg X (funext fun a => Fin.ext ?_)
  match a with
  | ⟨0, _⟩ => rfl
  | ⟨1, _⟩ => show 0 + 1 * r.val = r.val; omega
  | ⟨2, _⟩ => show 0 + 1 * d.val = d.val; omega

theorem ldw_tap (k : ℕ) (hk : k < 4) (inb) (X : Vec Ideal S4x1024 .f32) (d : Fin 1024) :
    ldw (s := S4x1024) ![k, 0] S1x1024.size inb X (ix2 0 d) = X (ix2 ⟨k, hk⟩ d) := by
  unfold ldw
  refine congrArg X (funext fun a => Fin.ext ?_)
  match a with
  | ⟨0, _⟩ => rfl
  | ⟨1, _⟩ => show 0 + 1 * d.val = d.val; omega

theorem zp0 (r : Fin 8) (d : Fin 1024) : k0_pay3 (F := Ideal) (ix3 0 r d) = (0 : EReal) := by
  pointwise [k0_pay3]
theorem zp1 (r : Fin 8) (d : Fin 1024) : k0_pay4 (F := Ideal) (ix3 0 r d) = (0 : EReal) := by
  pointwise [k0_pay4]
theorem zp2 (r : Fin 8) (d : Fin 1024) : k0_pay5 (F := Ideal) (ix3 0 r d) = (0 : EReal) := by
  pointwise [k0_pay5]
theorem zp3 (r : Fin 8) (d : Fin 1024) : k0_pay6 (F := Ideal) (ix3 0 r d) = (0 : EReal) := by
  pointwise [k0_pay6]
theorem zp4 (r : Fin 8) (d : Fin 1024) : k0_pay7 (F := Ideal) (ix3 0 r d) = (0 : EReal) := by
  pointwise [k0_pay7]
theorem zp5 (r : Fin 8) (d : Fin 1024) : k0_pay369 (k0_pay8 (F := Ideal)) (ix3 0 r d) = (0 : EReal) := by
  pointwise [k0_pay369, k0_pay8]
theorem zp6 (r : Fin 8) (d : Fin 1024) : k0_pay370 (F := Ideal) (ix3 0 r d) = (0 : EReal) := by
  pointwise [k0_pay370]
theorem zp7 (r : Fin 8) (d : Fin 1024) : k0_pay371 (F := Ideal) (ix3 0 r d) = (0 : EReal) := by
  pointwise [k0_pay371]

theorem zeroX_apply (X : Vec Ideal S8x136x1024 .f32) (g : Fin 8) (r : Fin 136) (d : Fin 1024) (hr : r.val < 8) : zeroX X (ix3 g r d) = (0 : EReal) := by
  unfold zeroX
  rw [upd_8, upd_8, upd_8, upd_8, upd_8, upd_8, upd_8, upd_8]
  simp only [hr, _root_.and_true]
  simp only [zp0, zp1, zp2, zp3, zp4, zp5, zp6, zp7, dite_eq_ite]
  have := g.isLt
  split_ifs <;> first | rfl | omega

section
variable (x0 : Vec Ideal S8x128x1024 .bf16) (x1 : Vec Ideal S1024x512 .bf16) (x2 : Vec Ideal S1x512 .f32) (x3 : Vec Ideal S512x1024 .bf16) (X : Vec Ideal S8x136x1024 .f32)
theorem fp0 (r : Fin 128) (d : Fin 1024) : k0_pay375 (F := Ideal) x0 x1 x2 x3 (ix3 0 r d) = k0_pay373 (F := Ideal) x0 x1 x2 x3 (ix2 ⟨0 + r.val, by omega⟩ d) := by
  pointwise [k0_pay375, k0_pay373, k0_pay372]
theorem fp1 (r : Fin 128) (d : Fin 1024) : k0_pay376 (F := Ideal) x0 x1 x2 x3 (ix3 0 r d) = k0_pay373 (F := Ideal) x0 x1 x2 x3 (ix2 ⟨128 + r.val, by omega⟩ d) := by
  pointwise [k0_pay376, k0_pay373, k0_pay372]
theorem fp2 (r : Fin 128) (d : Fin 1024) : k0_pay377 (F := Ideal) (k0_pay373 x0 x1 x2 x3) (ix3 0 r d) = k0_pay373 (F := Ideal) x0 x1 x2 x3 (ix2 ⟨256 + r.val, by omega⟩ d) := by
  pointwise [k0_pay377, k0_pay373, k0_pay373, k0_pay372]
theorem fp3 (r : Fin 128) (d : Fin 1024) : k0_pay378 (F := Ideal) (k0_pay373 x0 x1 x2 x3) (ix3 0 r d) = k0_pay373 (F := Ideal) x0 x1 x2 x3 (ix2 ⟨384 + r.val, by omega⟩ d) := by
  pointwise [k0_pay378, k0_pay373, k0_pay373, k0_pay372]
theorem fp4 (r : Fin 128) (d : Fin 1024) : k0_pay379 (F := Ideal) (k0_pay373 x0 x1 x2 x3) (ix3 0 r d) = k0_pay373 (F := Ideal) x0 x1 x2 x3 (ix2 ⟨512 + r.val, by omega⟩ d) := by
  pointwise [k0_pay379, k0_pay373, k0_pay373, k0_pay372]
theorem fp5 (r : Fin 128) (d : Fin 1024) : k0_pay380 (F := Ideal) (k0_pay373 x0 x1 x2 x3) (ix3 0 r d) = k0_pay373 (F := Ideal) x0 x1 x2 x3 (ix2 ⟨640 + r.val, by omega⟩ d) := by
  pointwise [k0_pay380, k0_pay373, k0_pay373, k0_pay372]
theorem fp6 (r : Fin 128) (d : Fin 1024) : k0_pay381 (F := Ideal) (k0_pay373 x0 x1 x2 x3) (ix3 0 r d) = k0_pay373 (F := Ideal) x0 x1 x2 x3 (ix2 ⟨768 + r.val, by omega⟩ d) := by
  pointwise [k0_pay381, k0_pay373, k0_pay373, k0_pay372]
theorem fp7 (r : Fin 128) (d : Fin 1024) : k0_pay382 (F := Ideal) (k0_pay373 x0 x1 x2 x3) (ix3 0 r d) = k0_pay373 (F := Ideal) x0 x1 x2 x3 (ix2 ⟨896 + r.val, by omega⟩ d) := by
  pointwise [k0_pay382, k0_pay373, k0_pay373, k0_pay372]

/-- The filled window. -/
theorem fillX_apply (g : Fin 8) (r : Fin 136) (d : Fin 1024) :
    fillX x0 x1 x2 x3 X (ix3 g r d) = if h : 8 ≤ r.val then k0_pay373 (F := Ideal) x0 x1 x2 x3 (ix2 ⟨128 * g.val + (r.val - 8), by omega⟩ d) else X (ix3 g r d) := by
  unfold fillX
  rw [upd_128, upd_128, upd_128, upd_128, upd_128, upd_128, upd_128, upd_128]
  by_cases h : 8 ≤ r.val
  · simp only [h, _root_.and_true, dite_true, fp0, fp1, fp2, fp3, fp4, fp5, fp6, fp7]
    have hg := g.isLt
    split_ifs with h7 h6 h5 h4 h3 h2 h1 h0
    all_goals first | (exfalso; omega) | skip
    all_goals exact congrArg (fun q => k0_pay373 (F := Ideal) x0 x1 x2 x3 (ix2 q d)) (Fin.ext (by dsimp only; omega))
  · simp only [h, _root_.and_false, dite_false]
end

section
variable (S : Vec Ideal S8x136x1024 .f32)
theorem tp0 (w : Vec Ideal S1x136x1024 .f32) (r : Fin 8) (d : Fin 1024) : k0_pay387 (F := Ideal) (k0_pay383 w) (ix3 0 r d) = w (ix3 0 ⟨128 + r.val, by omega⟩ d) := by
  pointwise [k0_pay387, k0_pay383, k0_pay391, k0_pay394]
theorem tp1 (w : Vec Ideal S1x136x1024 .f32) (r : Fin 8) (d : Fin 1024) : k0_pay390 (F := Ideal) (k0_pay388 w) (ix3 0 r d) = w (ix3 0 ⟨128 + r.val, by omega⟩ d) := by
  pointwise [k0_pay390, k0_pay388, k0_pay391, k0_pay394]
theorem tp2 (w : Vec Ideal S1x136x1024 .f32) (r : Fin 8) (d : Fin 1024) : k0_pay393 (F := Ideal) w (ix3 0 r d) = w (ix3 0 ⟨128 + r.val, by omega⟩ d) := by
  pointwise [k0_pay393, k0_pay391, k0_pay394]
theorem tp3 (w : Vec Ideal S1x136x1024 .f32) (r : Fin 8) (d : Fin 1024) : k0_pay397 (F := Ideal) (k0_pay396 w) (ix3 0 r d) = w (ix3 0 ⟨128 + r.val, by omega⟩ d) := by
  pointwise [k0_pay397, k0_pay396, k0_pay391, k0_pay394]
theorem tp4 (w : Vec Ideal S1x136x1024 .f32) (r : Fin 8) (d : Fin 1024) : k0_pay400 (F := Ideal) (k0_pay398 w) (ix3 0 r d) = w (ix3 0 ⟨128 + r.val, by omega⟩ d) := by
  pointwise [k0_pay400, k0_pay398, k0_pay391, k0_pay394]
theorem tp5 (w : Vec Ideal S1x136x1024 .f32) (r : Fin 8) (d : Fin 1024) : k0_pay404 (F := Ideal) (k0_pay401 w) (ix3 0 r d) = w (ix3 0 ⟨128 + r.val, by omega⟩ d) := by
  pointwise [k0_pay404, k0_pay401, k0_pay391, k0_pay394]
theorem tp6 (w : Vec Ideal S1x136x1024 .f32) (r : Fin 8) (d : Fin 1024) : k0_pay409 (F := Ideal) (k0_pay405 w) (ix3 0 r d) = w (ix3 0 ⟨128 + r.val, by omega⟩ d) := by
  pointwise [k0_pay409, k0_pay405, k0_pay391, k0_pay394]
theorem tp7 (w : Vec Ideal S1x136x1024 .f32) (r : Fin 8) (d : Fin 1024) : k0_pay413 (F := Ideal) (k0_pay410 w) (ix3 0 r d) = w (ix3 0 ⟨128 + r.val, by omega⟩ d) := by
  pointwise [k0_pay413, k0_pay410, k0_pay391, k0_pay394]

/-- The window once block 0's last rows have moved to its front. -/
theorem T0_apply (g : Fin 8) (r : Fin 136) (d : Fin 1024) :
    T0 S (ix3 g r d) = if h : g.val ≤ 0 ∧ r.val < 8 then S (ix3 g ⟨128 + r.val, by omega⟩ d) else S (ix3 g r d) := by
  unfold T0
  rw [upd_8]
  by_cases h : g.val = 0 ∧ r.val < 8
  · obtain rfl : g = ⟨0, by decide⟩ := Fin.ext h.1
    rw [dif_pos h, dif_pos ⟨le_refl _, h.2⟩, tp0, ldw_win 0 (by decide)]
  · rw [dif_neg h, dif_neg (fun hh => h ⟨by omega, hh.2⟩)]

/-- The window once block 1's last rows have moved to its front. -/
theorem T1_apply (g : Fin 8) (r : Fin 136) (d : Fin 1024) :
    T1 S (ix3 g r d) = if h : g.val ≤ 1 ∧ r.val < 8 then S (ix3 g ⟨128 + r.val, by omega⟩ d) else S (ix3 g r d) := by
  unfold T1
  rw [upd_8]
  by_cases h : g.val = 1 ∧ r.val < 8
  · obtain rfl : g = ⟨1, by decide⟩ := Fin.ext h.1
    rw [dif_pos h, dif_pos ⟨le_refl _, h.2⟩, tp1, ldw_win 1 (by decide)]
  · rw [dif_neg h, T0_apply]
    by_cases h2 : g.val ≤ 0 ∧ r.val < 8
    · rw [dif_pos h2, dif_pos ⟨by omega, h2.2⟩]
    · rw [dif_neg h2, dif_neg (fun hh => by
        rcases Nat.lt_or_ge g.val 1 with hg | hg
        · exact h2 ⟨by omega, hh.2⟩
        · exact h ⟨by omega, hh.2⟩)]

/-- The window once block 2's last rows have moved to its front. -/
theorem T2_apply (g : Fin 8) (r : Fin 136) (d : Fin 1024) :
    T2 S (ix3 g r d) = if h : g.val ≤ 2 ∧ r.val < 8 then S (ix3 g ⟨128 + r.val, by omega⟩ d) else S (ix3 g r d) := by
  unfold T2
  rw [upd_8]
  by_cases h : g.val = 2 ∧ r.val < 8
  · obtain rfl : g = ⟨2, by decide⟩ := Fin.ext h.1
    rw [dif_pos h, dif_pos ⟨le_refl _, h.2⟩, tp2, ldw_win 2 (by decide), T1_apply, dif_neg (by simp)]
  · rw [dif_neg h, T1_apply]
    by_cases h2 : g.val ≤ 1 ∧ r.val < 8
    · rw [dif_pos h2, dif_pos ⟨by omega, h2.2⟩]
    · rw [dif_neg h2, dif_neg (fun hh => by
        rcases Nat.lt_or_ge g.val 2 with hg | hg
        · exact h2 ⟨by omega, hh.2⟩
        · exact h ⟨by omega, hh.2⟩)]

/-- The window once block 3's last rows have moved to its front. -/
theorem T3_apply (g : Fin 8) (r : Fin 136) (d : Fin 1024) :
    T3 S (ix3 g r d) = if h : g.val ≤ 3 ∧ r.val < 8 then S (ix3 g ⟨128 + r.val, by omega⟩ d) else S (ix3 g r d) := by
  unfold T3
  rw [upd_8]
  by_cases h : g.val = 3 ∧ r.val < 8
  · obtain rfl : g = ⟨3, by decide⟩ := Fin.ext h.1
    rw [dif_pos h, dif_pos ⟨le_refl _, h.2⟩, tp3, ldw_win 3 (by decide), T1_apply, dif_neg (by simp)]
  · rw [dif_neg h, T2_apply]
    by_cases h2 : g.val ≤ 2 ∧ r.val < 8
    · rw [dif_pos h2, dif_pos ⟨by omega, h2.2⟩]
    · rw [dif_neg h2, dif_neg (fun hh => by
        rcases Nat.lt_or_ge g.val 3 with hg | hg
        · exact h2 ⟨by omega, hh.2⟩
        · exact h ⟨by omega, hh.2⟩)]

/-- The window once block 4's last rows have moved to its front. -/
theorem T4_apply (g : Fin 8) (r : Fin 136) (d : Fin 1024) :
    T4 S (ix3 g r d) = if h : g.val ≤ 4 ∧ r.val < 8 then S (ix3 g ⟨128 + r.val, by omega⟩ d) else S (ix3 g r d) := by
  unfold T4
  rw [upd_8]
  by_cases h : g.val = 4 ∧ r.val < 8
  · obtain rfl : g = ⟨4, by decide⟩ := Fin.ext h.1
    rw [dif_pos h, dif_pos ⟨le_refl _, h.2⟩, tp4, ldw_win 4 (by decide), T2_apply, dif_neg (by simp)]
  · rw [dif_neg h, T3_apply]
    by_cases h2 : g.val ≤ 3 ∧ r.val < 8
    · rw [dif_pos h2, dif_pos ⟨by omega, h2.2⟩]
    · rw [dif_neg h2, dif_neg (fun hh => by
        rcases Nat.lt_or_ge g.val 4 with hg | hg
        · exact h2 ⟨by omega, hh.2⟩
        · exact h ⟨by omega, hh.2⟩)]

/-- The window once block 5's last rows have moved to its front. -/
theorem T5_apply (g : Fin 8) (r : Fin 136) (d : Fin 1024) :
    T5 S (ix3 g r d) = if h : g.val ≤ 5 ∧ r.val < 8 then S (ix3 g ⟨128 + r.val, by omega⟩ d) else S (ix3 g r d) := by
  unfold T5
  rw [upd_8]
  by_cases h : g.val = 5 ∧ r.val < 8
  · obtain rfl : g = ⟨5, by decide⟩ := Fin.ext h.1
    rw [dif_pos h, dif_pos ⟨le_refl _, h.2⟩, tp5, ldw_win 5 (by decide), T3_apply, dif_neg (by simp)]
  · rw [dif_neg h, T4_apply]
    by_cases h2 : g.val ≤ 4 ∧ r.val < 8
    · rw [dif_pos h2, dif_pos ⟨by omega, h2.2⟩]
    · rw [dif_neg h2, dif_neg (fun hh => by
        rcases Nat.lt_or_ge g.val 5 with hg | hg
        · exact h2 ⟨by omega, hh.2⟩
        · exact h ⟨by omega, hh.2⟩)]

/-- The window once block 6's last rows have moved to its front. -/
theorem T6_apply (g : Fin 8) (r : Fin 136) (d : Fin 1024) :
    T6 S (ix3 g r d) = if h : g.val ≤ 6 ∧ r.val < 8 then S (ix3 g ⟨128 + r.val, by omega⟩ d) else S (ix3 g r d) := by
  unfold T6
  rw [upd_8]
  by_cases h : g.val = 6 ∧ r.val < 8
  · obtain rfl : g = ⟨6, by decide⟩ := Fin.ext h.1
    rw [dif_pos h, dif_pos ⟨le_refl _, h.2⟩, tp6, ldw_win 6 (by decide), T4_apply, dif_neg (by simp)]
  · rw [dif_neg h, T5_apply]
    by_cases h2 : g.val ≤ 5 ∧ r.val < 8
    · rw [dif_pos h2, dif_pos ⟨by omega, h2.2⟩]
    · rw [dif_neg h2, dif_neg (fun hh => by
        rcases Nat.lt_or_ge g.val 6 with hg | hg
        · exact h2 ⟨by omega, hh.2⟩
        · exact h ⟨by omega, hh.2⟩)]

/-- The window once block 7's last rows have moved to its front. -/
theorem T7_apply (g : Fin 8) (r : Fin 136) (d : Fin 1024) :
    T7 S (ix3 g r d) = if h : g.val ≤ 7 ∧ r.val < 8 then S (ix3 g ⟨128 + r.val, by omega⟩ d) else S (ix3 g r d) := by
  unfold T7
  rw [upd_8]
  by_cases h : g.val = 7 ∧ r.val < 8
  · obtain rfl : g = ⟨7, by decide⟩ := Fin.ext h.1
    rw [dif_pos h, dif_pos ⟨le_refl _, h.2⟩, tp7, ldw_win 7 (by decide), T5_apply, dif_neg (by simp)]
  · rw [dif_neg h, T6_apply]
    by_cases h2 : g.val ≤ 6 ∧ r.val < 8
    · rw [dif_pos h2, dif_pos ⟨by omega, h2.2⟩]
    · rw [dif_neg h2, dif_neg (fun hh => by
        rcases Nat.lt_or_ge g.val 7 with hg | hg
        · exact h2 ⟨by omega, hh.2⟩
        · exact h ⟨by omega, hh.2⟩)]

/-- A convolved row from the window. -/
def cvE (w : Vec Ideal S1x136x1024 .f32) (b c0 c1 c2 c3 : Vec Ideal S1x1024 .f32) (r : Fin 128) (d : Fin 1024) : EReal :=
  siluE (b (ix2 0 d) + w (ix3 0 ⟨5 + r.val, by omega⟩ d) * c0 (ix2 0 d) + w (ix3 0 ⟨6 + r.val, by omega⟩ d) * c1 (ix2 0 d)
    + w (ix3 0 ⟨7 + r.val, by omega⟩ d) * c2 (ix2 0 d) + w (ix3 0 ⟨8 + r.val, by omega⟩ d) * c3 (ix2 0 d))
theorem cp0 (w : Vec Ideal S1x136x1024 .f32) (b c0 c1 c2 c3 : Vec Ideal S1x1024 .f32) (r : Fin 128) (d : Fin 1024) : k0_pay386 (F := Ideal) (k0_pay383 w) (k0_pay384 b) (k0_pay385 w) c0 c1 c2 c3 (ix2 r d) = cvE w b c0 c1 c2 c3 r d := by
  unfold cvE siluE
  pointwise [k0_pay383, k0_pay384, k0_pay385, k0_pay386]
theorem cp1 (w : Vec Ideal S1x136x1024 .f32) (b c0 c1 c2 c3 : Vec Ideal S1x1024 .f32) (r : Fin 128) (d : Fin 1024) : k0_pay389 (F := Ideal) (k0_pay388 w) b c0 c1 c2 c3 (ix2 r d) = cvE w b c0 c1 c2 c3 r d := by
  unfold cvE siluE
  pointwise [k0_pay388, k0_pay389]
theorem cp2 (w : Vec Ideal S1x136x1024 .f32) (b c0 c1 c2 c3 : Vec Ideal S1x1024 .f32) (r : Fin 128) (d : Fin 1024) : k0_pay392 (F := Ideal) w b c0 c1 c2 c3 (ix2 r d) = cvE w b c0 c1 c2 c3 r d := by
  unfold cvE siluE
  pointwise [k0_pay391, k0_pay392]
theorem cp3 (w : Vec Ideal S1x136x1024 .f32) (b c0 c1 c2 c3 : Vec Ideal S1x1024 .f32) (r : Fin 128) (d : Fin 1024) : k0_pay395 (F := Ideal) w b c0 c1 c2 c3 (ix2 r d) = cvE w b c0 c1 c2 c3 r d := by
  unfold cvE siluE
  pointwise [k0_pay394, k0_pay395]
theorem cp4 (w : Vec Ideal S1x136x1024 .f32) (b c0 c1 c2 c3 : Vec Ideal S1x1024 .f32) (r : Fin 128) (d : Fin 1024) : k0_pay399 (F := Ideal) w b c0 c1 c2 c3 (ix2 r d) = cvE w b c0 c1 c2 c3 r d := by
  unfold cvE siluE
  pointwise [k0_pay398, k0_pay399]
theorem cp5 (w : Vec Ideal S1x136x1024 .f32) (b c0 c1 c2 c3 : Vec Ideal S1x1024 .f32) (r : Fin 128) (d : Fin 1024) : k0_pay403 (F := Ideal) (k0_pay402 w b c0 c1 c2 c3) (ix2 r d) = cvE w b c0 c1 c2 c3 r d := by
  unfold cvE siluE
  pointwise [k0_pay401, k0_pay402, k0_pay403]
theorem cp6 (w : Vec Ideal S1x136x1024 .f32) (b c0 c1 c2 c3 : Vec Ideal S1x1024 .f32) (r : Fin 128) (d : Fin 1024) : k0_pay408 (F := Ideal) (k0_pay406 w b c0 c1 c2 c3) (k0_pay407 w b c0 c1 c2 c3) (Scalar.ofBits .f32 0x3F800000#32) (ix2 r d) = cvE w b c0 c1 c2 c3 r d := by
  unfold cvE siluE
  pointwise [k0_pay405, k0_pay406, k0_pay407, k0_pay408]
theorem cp7 (w : Vec Ideal S1x136x1024 .f32) (b c0 c1 c2 c3 : Vec Ideal S1x1024 .f32) (r : Fin 128) (d : Fin 1024) : k0_pay412 (F := Ideal) (k0_pay411 w b c0 c1 c2 c3) (Scalar.ofBits .f32 0x00000000#32) (ix2 r d) = cvE w b c0 c1 c2 c3 r d := by
  unfold cvE siluE
  pointwise [k0_pay410, k0_pay411, k0_pay412]

/-- A convolved row of block `k`. -/
def cvS (S : Vec Ideal S8x136x1024 .f32) (x5 : Vec Ideal S4x1024 .f32) (x6 : Vec Ideal S1x1024 .f32) (g : Fin 8) (r : Fin 128) (d : Fin 1024) : EReal :=
  siluE (x6 (ix2 0 d) + S (ix3 g ⟨5 + r.val, by omega⟩ d) * x5 (ix2 0 d) + S (ix3 g ⟨6 + r.val, by omega⟩ d) * x5 (ix2 1 d)
    + S (ix3 g ⟨7 + r.val, by omega⟩ d) * x5 (ix2 2 d) + S (ix3 g ⟨8 + r.val, by omega⟩ d) * x5 (ix2 3 d))

theorem cvE_eq (k : ℕ) (hk : k < 8) (S' : Vec Ideal S8x136x1024 .f32) (x5 : Vec Ideal S4x1024 .f32) (x6 : Vec Ideal S1x1024 .f32) (inb) (i0) (i1) (i2) (i3)
    (hS : ∀ (r : Fin 136) (d : Fin 1024), S' (ix3 ⟨k, hk⟩ r d) = S (ix3 ⟨k, hk⟩ r d)) (r : Fin 128) (d : Fin 1024) :
    cvE (ldw (s := S8x136x1024) ![k, 0, 0] S1x136x1024.size inb S') x6 (ldw (s := S4x1024) ![0, 0] S1x1024.size i0 x5) (ldw (s := S4x1024) ![1, 0] S1x1024.size i1 x5)
      (ldw (s := S4x1024) ![2, 0] S1x1024.size i2 x5) (ldw (s := S4x1024) ![3, 0] S1x1024.size i3 x5) r d = cvS S x5 x6 ⟨k, hk⟩ r d := by
  unfold cvE cvS
  rw [ldw_win k hk, ldw_win k hk, ldw_win k hk, ldw_win k hk, ldw_tap 0 (by decide), ldw_tap 1 (by decide), ldw_tap 2 (by decide), ldw_tap 3 (by decide), hS, hS, hS, hS]
  rfl

variable (x5 : Vec Ideal S4x1024 .f32) (x6 : Vec Ideal S1x1024 .f32) (X : Vec Ideal S1024x1024 .f32)

/-- The convolved rows of the blocks up to 0. -/
theorem C0_apply (g : Fin 8) (hg : g.val ≤ 0) (r : Fin 128) (d : Fin 1024) : C0 S x5 x6 X (ix2 ⟨128 * g.val + r.val, by omega⟩ d) = cvS S x5 x6 g r d := by
  unfold C0
  rw [upd_c]
  by_cases h : g.val = 0
  · obtain rfl : g = ⟨0, by decide⟩ := Fin.ext h
    rw [dif_pos ⟨by dsimp only; omega, by dsimp only; omega⟩, cp0, cvE_eq S 0 (by decide) _ _ _ _ _ _ _ _ (fun _ _ => rfl)]
    exact congrArg (fun q => cvS S x5 x6 ⟨0, by decide⟩ q d) (Fin.ext (by dsimp only; omega))
  · omega

/-- The convolved rows of the blocks up to 1. -/
theorem C1_apply (g : Fin 8) (hg : g.val ≤ 1) (r : Fin 128) (d : Fin 1024) : C1 S x5 x6 X (ix2 ⟨128 * g.val + r.val, by omega⟩ d) = cvS S x5 x6 g r d := by
  unfold C1
  rw [upd_c]
  by_cases h : g.val = 1
  · obtain rfl : g = ⟨1, by decide⟩ := Fin.ext h
    rw [dif_pos ⟨by dsimp only; omega, by dsimp only; omega⟩, cp1, cvE_eq S 1 (by decide) _ _ _ _ _ _ _ _ (fun _ _ => rfl)]
    exact congrArg (fun q => cvS S x5 x6 ⟨1, by decide⟩ q d) (Fin.ext (by dsimp only; omega))
  · rw [dif_neg (by dsimp only; omega)]
    exact C0_apply S x5 x6 X g (by omega) r d

/-- The convolved rows of the blocks up to 2. -/
theorem C2_apply (g : Fin 8) (hg : g.val ≤ 2) (r : Fin 128) (d : Fin 1024) : C2 S x5 x6 X (ix2 ⟨128 * g.val + r.val, by omega⟩ d) = cvS S x5 x6 g r d := by
  unfold C2
  rw [upd_c]
  by_cases h : g.val = 2
  · obtain rfl : g = ⟨2, by decide⟩ := Fin.ext h
    rw [dif_pos ⟨by dsimp only; omega, by dsimp only; omega⟩, cp2, cvE_eq S 2 (by decide) _ _ _ _ _ _ _ _ (fun r d => by rw [T1_apply, dif_neg (by simp)])]
    exact congrArg (fun q => cvS S x5 x6 ⟨2, by decide⟩ q d) (Fin.ext (by dsimp only; omega))
  · rw [dif_neg (by dsimp only; omega)]
    exact C1_apply S x5 x6 X g (by omega) r d

/-- The convolved rows of the blocks up to 3. -/
theorem C3_apply (g : Fin 8) (hg : g.val ≤ 3) (r : Fin 128) (d : Fin 1024) : C3 S x5 x6 X (ix2 ⟨128 * g.val + r.val, by omega⟩ d) = cvS S x5 x6 g r d := by
  unfold C3
  rw [upd_c]
  by_cases h : g.val = 3
  · obtain rfl : g = ⟨3, by decide⟩ := Fin.ext h
    rw [dif_pos ⟨by dsimp only; omega, by dsimp only; omega⟩, cp3, cvE_eq S 3 (by decide) _ _ _ _ _ _ _ _ (fun r d => by rw [T1_apply, dif_neg (by simp)])]
    exact congrArg (fun q => cvS S x5 x6 ⟨3, by decide⟩ q d) (Fin.ext (by dsimp only; omega))
  · rw [dif_neg (by dsimp only; omega)]
    exact C2_apply S x5 x6 X g (by omega) r d

/-- The convolved rows of the blocks up to 4. -/
theorem C4_apply (g : Fin 8) (hg : g.val ≤ 4) (r : Fin 128) (d : Fin 1024) : C4 S x5 x6 X (ix2 ⟨128 * g.val + r.val, by omega⟩ d) = cvS S x5 x6 g r d := by
  unfold C4
  rw [upd_c]
  by_cases h : g.val = 4
  · obtain rfl : g = ⟨4, by decide⟩ := Fin.ext h
    rw [dif_pos ⟨by dsimp only; omega, by dsimp only; omega⟩, cp4, cvE_eq S 4 (by decide) _ _ _ _ _ _ _ _ (fun r d => by rw [T2_apply, dif_neg (by simp)])]
    exact congrArg (fun q => cvS S x5 x6 ⟨4, by decide⟩ q d) (Fin.ext (by dsimp only; omega))
  · rw [dif_neg (by dsimp only; omega)]
    exact C3_apply S x5 x6 X g (by omega) r d

/-- The convolved rows of the blocks up to 5. -/
theorem C5_apply (g : Fin 8) (hg : g.val ≤ 5) (r : Fin 128) (d : Fin 1024) : C5 S x5 x6 X (ix2 ⟨128 * g.val + r.val, by omega⟩ d) = cvS S x5 x6 g r d := by
  unfold C5
  rw [upd_c]
  by_cases h : g.val = 5
  · obtain rfl : g = ⟨5, by decide⟩ := Fin.ext h
    rw [dif_pos ⟨by dsimp only; omega, by dsimp only; omega⟩, cp5, cvE_eq S 5 (by decide) _ _ _ _ _ _ _ _ (fun r d => by rw [T3_apply, dif_neg (by simp)])]
    exact congrArg (fun q => cvS S x5 x6 ⟨5, by decide⟩ q d) (Fin.ext (by dsimp only; omega))
  · rw [dif_neg (by dsimp only; omega)]
    exact C4_apply S x5 x6 X g (by omega) r d

/-- The convolved rows of the blocks up to 6. -/
theorem C6_apply (g : Fin 8) (hg : g.val ≤ 6) (r : Fin 128) (d : Fin 1024) : C6 S x5 x6 X (ix2 ⟨128 * g.val + r.val, by omega⟩ d) = cvS S x5 x6 g r d := by
  unfold C6
  rw [upd_c]
  by_cases h : g.val = 6
  · obtain rfl : g = ⟨6, by decide⟩ := Fin.ext h
    rw [dif_pos ⟨by dsimp only; omega, by dsimp only; omega⟩, cp6, cvE_eq S 6 (by decide) _ _ _ _ _ _ _ _ (fun r d => by rw [T4_apply, dif_neg (by simp)])]
    exact congrArg (fun q => cvS S x5 x6 ⟨6, by decide⟩ q d) (Fin.ext (by dsimp only; omega))
  · rw [dif_neg (by dsimp only; omega)]
    exact C5_apply S x5 x6 X g (by omega) r d

/-- The convolved rows of the blocks up to 7. -/
theorem C7_apply (g : Fin 8) (hg : g.val ≤ 7) (r : Fin 128) (d : Fin 1024) : C7 S x5 x6 X (ix2 ⟨128 * g.val + r.val, by omega⟩ d) = cvS S x5 x6 g r d := by
  unfold C7
  rw [upd_c]
  by_cases h : g.val = 7
  · obtain rfl : g = ⟨7, by decide⟩ := Fin.ext h
    rw [dif_pos ⟨by dsimp only; omega, by dsimp only; omega⟩, cp7, cvE_eq S 7 (by decide) _ _ _ _ _ _ _ _ (fun r d => by rw [T5_apply, dif_neg (by simp)])]
    exact congrArg (fun q => cvS S x5 x6 ⟨7, by decide⟩ q d) (Fin.ext (by dsimp only; omega))
  · rw [dif_neg (by dsimp only; omega)]
    exact C6_apply S x5 x6 X g (by omega) r d
end

end Cert.KernelIdeal

end
-- ==== Proof.KPoint.lean ====
/- A point's values against the rows of the block: the window, the convolved rows, the state and the result. -/
module

public import proofs.«01_k».proof.Proof.KRows

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

open Cert.Rows

/-- The named constant. -/
theorem log2e_eq : Named.named (F := Ideal) κ "log2e" (φ := .f32) 0x3FB8AA3B#32 = ((((Real.log 2)⁻¹ : ℝ)) : EReal) := IdealRules.named_const.ideal_named_scalar _ _ _ _ rfl

/-- Row `r` of sequence `g` among a point's rows. -/
abbrev rw' (g : Fin 8) (r : Fin 128) : Fin 1024 := ⟨128 * g.val + r.val, by omega⟩

/-- Row `n` of sequence `g`'s state. -/
abbrev rh (g : Fin 8) (n : Fin 16) : Fin 128 := ⟨16 * g.val + n.val, by omega⟩

theorem rw_div (g : Fin 8) (r : Fin 128) (h : (128 * g.val + r.val) / 128 < 8) : (⟨(128 * g.val + r.val) / 128, h⟩ : Fin 8) = g := Fin.ext (by dsimp only; omega)
theorem rw_mod (g : Fin 8) (r : Fin 128) : (128 * g.val + r.val) % 128 = r.val := by omega
theorem rw_flip (g : Fin 8) (r : Fin 128) (h : g.val * 128 + r.val < 1024) : (⟨g.val * 128 + r.val, h⟩ : Fin 1024) = rw' g r := Fin.ext (by dsimp only; omega)

variable (o : Arrs) (t : ℕ)
variable (x0 : Vec Ideal S8x128x1024 .bf16) (hx : ∀ (g : Fin 8) (r : Fin 128) (k : Fin 1024), x0 (ix3 g r k) = o.x (ix3 g (at' (128 * t + r.val)) k))

include hx in
theorem p373 (g : Fin 8) (r : Fin 128) (d : Fin 1024) : k0_pay373 (F := Ideal) x0 o.wd o.bdn o.wia (ix2 (rw' g r) d) = ina o g (128 * t + r.val) d := by
  unfold ina Rows.hdn
  pointwise [k0_pay373, k0_pay372]
  simp only [hx, rw_div, rw_mod]

include hx in
theorem p374 (g : Fin 8) (r : Fin 128) (d : Fin 1024) : k0_pay374 (F := Ideal) x0 o.wd o.bdn o.wib (ix2 (rw' g r) d) = zz o g (128 * t + r.val) d := by
  unfold zz Rows.hdn
  pointwise [k0_pay374, k0_pay372]
  simp only [hx, rw_div, rw_mod]

include hx in
/-- The filled window. -/
theorem S_apply (X : Vec Ideal S8x136x1024 .f32) (hX : ∀ (g : Fin 8) (r : Fin 136) (d : Fin 1024), r.val < 8 → X (ix3 g r d) = inP o g (128 * t + r.val) d)
    (g : Fin 8) (r : Fin 136) (d : Fin 1024) : fillX x0 o.wd o.bdn o.wia X (ix3 g r d) = inP o g (128 * t + r.val) d := by
  rw [fillX_apply]
  by_cases h : 8 ≤ r.val
  · rw [dif_pos h]
    refine (p373 o t x0 hx g ⟨r.val - 8, by omega⟩ d).trans ?_
    unfold inP
    rw [if_neg (by omega)]
    exact congrArg (fun q => ina o g q d) (by dsimp only; omega)
  · rw [dif_neg h]
    exact hX g r d (by omega)

section
variable (S : Vec Ideal S8x136x1024 .f32) (hS : ∀ (g : Fin 8) (r : Fin 136) (d : Fin 1024), S (ix3 g r d) = inP o g (128 * t + r.val) d)

include hS in
/-- The window's first rows at the next point. -/
theorem T7_next (g : Fin 8) (r : Fin 136) (d : Fin 1024) (hr : r.val < 8) : T7 S (ix3 g r d) = inP o g (128 * (t + 1) + r.val) d := by
  rw [T7_apply, dif_pos ⟨by omega, hr⟩, hS]
  exact congrArg (fun q => inP o g q d) (by dsimp only; omega)

include hS in
/-- The convolved rows. -/
theorem C7_xc (X : Vec Ideal S1024x1024 .f32) (g : Fin 8) (r : Fin 128) (d : Fin 1024) : C7 S o.cw o.cb X (ix2 (rw' g r) d) = xc o g (128 * t + r.val) d := by
  rw [C7_apply S o.cw o.cb X g (by omega)]
  unfold cvS xc
  rw [hS, hS, hS, hS]
  have e0 : 128 * t + (5 + r.val) = 128 * t + r.val + 5 := by omega
  have e1 : 128 * t + (6 + r.val) = 128 * t + r.val + 6 := by omega
  have e2 : 128 * t + (7 + r.val) = 128 * t + r.val + 7 := by omega
  have e3 : 128 * t + (8 + r.val) = 128 * t + r.val + 8 := by omega
  simp only [e0, e1, e2, e3]
end

section
variable (xv : Vec Ideal S1024x1024 .f32) (hc : ∀ (g : Fin 8) (r : Fin 128) (d : Fin 1024), xv (ix2 (rw' g r) d) = xc o g (128 * t + r.val) d)

include hc in
theorem dt_row (g : Fin 8) (r : Fin 128) (d : Fin 1024) : k0_pay415 (F := Ideal) xv o.wx1 o.wdt o.bdt (ix2 (rw' g r) d) = dt o g (128 * t + r.val) d := by
  unfold dt softE
  pointwise [k0_pay415, k0_pay414]
  simp only [hc]

include hc in
theorem bt_row (g : Fin 8) (r : Fin 128) (n : Fin 16) : k0_pay418 (F := Ideal) (k0_pay414 xv) o.wbt (ix2 n (rw' g r)) = bt o g (128 * t + r.val) n := by
  unfold bt
  pointwise [k0_pay418, k0_pay414]
  simp only [hc]

include hc in
theorem cc_row (g : Fin 8) (r : Fin 128) (n : Fin 16) : k0_pay419 (F := Ideal) (k0_pay414 xv) o.wc (ix2 (rw' g r) n) = cc o g (128 * t + r.val) n := by
  unfold cc
  pointwise [k0_pay419, k0_pay414]
  simp only [hc]

include hc in
theorem u_row (g : Fin 8) (r : Fin 128) (d : Fin 1024) :
    k0_pay417 (F := Ideal) xv (k0_pay415 xv o.wx1 o.wdt o.bdt) (ix2 (rw' g r) d) = dt o g (128 * t + r.val) d * xc o g (128 * t + r.val) d := by
  rw [← hc g r d, ← dt_row o t xv hc g r d]
  pointwise [k0_pay417]

include hc in
theorem dt_row' (g : Fin 8) (r : Fin 128) (d : Fin 1024) : k0_pay416 (F := Ideal) (k0_pay415 xv o.wx1 o.wdt o.bdt) (ix2 (rw' g r) d) = dt o g (128 * t + r.val) d := by
  rw [← dt_row o t xv hc g r d]
  pointwise [k0_pay416]

theorem an_row (n : Fin 16) (d : Fin 1024) : k0_pay9 (F := Ideal) o.an (ix2 n d) = o.an (ix2 n d) * ((((Real.log 2)⁻¹ : ℝ)) : EReal) := by
  rw [← log2e_eq]
  pointwise [k0_pay9]

theorem rowM_eq (g : Fin 8) (r : ℕ) (hr : r < 128) : rowM g r = rw' g ⟨r, hr⟩ := Fin.ext (by
  show (128 * g.val + r) % 1024 = 128 * g.val + r
  omega)

variable (h0 : Vec Ideal S128x1024 .f32) (hh : ∀ (g : Fin 8) (n : Fin 16) (d : Fin 1024), h0 (ix2 (rh g n) d) = st o g (128 * t) n d)

include hc hh in
/-- The recurrence within a point. -/
theorem hM_st (g : Fin 8) (n : Fin 16) (d : Fin 1024) : ∀ r, r ≤ 128 →
    hM (k0_pay9 (F := Ideal) o.an) (k0_pay418 (k0_pay414 xv) o.wbt) (k0_pay416 (k0_pay415 xv o.wx1 o.wdt o.bdt)) (k0_pay417 xv (k0_pay415 xv o.wx1 o.wdt o.bdt)) h0 g r n d
      = st o g (128 * t + r) n d
  | 0, _ => hh g n d
  | r + 1, hr => by
    unfold hM
    rw [hM_st g n d r (by omega), rowM_eq g r (by omega), dt_row' o t xv hc, u_row o t xv hc, bt_row o t xv hc, an_row, ← mul_assoc]
    rw [show ∀ z : EReal, FloatOps.exp2 (F := Ideal) (φ := .f32) z = Ideal.exp2 z from fun _ => rfl, exp2_eq]
    rfl

include hc hh in
/-- The state a point leaves. -/
theorem hS_next (g : Fin 8) (n : Fin 16) (d : Fin 1024) :
    hS xv o.wx1 o.wdt o.bdt o.wbt o.an h0 (ix2 (rh g n) d) = st o g (128 * (t + 1)) n d := by
  refine Eq.trans ?_ (hM_st o t xv hc h0 hh g n d 128 (le_refl _))
  unfold hS hEnd
  have e1 : (⟨(16 * g.val + n.val) / 16, by omega⟩ : Fin 8) = g := Fin.ext (by dsimp only; omega)
  have e2 : (⟨(16 * g.val + n.val) % 16, Nat.mod_lt _ (by decide)⟩ : Fin 16) = n := Fin.ext (by dsimp only; omega)
  have key : ∀ (f : Fin 8 → ℕ → Fin 16 → Fin 1024 → EReal), f ⟨(16 * g.val + n.val) / 16, by omega⟩ 128 ⟨(16 * g.val + n.val) % 16, Nat.mod_lt _ (by decide)⟩ d = f g 128 n d := fun f => by rw [e1, e2]
  exact key _

include hc hh in
/-- The scan's output rows. -/
theorem y_row (g : Fin 8) (r : Fin 128) (d : Fin 1024) :
    yEnd xv (k0_pay414 xv) (k0_pay415 xv o.wx1 o.wdt o.bdt) o.wbt o.wc o.an h0 (ix2 (rw' g r) d) = yy o g (128 * t + r.val) d := by
  have e1 : (⟨(128 * g.val + r.val) / 128, by omega⟩ : Fin 8) = g := Fin.ext (by dsimp only; omega)
  have e2 : (128 * g.val + r.val) % 128 = r.val := by omega
  have key : ∀ (f : Fin 8 → ℕ → Fin 1024 → EReal), f ⟨(128 * g.val + r.val) / 128, by omega⟩ ((128 * g.val + r.val) % 128) d = f g r.val d := fun f => by rw [e1, e2]
  refine (key _).trans ?_
  unfold yM yy
  refine Finset.sum_congr rfl fun n _ => ?_
  rw [hM_st o t xv hc h0 hh g n d (r.val + 1) (by omega), rowM_eq g r.val r.isLt, cc_row o t xv hc]
  rfl

variable (z : Vec Ideal S1024x1024 .f32) (hz : ∀ (g : Fin 8) (r : Fin 128) (d : Fin 1024), z (ix2 (rw' g r) d) = zz o g (128 * t + r.val) d)

theorem pay1_apply (v : FVec Ideal S1024x1024 .f32) (g : Fin 8) (r : Fin 128) (d : Fin 1024) : k0_pay1 (F := Ideal) v (ix3 g r d) = v (ix2 (rw' g r) d) := by
  pointwise [k0_pay1]
  rw [rw_flip]

theorem pay431_apply (y z : FVec Ideal S1024x1024 .f32) (x14 : FVec Ideal S1024x512 .bf16) (x15 x16 : FVec Ideal S1x512 .f32) (x17 : FVec Ideal S512x1024 .bf16) (x18 : FVec Ideal S1x1024 .f32)
    (r : Fin 1024) (d : Fin 1024) :
    k0_pay431 (F := Ideal) y z k0_pay430 x14 x15 x16 x17 x18 (ix2 r d)
      = ∑ k, normE (fun k => ∑ q, y (ix2 r q) * siluE (z (ix2 r q)) * x14 (ix2 q k)) (fun k => x15 (ix2 0 k)) (fun k => x16 (ix2 0 k)) k * x17 (ix2 k d) + x18 (ix2 0 d) := by
  unfold normE siluE
  pointwise [k0_pay431, k0_pay430]

theorem pay429_apply (y xv : FVec Ideal S1024x1024 .f32) (x13 : FVec Ideal S1x1024 .f32) (r : Fin 1024) (d : Fin 1024) :
    k0_pay429 (F := Ideal) y x13 xv (ix2 r d) = y (ix2 r d) + x13 (ix2 0 d) * xv (ix2 r d) := by
  pointwise [k0_pay429]

include hc hh hz in
/-- What a point leaves in its output window. -/
theorem out_row (g : Fin 8) (r : Fin 128) (d : Fin 1024) :
    outS xv z o.wx1 o.wdt o.bdt o.wbt o.wc o.an o.dsk o.wo o.lng o.lnb o.wu o.bup h0 (ix3 g r d) = out o g (128 * t + r.val) d := by
  unfold outS
  rw [pay1_apply, pay431_apply]
  unfold out
  refine congrArg (· + _) (Finset.sum_congr rfl fun k _ => congrArg (· * _) ?_)
  refine congrArg (fun f => normE f _ _ k) (funext fun k => ?_)
  unfold mm
  refine Finset.sum_congr rfl fun q _ => ?_
  rw [pay429_apply, y_row o t xv hc h0 hh, hc, hz]
end

end Cert.KernelIdeal

end
-- ==== Proof.KStep.lean ====
/- One point: the rows it leaves in the result, and what it carries to the next point. -/
module

public import proofs.«01_k».proof.Proof.KPoint

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

open Cert.Rows

/-- What is carried before point `t`: nothing is asked of it before the first. -/
def Inv (o : Arrs) (t : ℕ) (X : Vec Ideal S8x136x1024 .f32) (h : Vec Ideal S128x1024 .f32) : Prop :=
  t ≠ 0 → (∀ (g : Fin 8) (r : Fin 136) (d : Fin 1024), r.val < 8 → X (ix3 g r d) = inP o g (128 * t + r.val) d)
    ∧ (∀ (g : Fin 8) (n : Fin 16) (d : Fin 1024), h (ix2 (rh g n) d) = st o g (128 * t) n d)

/-- The rows of the result that point `t` computes. -/
def outB (o : Arrs) (t : ℕ) : Vec Ideal S8x128x1024 .f32 := fun j => out o (j 0) (128 * t + (j 1).val) (j 2)

variable (o : Arrs) (t : ℕ)
variable (x0 : Vec Ideal S8x128x1024 .bf16) (hx : ∀ (g : Fin 8) (r : Fin 128) (k : Fin 1024), x0 (ix3 g r k) = o.x (ix3 g (at' (128 * t + r.val)) k))
variable (x1 : Vec Ideal S1024x512 .bf16) (x2 : Vec Ideal S1x512 .f32) (x3 : Vec Ideal S512x1024 .bf16) (x4 : Vec Ideal S512x1024 .bf16) (x5 : Vec Ideal S4x1024 .f32) (x6 : Vec Ideal S1x1024 .f32) (x7 : Vec Ideal S1024x32 .bf16) (x8 : Vec Ideal S32x1024 .bf16) (x9 : Vec Ideal S1x1024 .f32) (x10 : Vec Ideal S16x1024 .bf16) (x11 : Vec Ideal S1024x16 .bf16) (x12 : Vec Ideal S16x1024 .f32) (x13 : Vec Ideal S1x1024 .f32) (x14 : Vec Ideal S1024x512 .bf16) (x15 : Vec Ideal S1x512 .f32) (x16 : Vec Ideal S1x512 .f32) (x17 : Vec Ideal S512x1024 .bf16) (x18 : Vec Ideal S1x1024 .f32)
variable (h1 : x1 = o.wd) (h2 : x2 = o.bdn) (h3 : x3 = o.wia) (h4 : x4 = o.wib) (h5 : x5 = o.cw) (h6 : x6 = o.cb) (h7 : x7 = o.wx1) (h8 : x8 = o.wdt) (h9 : x9 = o.bdt) (h10 : x10 = o.wbt) (h11 : x11 = o.wc) (h12 : x12 = o.an) (h13 : x13 = o.dsk) (h14 : x14 = o.wo) (h15 : x15 = o.lng) (h16 : x16 = o.lnb) (h17 : x17 = o.wu) (h18 : x18 = o.bup)

include hx h1 h2 h3 h4 h5 h6 h7 h8 h9 h10 h11 h12 h13 h14 h15 h16 h17 h18

/-- One point, from a window and a state that are right. -/
theorem step (X : Vec Ideal S8x136x1024 .f32) (Y : Vec Ideal S1024x1024 .f32) (h : Vec Ideal S128x1024 .f32)
    (hX : ∀ (g : Fin 8) (r : Fin 136) (d : Fin 1024), r.val < 8 → X (ix3 g r d) = inP o g (128 * t + r.val) d)
    (hh : ∀ (g : Fin 8) (n : Fin 16) (d : Fin 1024), h (ix2 (rh g n) d) = st o g (128 * t) n d) :
    outS (C7 (fillX x0 x1 x2 x3 X) x5 x6 Y) (k0_pay374 x0 x1 x2 x4) x7 x8 x9 x10 x11 x12 x13 x14 x15 x16 x17 x18 h = outB o t
      ∧ Inv o (t + 1) (T7 (fillX x0 x1 x2 x3 X)) (hS (C7 (fillX x0 x1 x2 x3 X) x5 x6 Y) x7 x8 x9 x10 x12 h) := by
  subst h1 h2 h3 h4 h5 h6 h7 h8 h9 h10 h11 h12 h13 h14 h15 h16 h17 h18
  have hS' := S_apply o t x0 hx X hX
  have hc := C7_xc o t _ hS' Y
  refine ⟨?_, fun _ => ⟨fun g r d hr => T7_next o t _ hS' g r d hr, fun g n d => hS_next o t _ hc h hh g n d⟩⟩
  funext j
  rw [eq_ix3 j]
  exact out_row o t _ hc h hh _ (p374 o t x0 hx) (j 0) (j 1) (j 2)

/-- The first point clears the window and starts from the zero state. -/
theorem stepA (ht : t = 0) (X : Vec Ideal S8x136x1024 .f32) (Y : Vec Ideal S1024x1024 .f32) :
    outS (C7 (fillX x0 x1 x2 x3 (zeroX X)) x5 x6 Y) (k0_pay374 x0 x1 x2 x4) x7 x8 x9 x10 x11 x12 x13 x14 x15 x16 x17 x18 (k0_pay2 (F := Ideal)) = outB o t
      ∧ Inv o (t + 1) (T7 (fillX x0 x1 x2 x3 (zeroX X))) (hS (C7 (fillX x0 x1 x2 x3 (zeroX X)) x5 x6 Y) x7 x8 x9 x10 x12 (k0_pay2 (F := Ideal))) := by
  refine step o t x0 hx x1 x2 x3 x4 x5 x6 x7 x8 x9 x10 x11 x12 x13 x14 x15 x16 x17 x18 h1 h2 h3 h4 h5 h6 h7 h8 h9 h10 h11 h12 h13 h14 h15 h16 h17 h18 _ Y _ (fun g r d hr => ?_) (fun g n d => ?_)
  · rw [zeroX_apply X g r d hr, ht]
    unfold inP
    rw [if_pos (by omega)]
  · rw [ht]
    unfold st
    pointwise [k0_pay2]

/-- The other points go on from what the point before left. -/
theorem stepB (ht : t ≠ 0) (X : Vec Ideal S8x136x1024 .f32) (Y : Vec Ideal S1024x1024 .f32) (h : Vec Ideal S128x1024 .f32) (hI : Inv o t X h) :
    outS (C7 (fillX x0 x1 x2 x3 X) x5 x6 Y) (k0_pay374 x0 x1 x2 x4) x7 x8 x9 x10 x11 x12 x13 x14 x15 x16 x17 x18 h = outB o t
      ∧ Inv o (t + 1) (T7 (fillX x0 x1 x2 x3 X)) (hS (C7 (fillX x0 x1 x2 x3 X) x5 x6 Y) x7 x8 x9 x10 x12 h) :=
  step o t x0 hx x1 x2 x3 x4 x5 x6 x7 x8 x9 x10 x11 x12 x13 x14 x15 x16 x17 x18 h1 h2 h3 h4 h5 h6 h7 h8 h9 h10 h11 h12 h13 h14 h15 h16 h17 h18 X Y h (hI ht).1 (hI ht).2

end Cert.KernelIdeal

end
-- ==== Proof.KOps.lean ====
/- The blocks of the operands, read off the arguments. -/
module

public import proofs.«01_k».proof.Proof.Rows
public import proofs.«01_k».proof.Proof.IdealBody
public import Idealize.ShloMosaic.Lib.Pipeline.ValueKit
public import Idealize.ShloMosaic.Lib.Pointwise
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

open Cert.Rows

variable (mI : (ℓ : Loc nD τ sig) → Buf (Elt Ideal) ℓ)

/-- The block's arrays, read off the arguments. -/
def arrsK (c : Dev nD) : Arrs := ofArgs (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15))

/-- Where each operand's block stands. -/
theorem idx_all : ∀ t : Fin cfg0.N, win0_0.index t = ![0, t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, t.val, 0] := by decide +kernel

theorem blk_1 (c : Dev nD) (t : Fin cfg0.N) : (iblk mI c 1 t : A2 1024 512) = (arrsK mI c).wd := by
  funext j
  obtain ⟨a, b, rfl⟩ : ∃ (a : Fin 1024) (b : Fin 512), j = ix2 a b := ⟨j 0, j 1, eq_ix2 j⟩
  unfold arrsK ofArgs
  have hi := idx_all t
  dsimp only
  blk_point [iblk, V, hi]

theorem blk_2 (c : Dev nD) (t : Fin cfg0.N) : (iblk mI c 2 t : A2 1 512) = (arrsK mI c).bdn := by
  funext j
  obtain ⟨a, b, rfl⟩ : ∃ (a : Fin 1) (b : Fin 512), j = ix2 a b := ⟨j 0, j 1, eq_ix2 j⟩
  unfold arrsK ofArgs
  have hi := idx_all t
  dsimp only
  blk_point [iblk, V, hi]

theorem blk_3 (c : Dev nD) (t : Fin cfg0.N) : (iblk mI c 3 t : A2 512 1024) = (arrsK mI c).wia := by
  funext j
  obtain ⟨a, b, rfl⟩ : ∃ (a : Fin 512) (b : Fin 1024), j = ix2 a b := ⟨j 0, j 1, eq_ix2 j⟩
  unfold arrsK ofArgs
  have hi := idx_all t
  dsimp only
  have e : (win0_3.blk t).view.emb (ix2 a b) = ix2 a b := by blk_ext [hi]
  show V mI c main_call0_v1 ((win0_3.blk t).view.emb (ix2 a b)) = _
  rw [e]
  entry_read
  show (truncf (F := Ideal) .bf16 (extractStridedSlice S512x1024 ![0, 0] (mI ((c : Thread nD τ).loc main_arg3) : FVec Ideal S512x2048 .f32) slices_S512x2048_S512x1024_0_0) bitsLt_bf16_f32) (ix2 a b) = _
  pointwise

theorem blk_4 (c : Dev nD) (t : Fin cfg0.N) : (iblk mI c 4 t : A2 512 1024) = (arrsK mI c).wib := by
  funext j
  obtain ⟨a, b, rfl⟩ : ∃ (a : Fin 512) (b : Fin 1024), j = ix2 a b := ⟨j 0, j 1, eq_ix2 j⟩
  unfold arrsK ofArgs
  have hi := idx_all t
  dsimp only
  have e : (win0_4.blk t).view.emb (ix2 a b) = ix2 a b := by blk_ext [hi]
  show V mI c main_call0_v3 ((win0_4.blk t).view.emb (ix2 a b)) = _
  rw [e]
  entry_read
  show (truncf (F := Ideal) .bf16 (extractStridedSlice S512x1024 ![0, 1024] (mI ((c : Thread nD τ).loc main_arg3) : FVec Ideal S512x2048 .f32) slices_S512x2048_S512x1024_0_1024) bitsLt_bf16_f32) (ix2 a b) = _
  pointwise

theorem blk_5 (c : Dev nD) (t : Fin cfg0.N) : (iblk mI c 5 t : A2 4 1024) = (arrsK mI c).cw := by
  funext j
  obtain ⟨a, b, rfl⟩ : ∃ (a : Fin 4) (b : Fin 1024), j = ix2 a b := ⟨j 0, j 1, eq_ix2 j⟩
  unfold arrsK ofArgs
  have hi := idx_all t
  dsimp only
  have e : (win0_5.blk t).view.emb (ix2 a b) = ix2 a b := by blk_ext [hi]
  show V mI c main_call0_v4 ((win0_5.blk t).view.emb (ix2 a b)) = _
  rw [e]
  entry_read
  show (transpose S4x1024 [1, 0] (mI ((c : Thread nD τ).loc main_arg4) : FVec Ideal S1024x4 .f32) transposes_S1024x4_S4x1024_1_0) (ix2 a b) = _
  pointwise

theorem blk_6 (c : Dev nD) (t : Fin cfg0.N) : (iblk mI c 6 t : A2 1 1024) = (arrsK mI c).cb := by
  funext j
  obtain ⟨a, b, rfl⟩ : ∃ (a : Fin 1) (b : Fin 1024), j = ix2 a b := ⟨j 0, j 1, eq_ix2 j⟩
  unfold arrsK ofArgs
  have hi := idx_all t
  dsimp only
  blk_point [iblk, V, hi]

theorem blk_7 (c : Dev nD) (t : Fin cfg0.N) : (iblk mI c 7 t : A2 1024 32) = (arrsK mI c).wx1 := by
  funext j
  obtain ⟨a, b, rfl⟩ : ∃ (a : Fin 1024) (b : Fin 32), j = ix2 a b := ⟨j 0, j 1, eq_ix2 j⟩
  unfold arrsK ofArgs
  have hi := idx_all t
  dsimp only
  have e : (win0_7.blk t).view.emb (ix2 a b) = ix2 a b := by blk_ext [hi]
  show V mI c main_call0_v6 ((win0_7.blk t).view.emb (ix2 a b)) = _
  rw [e]
  entry_read
  show (truncf (F := Ideal) .bf16 (extractStridedSlice S1024x32 ![0, 0] (mI ((c : Thread nD τ).loc main_arg6) : FVec Ideal S1024x64 .f32) slices_S1024x64_S1024x32_0_0) bitsLt_bf16_f32) (ix2 a b) = _
  pointwise

theorem blk_8 (c : Dev nD) (t : Fin cfg0.N) : (iblk mI c 8 t : A2 32 1024) = (arrsK mI c).wdt := by
  funext j
  obtain ⟨a, b, rfl⟩ : ∃ (a : Fin 32) (b : Fin 1024), j = ix2 a b := ⟨j 0, j 1, eq_ix2 j⟩
  unfold arrsK ofArgs
  have hi := idx_all t
  dsimp only
  blk_point [iblk, V, hi]

theorem blk_9 (c : Dev nD) (t : Fin cfg0.N) : (iblk mI c 9 t : A2 1 1024) = (arrsK mI c).bdt := by
  funext j
  obtain ⟨a, b, rfl⟩ : ∃ (a : Fin 1) (b : Fin 1024), j = ix2 a b := ⟨j 0, j 1, eq_ix2 j⟩
  unfold arrsK ofArgs
  have hi := idx_all t
  dsimp only
  blk_point [iblk, V, hi]

theorem blk_10 (c : Dev nD) (t : Fin cfg0.N) : (iblk mI c 10 t : A2 16 1024) = (arrsK mI c).wbt := by
  funext j
  obtain ⟨a, b, rfl⟩ : ∃ (a : Fin 16) (b : Fin 1024), j = ix2 a b := ⟨j 0, j 1, eq_ix2 j⟩
  unfold arrsK ofArgs
  have hi := idx_all t
  dsimp only
  have e : (win0_10.blk t).view.emb (ix2 a b) = ix2 a b := by blk_ext [hi]
  show V mI c main_call0_v9 ((win0_10.blk t).view.emb (ix2 a b)) = _
  rw [e]
  entry_read
  show (truncf (F := Ideal) .bf16 (transpose S16x1024 [1, 0] (extractStridedSlice S1024x16 ![0, 32] (mI ((c : Thread nD τ).loc main_arg6) : FVec Ideal S1024x64 .f32) slices_S1024x64_S1024x16_0_32) transposes_S1024x16_S16x1024_1_0) bitsLt_bf16_f32) (ix2 a b) = _
  pointwise

theorem blk_11 (c : Dev nD) (t : Fin cfg0.N) : (iblk mI c 11 t : A2 1024 16) = (arrsK mI c).wc := by
  funext j
  obtain ⟨a, b, rfl⟩ : ∃ (a : Fin 1024) (b : Fin 16), j = ix2 a b := ⟨j 0, j 1, eq_ix2 j⟩
  unfold arrsK ofArgs
  have hi := idx_all t
  dsimp only
  have e : (win0_11.blk t).view.emb (ix2 a b) = ix2 a b := by blk_ext [hi]
  show V mI c main_call0_v11 ((win0_11.blk t).view.emb (ix2 a b)) = _
  rw [e]
  entry_read
  show (truncf (F := Ideal) .bf16 (extractStridedSlice S1024x16 ![0, 48] (mI ((c : Thread nD τ).loc main_arg6) : FVec Ideal S1024x64 .f32) slices_S1024x64_S1024x16_0_48) bitsLt_bf16_f32) (ix2 a b) = _
  pointwise

theorem blk_12 (c : Dev nD) (t : Fin cfg0.N) : (iblk mI c 12 t : A2 16 1024) = (arrsK mI c).an := by
  funext j
  obtain ⟨a, b, rfl⟩ : ∃ (a : Fin 16) (b : Fin 1024), j = ix2 a b := ⟨j 0, j 1, eq_ix2 j⟩
  unfold arrsK ofArgs
  have hi := idx_all t
  dsimp only
  have e : (win0_12.blk t).view.emb (ix2 a b) = ix2 a b := by blk_ext [hi]
  show V mI c main_call0_v14 ((win0_12.blk t).view.emb (ix2 a b)) = _
  rw [e]
  entry_read
  show (transpose S16x1024 [1, 0] (Host.negf (F := Ideal) (Host.exp (mI ((c : Thread nD τ).loc main_arg9) : FVec Ideal S1024x16 .f32))) transposes_S1024x16_S16x1024_1_0) (ix2 a b) = _
  pointwise

theorem blk_13 (c : Dev nD) (t : Fin cfg0.N) : (iblk mI c 13 t : A2 1 1024) = (arrsK mI c).dsk := by
  funext j
  obtain ⟨a, b, rfl⟩ : ∃ (a : Fin 1) (b : Fin 1024), j = ix2 a b := ⟨j 0, j 1, eq_ix2 j⟩
  unfold arrsK ofArgs
  have hi := idx_all t
  dsimp only
  blk_point [iblk, V, hi]

theorem blk_14 (c : Dev nD) (t : Fin cfg0.N) : (iblk mI c 14 t : A2 1024 512) = (arrsK mI c).wo := by
  funext j
  obtain ⟨a, b, rfl⟩ : ∃ (a : Fin 1024) (b : Fin 512), j = ix2 a b := ⟨j 0, j 1, eq_ix2 j⟩
  unfold arrsK ofArgs
  have hi := idx_all t
  dsimp only
  blk_point [iblk, V, hi]

theorem blk_15 (c : Dev nD) (t : Fin cfg0.N) : (iblk mI c 15 t : A2 1 512) = (arrsK mI c).lng := by
  funext j
  obtain ⟨a, b, rfl⟩ : ∃ (a : Fin 1) (b : Fin 512), j = ix2 a b := ⟨j 0, j 1, eq_ix2 j⟩
  unfold arrsK ofArgs
  have hi := idx_all t
  dsimp only
  blk_point [iblk, V, hi]

theorem blk_16 (c : Dev nD) (t : Fin cfg0.N) : (iblk mI c 16 t : A2 1 512) = (arrsK mI c).lnb := by
  funext j
  obtain ⟨a, b, rfl⟩ : ∃ (a : Fin 1) (b : Fin 512), j = ix2 a b := ⟨j 0, j 1, eq_ix2 j⟩
  unfold arrsK ofArgs
  have hi := idx_all t
  dsimp only
  blk_point [iblk, V, hi]

theorem blk_17 (c : Dev nD) (t : Fin cfg0.N) : (iblk mI c 17 t : A2 512 1024) = (arrsK mI c).wu := by
  funext j
  obtain ⟨a, b, rfl⟩ : ∃ (a : Fin 512) (b : Fin 1024), j = ix2 a b := ⟨j 0, j 1, eq_ix2 j⟩
  unfold arrsK ofArgs
  have hi := idx_all t
  dsimp only
  blk_point [iblk, V, hi]

theorem blk_18 (c : Dev nD) (t : Fin cfg0.N) : (iblk mI c 18 t : A2 1 1024) = (arrsK mI c).bup := by
  funext j
  obtain ⟨a, b, rfl⟩ : ∃ (a : Fin 1) (b : Fin 1024), j = ix2 a b := ⟨j 0, j 1, eq_ix2 j⟩
  unfold arrsK ofArgs
  have hi := idx_all t
  dsimp only
  blk_point [iblk, V, hi]

theorem blk_0 (c : Dev nD) (t : Fin cfg0.N) (g : Fin 8) (r : Fin 128) (k : Fin 1024) :
    (iblk mI c 0 t : A3 8 128 1024) (ix3 g r k) = (arrsK mI c).x (ix3 g (at' (128 * t.val + r.val)) k) := by
  unfold arrsK ofArgs at'
  have hi := idx_all t
  have ht : t.val < 16 := Nat.lt_of_lt_of_eq t.isLt N_0
  dsimp only
  blk_point [iblk, V, hi]

end Cert.KernelIdeal

end
-- ==== Proof.PartsA.lean ====
/- What the convolution parts of the body leave. -/
module

public import proofs.«01_k».proof.Proof.Reads

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

set_option maxHeartbeats 4000000 in
theorem part73  (v16 : FVec Ideal S1024x1024 .f32) (v30 : FVec Ideal S1x128x1024 .f32) (x6 : Vec Ideal S1x1024 .f32) (X22 : Vec Ideal S8x136x1024 .f32) (E : Set ℕ) :
    iprop(owns (c : Thread nD τ) arg8 fullShare x6 ∗ owns (c : Thread nD τ) arg22 fullShare X22)
      ⊢ wp frame (wpE (defs₀ (F := Ideal)) Variants.none c none) E (k0_part73 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v16 v30)
        (fun r => (iprop(⌜r = ⟨k0_pay383 (ldw (s := S8x136x1024) ![0, 0, 0] S1x136x1024.size inb_S8x136x1024_S1x136x1024_0_0_0 X22), k0_pay384 x6, k0_pay385 (ldw (s := S8x136x1024) ![0, 0, 0] S1x136x1024.size inb_S8x136x1024_S1x136x1024_0_0_0 X22)⟩⌝ ∗ owns (c : Thread nD τ) arg8 fullShare x6 ∗ owns (c : Thread nD τ) arg22 fullShare (upd (s := S8x136x1024) ![7, 8, 0] S1x128x1024.size (k0_pay382 v16) (upd (s := S8x136x1024) ![6, 8, 0] S1x128x1024.size (k0_pay381 v16) (upd (s := S8x136x1024) ![5, 8, 0] S1x128x1024.size (k0_pay380 v16) (upd (s := S8x136x1024) ![4, 8, 0] S1x128x1024.size (k0_pay379 v16) (upd (s := S8x136x1024) ![3, 8, 0] S1x128x1024.size (k0_pay378 v16) (upd (s := S8x136x1024) ![2, 8, 0] S1x128x1024.size (k0_pay377 v16) (upd (s := S8x136x1024) ![1, 8, 0] S1x128x1024.size v30 X22)))))))) : sProp 𝕄I)) := by
  simp only [k0_part73_eq_skeleton]; unfold k0_part73_skel
  unfold owns
  iintro ⟨⟨%f8, %hf8, H8⟩, ⟨%f22, %hf22, H22⟩⟩
  obtain rfl := harg8.eq_unread hf8; obtain rfl := harg22.eq_unread hf22
  sl_exec
  sl_step
  isplitr
  · ipureintro
    (try delta part73.sl.v55); (try simp only [rd_upd, rd_nil, rd_ldw, Memref.IsWhole.read_unread]); (try simp only [ldw_whole2, ldw_whole3, upd_whole2]); (try with_reducible rfl)
  isplitl [H8]
  · iexists _; isplitr; swap; · iexact H8
    ipureintro; exact harg8.read_unread _
  iexists _; isplitr; swap; · iexact H22
  ipureintro; (try delta part73.sl.v55); (try simp only [rd_upd, rd_nil, rd_ldw, Memref.IsWhole.read_unread]); (try simp only [ldw_whole2, ldw_whole3, upd_whole2]); (try with_reducible rfl)

set_option maxHeartbeats 4000000 in
theorem part74  (v56 : FVec Ideal S136x1024 .f32) (v58 : FVec Ideal S1x1024 .f32) (v59 : FVec Ideal S128x1024 .f32) (x5 : Vec Ideal S4x1024 .f32) (X22 : Vec Ideal S8x136x1024 .f32) (X24 : Vec Ideal S1024x1024 .f32) (E : Set ℕ) :
    iprop(owns (c : Thread nD τ) arg7 fullShare x5 ∗ owns (c : Thread nD τ) arg22 fullShare X22 ∗ owns (c : Thread nD τ) arg24 fullShare X24)
      ⊢ wp frame (wpE (defs₀ (F := Ideal)) Variants.none c none) E (k0_part74 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v56 v58 v59)
        (fun r => (iprop(⌜r = (k0_pay388 (ldw (s := S8x136x1024) ![1, 0, 0] S1x136x1024.size inb_S8x136x1024_S1x136x1024_1_0_0 X22))⌝ ∗ owns (c : Thread nD τ) arg7 fullShare x5 ∗ owns (c : Thread nD τ) arg22 fullShare (upd (s := S8x136x1024) ![0, 0, 0] S1x8x1024.size (k0_pay387 v56) X22) ∗ owns (c : Thread nD τ) arg24 fullShare (upd (s := S1024x1024) ![0, 0] S128x1024.size (k0_pay386 v56 v58 v59 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) X24)) : sProp 𝕄I)) := by
  simp only [k0_part74_eq_skeleton]; unfold k0_part74_skel
  unfold owns
  iintro ⟨⟨%f7, %hf7, H7⟩, ⟨%f22, %hf22, H22⟩, ⟨%f24, %hf24, H24⟩⟩
  obtain rfl := harg7.eq_unread hf7; obtain rfl := harg22.eq_unread hf22; obtain rfl := harg24.eq_unread hf24
  sl_exec
  sl_step
  isplitr
  · ipureintro
    (try delta part74.sl.v97); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H22]
  · iexists _; isplitr; swap; · iexact H22
    ipureintro; (try delta part74.sl.v97); (try simp only [rd_upd, rd_nil, rd_ldw, Memref.IsWhole.read_unread]); (try simp only [ldw_whole2, ldw_whole3, upd_whole2]); (try with_reducible rfl)
  iexists _; isplitr; swap; · iexact H24
  ipureintro; (try delta part74.sl.v97); (try simp only [rd_upd, rd_nil, rd_ldw, Memref.IsWhole.read_unread]); (try simp only [ldw_whole2, ldw_whole3, upd_whole2]); (try with_reducible rfl)

set_option maxHeartbeats 4000000 in
theorem part75  (v98 : FVec Ideal S136x1024 .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part75 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v98)
        (fun r => (iprop(⌜r = ⟨⟩⌝ ∗ owns (c : Thread nD τ) arg7 fullShare x5 ∗ owns (c : Thread nD τ) arg8 fullShare x6 ∗ owns (c : Thread nD τ) arg22 fullShare (upd (s := S8x136x1024) ![1, 0, 0] S1x8x1024.size (k0_pay390 v98) X22) ∗ owns (c : Thread nD τ) arg24 fullShare (upd (s := S1024x1024) ![128, 0] S128x1024.size (k0_pay389 v98 x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) X24)) : sProp 𝕄I)) := by
  simp only [k0_part75_eq_skeleton]; unfold k0_part75_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try simp only [rd_upd, rd_nil, rd_ldw, Memref.IsWhole.read_unread]); (try simp only [ldw_whole2, ldw_whole3, upd_whole2]); (try with_reducible rfl)
  iexists _; isplitr; swap; · iexact H24
  ipureintro; (try simp only [rd_upd, rd_nil, rd_ldw, Memref.IsWhole.read_unread]); (try simp only [ldw_whole2, ldw_whole3, upd_whole2]); (try with_reducible rfl)

set_option maxHeartbeats 4000000 in
theorem part76   (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part76 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 )
        (fun r => (iprop(⌜r = (k0_pay393 (ldw (s := S8x136x1024) ![2, 0, 0] S1x136x1024.size inb_S8x136x1024_S1x136x1024_2_0_0 X22))⌝ ∗ owns (c : Thread nD τ) arg7 fullShare x5 ∗ owns (c : Thread nD τ) arg8 fullShare x6 ∗ owns (c : Thread nD τ) arg22 fullShare X22 ∗ owns (c : Thread nD τ) arg24 fullShare (upd (s := S1024x1024) ![256, 0] S128x1024.size (k0_pay392 (ldw (s := S8x136x1024) ![2, 0, 0] S1x136x1024.size inb_S8x136x1024_S1x136x1024_2_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) X24)) : sProp 𝕄I)) := by
  simp only [k0_part76_eq_skeleton]; unfold k0_part76_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; exact harg22.read_unread _
  iexists _; isplitr; swap; · iexact H24
  ipureintro; (try simp only [rd_upd, rd_nil, rd_ldw, Memref.IsWhole.read_unread]); (try simp only [ldw_whole2, ldw_whole3, upd_whole2]); (try with_reducible rfl)

end Cert.KernelIdeal

end
-- ==== Proof.PartsB.lean ====
/- What the convolution parts of the body leave. -/
module

public import proofs.«01_k».proof.Proof.Reads

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

set_option maxHeartbeats 4000000 in
theorem part77  (v180 : FVec Ideal S1x8x1024 .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part77 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v180)
        (fun r => (iprop(⌜r = (k0_pay396 (ldw (s := S8x136x1024) ![3, 0, 0] S1x136x1024.size inb_S8x136x1024_S1x136x1024_3_0_0 X22))⌝ ∗ owns (c : Thread nD τ) arg7 fullShare x5 ∗ owns (c : Thread nD τ) arg8 fullShare x6 ∗ owns (c : Thread nD τ) arg22 fullShare (upd (s := S8x136x1024) ![2, 0, 0] S1x8x1024.size v180 X22) ∗ owns (c : Thread nD τ) arg24 fullShare (upd (s := S1024x1024) ![384, 0] S128x1024.size (k0_pay395 (ldw (s := S8x136x1024) ![3, 0, 0] S1x136x1024.size inb_S8x136x1024_S1x136x1024_3_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)) X24)) : sProp 𝕄I)) := by
  simp only [k0_part77_eq_skeleton]; unfold k0_part77_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try delta part77.sl.v181); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try delta part77.sl.v181); (try simp only [rd_upd, rd_nil, rd_ldw, Memref.IsWhole.read_unread]); (try simp only [ldw_whole2, ldw_whole3, upd_whole2]); (try with_reducible rfl)
  iexists _; isplitr; swap; · iexact H24
  ipureintro; (try delta part77.sl.v181); (try simp only [rd_upd, rd_nil, rd_ldw, Memref.IsWhole.read_unread]); (try simp only [ldw_whole2, ldw_whole3, upd_whole2]); (try with_reducible rfl)

set_option maxHeartbeats 4000000 in
theorem part78  (v219 : FVec Ideal S8x1024 .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part78 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v219)
        (fun r => (iprop(⌜r = ⟨k0_pay398 (ldw (s := S8x136x1024) ![4, 0, 0] S1x136x1024.size inb_S8x136x1024_S1x136x1024_4_0_0 X22), k0_pay399 (ldw (s := S8x136x1024) ![4, 0, 0] S1x136x1024.size inb_S8x136x1024_S1x136x1024_4_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)⟩⌝ ∗ owns (c : Thread nD τ) arg7 fullShare x5 ∗ owns (c : Thread nD τ) arg8 fullShare x6 ∗ owns (c : Thread nD τ) arg22 fullShare (upd (s := S8x136x1024) ![3, 0, 0] S1x8x1024.size (k0_pay397 v219) X22) ∗ owns (c : Thread nD τ) arg24 fullShare X24) : sProp 𝕄I)) := by
  simp only [k0_part78_eq_skeleton]; unfold k0_part78_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try delta part78.sl.v223); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try delta part78.sl.v223); (try simp only [rd_upd, rd_nil, rd_ldw, Memref.IsWhole.read_unread]); (try simp only [ldw_whole2, ldw_whole3, upd_whole2]); (try with_reducible rfl)
  iexists _; isplitr; swap; · iexact H24
  ipureintro; exact harg24.read_unread _

set_option maxHeartbeats 4000000 in
theorem part79  (v224 : FVec Ideal S136x1024 .f32) (v260 : FVec Ideal S128x1024 .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part79 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v224 v260)
        (fun r => (iprop(⌜r = ⟨k0_pay401 (ldw (s := S8x136x1024) ![5, 0, 0] S1x136x1024.size inb_S8x136x1024_S1x136x1024_5_0_0 X22), k0_pay402 (ldw (s := S8x136x1024) ![5, 0, 0] S1x136x1024.size inb_S8x136x1024_S1x136x1024_5_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5)⟩⌝ ∗ owns (c : Thread nD τ) arg7 fullShare x5 ∗ owns (c : Thread nD τ) arg8 fullShare x6 ∗ owns (c : Thread nD τ) arg22 fullShare (upd (s := S8x136x1024) ![4, 0, 0] S1x8x1024.size (k0_pay400 v224) X22) ∗ owns (c : Thread nD τ) arg24 fullShare (upd (s := S1024x1024) ![512, 0] S128x1024.size v260 X24)) : sProp 𝕄I)) := by
  simp only [k0_part79_eq_skeleton]; unfold k0_part79_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try delta part79.sl.v265); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try delta part79.sl.v265); (try simp only [rd_upd, rd_nil, rd_ldw, Memref.IsWhole.read_unread]); (try simp only [ldw_whole2, ldw_whole3, upd_whole2]); (try with_reducible rfl)
  iexists _; isplitr; swap; · iexact H24
  ipureintro; (try delta part79.sl.v265); (try simp only [rd_upd, rd_nil, rd_ldw, Memref.IsWhole.read_unread]); (try simp only [ldw_whole2, ldw_whole3, upd_whole2]); (try with_reducible rfl)

set_option maxHeartbeats 4000000 in
theorem part80  (v266 : FVec Ideal S136x1024 .f32) (v299 : FVec Ideal S128x1024 .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part80 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v266 v299)
        (fun r => (iprop(⌜r = ⟨k0_pay405 (ldw (s := S8x136x1024) ![6, 0, 0] S1x136x1024.size inb_S8x136x1024_S1x136x1024_6_0_0 X22), k0_pay406 (ldw (s := S8x136x1024) ![6, 0, 0] S1x136x1024.size inb_S8x136x1024_S1x136x1024_6_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5), k0_pay407 (ldw (s := S8x136x1024) ![6, 0, 0] S1x136x1024.size inb_S8x136x1024_S1x136x1024_6_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5), Scalar.ofBits .f32 0x3F800000#32⟩⌝ ∗ owns (c : Thread nD τ) arg7 fullShare x5 ∗ owns (c : Thread nD τ) arg8 fullShare x6 ∗ owns (c : Thread nD τ) arg22 fullShare (upd (s := S8x136x1024) ![5, 0, 0] S1x8x1024.size (k0_pay404 v266) X22) ∗ owns (c : Thread nD τ) arg24 fullShare (upd (s := S1024x1024) ![640, 0] S128x1024.size (k0_pay403 v299) X24)) : sProp 𝕄I)) := by
  simp only [k0_part80_eq_skeleton]; unfold k0_part80_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try delta part80.sl.v307 part80.sl.cst_160); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try delta part80.sl.v307 part80.sl.cst_160); (try simp only [rd_upd, rd_nil, rd_ldw, Memref.IsWhole.read_unread]); (try simp only [ldw_whole2, ldw_whole3, upd_whole2]); (try with_reducible rfl)
  iexists _; isplitr; swap; · iexact H24
  ipureintro; (try delta part80.sl.v307 part80.sl.cst_160); (try simp only [rd_upd, rd_nil, rd_ldw, Memref.IsWhole.read_unread]); (try simp only [ldw_whole2, ldw_whole3, upd_whole2]); (try with_reducible rfl)

end Cert.KernelIdeal

end
-- ==== Proof.PartsC.lean ====
/- What the convolution parts of the body leave. -/
module

public import proofs.«01_k».proof.Proof.Reads

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

set_option maxHeartbeats 4000000 in
theorem part81  (v308 : FVec Ideal S136x1024 .f32) (v335 v338 : FVec Ideal S128x1024 .f32) (cst : Ideal .f32) (x5 : Vec Ideal S4x1024 .f32) (x6 : Vec Ideal S1x1024 .f32) (X22 : Vec Ideal S8x136x1024 .f32) (X24 : Vec Ideal S1024x1024 .f32) (E : Set ℕ) :
    iprop(owns (c : Thread nD τ) arg7 fullShare x5 ∗ owns (c : Thread nD τ) arg8 fullShare x6 ∗ owns (c : Thread nD τ) arg22 fullShare X22 ∗ owns (c : Thread nD τ) arg24 fullShare X24)
      ⊢ wp frame (wpE (defs₀ (F := Ideal)) Variants.none c none) E (k0_part81 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v308 v335 v338 cst)
        (fun r => (iprop(⌜r = ⟨k0_pay410 (ldw (s := S8x136x1024) ![7, 0, 0] S1x136x1024.size inb_S8x136x1024_S1x136x1024_7_0_0 X22), k0_pay411 (ldw (s := S8x136x1024) ![7, 0, 0] S1x136x1024.size inb_S8x136x1024_S1x136x1024_7_0_0 X22) x6 (ldw (s := S4x1024) ![0, 0] S1x1024.size inb_S4x1024_S1x1024_0_0 x5) (ldw (s := S4x1024) ![1, 0] S1x1024.size inb_S4x1024_S1x1024_1_0 x5) (ldw (s := S4x1024) ![2, 0] S1x1024.size inb_S4x1024_S1x1024_2_0 x5) (ldw (s := S4x1024) ![3, 0] S1x1024.size inb_S4x1024_S1x1024_3_0 x5), Scalar.ofBits .f32 0x00000000#32⟩⌝ ∗ owns (c : Thread nD τ) arg7 fullShare x5 ∗ owns (c : Thread nD τ) arg8 fullShare x6 ∗ owns (c : Thread nD τ) arg22 fullShare (upd (s := S8x136x1024) ![6, 0, 0] S1x8x1024.size (k0_pay409 v308) X22) ∗ owns (c : Thread nD τ) arg24 fullShare (upd (s := S1024x1024) ![768, 0] S128x1024.size (k0_pay408 v335 v338 cst) X24)) : sProp 𝕄I)) := by
  simp only [k0_part81_eq_skeleton]; unfold k0_part81_skel
  unfold owns
  iintro ⟨⟨%f7, %hf7, H7⟩, ⟨%f8, %hf8, H8⟩, ⟨%f22, %hf22, H22⟩, ⟨%f24, %hf24, H24⟩⟩
  obtain rfl := harg7.eq_unread hf7; obtain rfl := harg8.eq_unread hf8; obtain rfl := harg22.eq_unread hf22; obtain rfl := harg24.eq_unread hf24
  sl_exec
  sl_step
  isplitr
  · ipureintro
    (try delta part81.sl.v349); (try delta part81.sl.cst_178); (try simp only [rd_upd, rd_nil, rd_ldw, Memref.IsWhole.read_unread]); (try simp only [ldw_whole2, ldw_whole3, upd_whole2]); (try with_reducible rfl)
  isplitl [H7]
  · iexists _; isplitr; swap; · iexact H7
    ipureintro; exact harg7.read_unread _
  isplitl [H8]
  · iexists _; isplitr; swap; · iexact H8
    ipureintro; exact harg8.read_unread _
  isplitl [H22]
  · iexists _; isplitr; swap; · iexact H22
    ipureintro; (try delta part81.sl.v349); (try delta part81.sl.cst_178); (try simp only [rd_upd, rd_nil, rd_ldw, Memref.IsWhole.read_unread]); (try simp only [ldw_whole2, ldw_whole3, upd_whole2]); (try with_reducible rfl)
  iexists _; isplitr; swap; · iexact H24
  ipureintro; (try delta part81.sl.v349); (try delta part81.sl.cst_178); (try simp only [rd_upd, rd_nil, rd_ldw, Memref.IsWhole.read_unread]); (try simp only [ldw_whole2, ldw_whole3, upd_whole2]); (try with_reducible rfl)

set_option maxHeartbeats 4000000 in
theorem part82  (v350 : FVec Ideal S136x1024 .f32) (v377 : FVec Ideal S128x1024 .f32) (cst : Ideal .f32) (x7 : Vec Ideal S1024x32 .bf16) (x8 : Vec Ideal S32x1024 .bf16) (x9 : Vec Ideal S1x1024 .f32) (X22 : Vec Ideal S8x136x1024 .f32) (X24 : Vec Ideal S1024x1024 .f32) (X25 : Vec Ideal S1024x1024 .f32) (E : Set ℕ) :
    iprop(owns (c : Thread nD τ) arg9 fullShare x7 ∗ owns (c : Thread nD τ) arg10 fullShare x8 ∗ owns (c : Thread nD τ) arg11 fullShare x9 ∗ owns (c : Thread nD τ) arg22 fullShare X22 ∗ owns (c : Thread nD τ) arg24 fullShare X24 ∗ owns (c : Thread nD τ) arg25 fullShare X25)
      ⊢ wp frame (wpE (defs₀ (F := Ideal)) Variants.none c none) E (k0_part82 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v350 v377 cst)
        (fun r => (iprop(⌜r = ⟨(upd (s := S1024x1024) ![896, 0] S128x1024.size (k0_pay412 v377 cst) X24), k0_pay414 (upd (s := S1024x1024) ![896, 0] S128x1024.size (k0_pay412 v377 cst) X24), k0_pay415 (upd (s := S1024x1024) ![896, 0] S128x1024.size (k0_pay412 v377 cst) X24) x7 x8 x9, X25⟩⌝ ∗ owns (c : Thread nD τ) arg9 fullShare x7 ∗ owns (c : Thread nD τ) arg10 fullShare x8 ∗ owns (c : Thread nD τ) arg11 fullShare x9 ∗ owns (c : Thread nD τ) arg22 fullShare (upd (s := S8x136x1024) ![7, 0, 0] S1x8x1024.size (k0_pay413 v350) X22) ∗ owns (c : Thread nD τ) arg24 fullShare (upd (s := S1024x1024) ![896, 0] S128x1024.size (k0_pay412 v377 cst) X24) ∗ owns (c : Thread nD τ) arg25 fullShare X25) : sProp 𝕄I)) := by
  simp only [k0_part82_eq_skeleton]; unfold k0_part82_skel
  unfold owns
  iintro ⟨⟨%f9, %hf9, H9⟩, ⟨%f10, %hf10, H10⟩, ⟨%f11, %hf11, H11⟩, ⟨%f22, %hf22, H22⟩, ⟨%f24, %hf24, H24⟩, ⟨%f25, %hf25, H25⟩⟩
  obtain rfl := harg9.eq_unread hf9; obtain rfl := harg10.eq_unread hf10; obtain rfl := harg11.eq_unread hf11; obtain rfl := harg22.eq_unread hf22; obtain rfl := harg24.eq_unread hf24; obtain rfl := harg25.eq_unread hf25
  sl_exec
  sl_step
  isplitr
  · ipureintro
    (try delta part82.sl.v391); (try delta part82.sl.H24_1); (try simp only [rd_upd, rd_nil, rd_ldw, Memref.IsWhole.read_unread]); (try simp only [ldw_whole2, ldw_whole3, upd_whole2]); (try with_reducible rfl)
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H22]
  · iexists _; isplitr; swap; · iexact H22
    ipureintro; (try delta part82.sl.v391); (try delta part82.sl.H24_1); (try simp only [rd_upd, rd_nil, rd_ldw, Memref.IsWhole.read_unread]); (try simp only [ldw_whole2, ldw_whole3, upd_whole2]); (try with_reducible rfl)
  isplitl [H24]
  · iexists _; isplitr; swap; · iexact H24
    ipureintro; (try delta part82.sl.v391); (try delta part82.sl.H24_1); (try simp only [rd_upd, rd_nil, rd_ldw, Memref.IsWhole.read_unread]); (try simp only [ldw_whole2, ldw_whole3, upd_whole2]); (try with_reducible rfl)
  iexists _; isplitr; swap; · iexact H25
  ipureintro; exact harg25.read_unread _

set_option maxHeartbeats 4000000 in
theorem part84  (v445 : FVec Ideal S1024x1024 .f32) (v446 : Vec Ideal S1024x1024 .f32) (v447 : FVec Ideal S1024x1024 .f32) (x14 : Vec Ideal S1024x512 .bf16) (x15 : Vec Ideal S1x512 .f32) (x16 : Vec Ideal S1x512 .f32) (x17 : Vec Ideal S512x1024 .bf16) (x18 : Vec Ideal S1x1024 .f32) (E : Set ℕ) :
    iprop(owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18)
      ⊢ wp frame (wpE (defs₀ (F := Ideal)) Variants.none c none) E (k0_part84 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v445 v446 v447)
        (fun r => (iprop(⌜r = (k0_pay431 v445 v446 v447 x14 x15 x16 x17 x18)⌝ ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18) : sProp 𝕄I)) := by
  simp only [k0_part84_eq_skeleton]; unfold k0_part84_skel
  unfold owns
  iintro ⟨⟨%f16, %hf16, H16⟩, ⟨%f17, %hf17, H17⟩, ⟨%f18, %hf18, H18⟩, ⟨%f19, %hf19, H19⟩, ⟨%f20, %hf20, H20⟩⟩
  obtain rfl := harg16.eq_unread hf16; obtain rfl := harg17.eq_unread hf17; obtain rfl := harg18.eq_unread hf18; obtain rfl := harg19.eq_unread hf19; obtain rfl := harg20.eq_unread hf20
  sl_exec
  sl_step
  isplitr
  · ipureintro
    (try simp only [rd_upd, rd_nil, rd_ldw, Memref.IsWhole.read_unread]); (try simp only [ldw_whole2, ldw_whole3, upd_whole2]); (try with_reducible rfl)
  isplitl [H16]
  · iexists _; isplitr; swap; · iexact H16
    ipureintro; exact harg16.read_unread _
  isplitl [H17]
  · iexists _; isplitr; swap; · iexact H17
    ipureintro; exact harg17.read_unread _
  isplitl [H18]
  · iexists _; isplitr; swap; · iexact H18
    ipureintro; exact harg18.read_unread _
  isplitl [H19]
  · iexists _; isplitr; swap; · iexact H19
    ipureintro; exact harg19.read_unread _
  iexists _; isplitr; swap; · iexact H20
  ipureintro; exact harg20.read_unread _

end Cert.KernelIdeal

end
-- ==== Proof.PartsD.lean ====
/- What the convolution parts of the body leave. -/
module

public import proofs.«01_k».proof.Proof.Reads

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

set_option maxHeartbeats 4000000 in
theorem part72a (hc0 : cond0_0 i)  (x0 : Vec Ideal S8x128x1024 .bf16) (x1 : Vec Ideal S1024x512 .bf16) (x2 : Vec Ideal S1x512 .f32) (x3 : Vec Ideal S512x1024 .bf16) (x4 : Vec Ideal S512x1024 .bf16) (X22 : Vec Ideal S8x136x1024 .f32) (X23 : Vec Ideal S1024x1024 .f32) (X30 : Vec Ideal S128x1024 .f32) (E : Set ℕ) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg22 fullShare X22 ∗ owns (c : Thread nD τ) arg23 fullShare X23 ∗ owns (c : Thread nD τ) arg30 fullShare X30)
      ⊢ wp frame (wpE (defs₀ (F := Ideal)) Variants.none c none) E (k0_part72 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 )
        (fun r => (iprop(⌜r = ⟨k0_pay373 x0 x1 x2 x3, k0_pay376 x0 x1 x2 x3⟩⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg22 fullShare (upd (s := S8x136x1024) ![0, 8, 0] S1x128x1024.size (k0_pay375 x0 x1 x2 x3) (upd (s := S8x136x1024) ![7, 0, 0] S1x8x1024.size (k0_pay371 (F := Ideal)) (upd (s := S8x136x1024) ![6, 0, 0] S1x8x1024.size (k0_pay370 (F := Ideal)) (upd (s := S8x136x1024) ![5, 0, 0] S1x8x1024.size (k0_pay369 (k0_pay8 (F := Ideal))) (upd (s := S8x136x1024) ![4, 0, 0] S1x8x1024.size (k0_pay7 (F := Ideal)) (upd (s := S8x136x1024) ![3, 0, 0] S1x8x1024.size (k0_pay6 (F := Ideal)) (upd (s := S8x136x1024) ![2, 0, 0] S1x8x1024.size (k0_pay5 (F := Ideal)) (upd (s := S8x136x1024) ![1, 0, 0] S1x8x1024.size (k0_pay4 (F := Ideal)) (upd (s := S8x136x1024) ![0, 0, 0] S1x8x1024.size (k0_pay3 (F := Ideal)) X22))))))))) ∗ owns (c : Thread nD τ) arg23 fullShare (k0_pay374 x0 x1 x2 x4) ∗ owns (c : Thread nD τ) arg30 fullShare (k0_pay2 (F := Ideal))) : sProp 𝕄I)) := by
  simp only [k0_part72_eq_skeleton]; unfold k0_part72_skel
  unfold owns
  iintro ⟨⟨%f2, %hf2, H2⟩, ⟨%f3, %hf3, H3⟩, ⟨%f4, %hf4, H4⟩, ⟨%f5, %hf5, H5⟩, ⟨%f6, %hf6, H6⟩, ⟨%f22, %hf22, H22⟩, ⟨%f23, %hf23, H23⟩, ⟨%f30, %hf30, H30⟩⟩
  obtain rfl := harg2.eq_unread hf2; obtain rfl := harg3.eq_unread hf3; obtain rfl := harg4.eq_unread hf4; obtain rfl := harg5.eq_unread hf5; obtain rfl := harg6.eq_unread hf6; obtain rfl := harg22.eq_unread hf22; obtain rfl := harg23.eq_unread hf23; obtain rfl := harg30.eq_unread hf30
  sl_exec (disch := first | sl_exact hc0)
  sl_step
  isplitr
  · ipureintro
    (try simp only [rd_upd, rd_nil, rd_ldw, Memref.IsWhole.read_unread]); (try simp only [ldw_whole2, ldw_whole3, upd_whole2]); (try with_reducible rfl)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H22]
  · iexists _; isplitr; swap; · iexact H22
    ipureintro; (try simp only [rd_upd, rd_nil, rd_ldw, Memref.IsWhole.read_unread]); (try simp only [ldw_whole2, ldw_whole3, upd_whole2]); (try with_reducible rfl); (try rfl)
  isplitl [H23]
  · iexists _; isplitr; swap; · iexact H23
    ipureintro; (try simp only [rd_upd, rd_nil, rd_ldw, Memref.IsWhole.read_unread]); (try simp only [ldw_whole2, ldw_whole3, upd_whole2]); (try with_reducible rfl); (try rfl)
  iexists _; isplitr; swap; · iexact H30
  ipureintro; (try simp only [rd_upd, rd_nil, rd_ldw, Memref.IsWhole.read_unread]); (try simp only [ldw_whole2, ldw_whole3, upd_whole2]); (try with_reducible rfl); (try rfl)

set_option maxHeartbeats 4000000 in
theorem part72b (hc0 : ¬ cond0_0 i)  (x0 : Vec Ideal S8x128x1024 .bf16) (x1 : Vec Ideal S1024x512 .bf16) (x2 : Vec Ideal S1x512 .f32) (x3 : Vec Ideal S512x1024 .bf16) (x4 : Vec Ideal S512x1024 .bf16) (X22 : Vec Ideal S8x136x1024 .f32) (X23 : Vec Ideal S1024x1024 .f32) (X30 : Vec Ideal S128x1024 .f32) (E : Set ℕ) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg22 fullShare X22 ∗ owns (c : Thread nD τ) arg23 fullShare X23 ∗ owns (c : Thread nD τ) arg30 fullShare X30)
      ⊢ wp frame (wpE (defs₀ (F := Ideal)) Variants.none c none) E (k0_part72 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 )
        (fun r => (iprop(⌜r = ⟨k0_pay373 x0 x1 x2 x3, k0_pay376 x0 x1 x2 x3⟩⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg22 fullShare (upd (s := S8x136x1024) ![0, 8, 0] S1x128x1024.size (k0_pay375 x0 x1 x2 x3) X22) ∗ owns (c : Thread nD τ) arg23 fullShare (k0_pay374 x0 x1 x2 x4) ∗ owns (c : Thread nD τ) arg30 fullShare X30) : sProp 𝕄I)) := by
  simp only [k0_part72_eq_skeleton]; unfold k0_part72_skel
  unfold owns
  iintro ⟨⟨%f2, %hf2, H2⟩, ⟨%f3, %hf3, H3⟩, ⟨%f4, %hf4, H4⟩, ⟨%f5, %hf5, H5⟩, ⟨%f6, %hf6, H6⟩, ⟨%f22, %hf22, H22⟩, ⟨%f23, %hf23, H23⟩, ⟨%f30, %hf30, H30⟩⟩
  obtain rfl := harg2.eq_unread hf2; obtain rfl := harg3.eq_unread hf3; obtain rfl := harg4.eq_unread hf4; obtain rfl := harg5.eq_unread hf5; obtain rfl := harg6.eq_unread hf6; obtain rfl := harg22.eq_unread hf22; obtain rfl := harg23.eq_unread hf23; obtain rfl := harg30.eq_unread hf30
  sl_exec (disch := first | sl_exact hc0)
  sl_step
  isplitr
  · ipureintro
    (try simp only [rd_upd, rd_nil, rd_ldw, Memref.IsWhole.read_unread]); (try simp only [ldw_whole2, ldw_whole3, upd_whole2]); (try with_reducible rfl)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H22]
  · iexists _; isplitr; swap; · iexact H22
    ipureintro; (try simp only [rd_upd, rd_nil, rd_ldw, Memref.IsWhole.read_unread]); (try simp only [ldw_whole2, ldw_whole3, upd_whole2]); (try with_reducible rfl); (try rfl)
  isplitl [H23]
  · iexists _; isplitr; swap; · iexact H23
    ipureintro; (try simp only [rd_upd, rd_nil, rd_ldw, Memref.IsWhole.read_unread]); (try simp only [ldw_whole2, ldw_whole3, upd_whole2]); (try with_reducible rfl); (try rfl)
  iexists _; isplitr; swap; · iexact H30
  ipureintro; exact harg30.read_unread _

end Cert.KernelIdeal

end
-- ==== Proof.PointA.lean ====
/- The values of a point that clears its scratch: what it leaves in the output window, in the conv buffer and in the state. -/
module

public import proofs.«01_k».proof.Proof.BodyDefs
public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

attribute [local irreducible] k0_part72 k0_part73 k0_part74 k0_part75 k0_part76 k0_part77 k0_part78 k0_part79 k0_part80 k0_part81 k0_part82 k0_part83 k0_part84

set_option maxHeartbeats 16000000 in
/-- A point at a start of a sequence: what it leaves. -/
theorem pointA (hc0 : cond0_0 i) (x0 : Vec Ideal S8x128x1024 .bf16) (x1 : Vec Ideal S1024x512 .bf16) (x2 : Vec Ideal S1x512 .f32) (x3 : Vec Ideal S512x1024 .bf16) (x4 : Vec Ideal S512x1024 .bf16) (x5 : Vec Ideal S4x1024 .f32) (x6 : Vec Ideal S1x1024 .f32) (x7 : Vec Ideal S1024x32 .bf16) (x8 : Vec Ideal S32x1024 .bf16) (x9 : Vec Ideal S1x1024 .f32) (x10 : Vec Ideal S16x1024 .bf16) (x11 : Vec Ideal S1024x16 .bf16) (x12 : Vec Ideal S16x1024 .f32) (x13 : Vec Ideal S1x1024 .f32) (x14 : Vec Ideal S1024x512 .bf16) (x15 : Vec Ideal S1x512 .f32) (x16 : Vec Ideal S1x512 .f32) (x17 : Vec Ideal S512x1024 .bf16) (x18 : Vec Ideal S1x1024 .f32) (X22 : Vec Ideal S8x136x1024 .f32) (X23 : Vec Ideal S1024x1024 .f32) (X24 : Vec Ideal S1024x1024 .f32) (X25 : Vec Ideal S1024x1024 .f32) (X30 : Vec Ideal S128x1024 .f32) (d26 : Vec Ideal S1024x1024 .f32) (d27 : Vec Ideal S1024x16 .f32) (d28 : Vec Ideal S1024x1024 .f32) (d29 : Vec Ideal S2048x1024 .bf16) (f21 : arg21.view.ty.Contents (Elt Ideal)) (E : Set ℕ) (K : PUnit → sProp 𝕄I) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (arg21.view.loc (c : Thread nD τ) ↦[arg21.view.set]{fullShare} f21) ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare X30 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (outS (C7 (fillX x0 x1 x2 x3 (zeroX X22)) x5 x6 X24) (k0_pay374 x0 x1 x2 x4) x7 x8 x9 x10 x11 x12 x13 x14 x15 x16 x17 x18 (k0_pay2 (F := Ideal))) ∗ owns (c : Thread nD τ) arg22 fullShare (T7 (fillX x0 x1 x2 x3 (zeroX X22))) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare (hS (C7 (fillX x0 x1 x2 x3 (zeroX X22)) x5 x6 X24) x7 x8 x9 x10 x12 (k0_pay2 (F := Ideal)))) -∗ K ⟨⟩))
      ⊢ wp frame (wpE (defs₀ (F := Ideal)) Variants.none c none) E (cc0__mamba_kernel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  have h72 := fun x0 x1 x2 x3 x4 X22 X23 X30 => part72a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 X22 X23 X30 E
  have h73 := fun v16 v30 x6 X22 => part73 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v16 v30 x6 X22 E
  have h74 := fun v56 v58 v59 x5 X22 X24 => part74 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v56 v58 v59 x5 X22 X24 E
  have h75 := fun v98 x5 x6 X22 X24 => part75 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v98 x5 x6 X22 X24 E
  have h76 := fun x5 x6 X22 X24 => part76 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x5 x6 X22 X24 E
  have h77 := fun v180 x5 x6 X22 X24 => part77 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v180 x5 x6 X22 X24 E
  have h78 := fun v219 x5 x6 X22 X24 => part78 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v219 x5 x6 X22 X24 E
  have h79 := fun v224 v260 x5 x6 X22 X24 => part79 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v224 v260 x5 x6 X22 X24 E
  have h80 := fun v266 v299 x5 x6 X22 X24 => part80 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v266 v299 x5 x6 X22 X24 E
  have h81 := fun v308 v335 v338 cst x5 x6 X22 X24 => part81 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v308 v335 v338 cst x5 x6 X22 X24 E
  have h82 := fun v350 v377 cst x7 x8 x9 X22 X24 X25 => part82 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v350 v377 cst x7 x8 x9 X22 X24 X25 E
  have h84 := fun v445 v446 v447 x14 x15 x16 x17 x18 => part84 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v445 v446 v447 x14 x15 x16 x17 x18 E
  have h83 := fun v391 v392 v413 v414 x10 x11 x12 x13 z xc h0 d25 d26 d27 d28 d29 => part83c c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 x10 x11 x12 x13 z xc h0 d25 d26 d27 d28 d29 E
  simp only [cc0__mamba_kernel_eq_skeleton]; unfold cc0__mamba_kernel_skel
  iintro ⟨H2, H3, H4, H5, H6, H7, H8, H9, H10, H11, H12, H13, H14, H15, H16, H17, H18, H19, H20, H21, H22, H23, H24, H25, H26, H27, H28, H29, H30, Hk⟩
  sl_exec
  sl_step
  simp only [PSigma.mk.injEq, heq_eq_eq] at hk0_part72_0 hk0_part73_0 hk0_part78_0 hk0_part79_0 hk0_part80_0 hk0_part81_0 hk0_part82_0 hk0_part83_0
  clear h72 h73 h74 h75 h76 h77 h78 h79 h80 h81 h82 h83 h84
  obtain ⟨e16, e30⟩ := hk0_part72_0
  have t73 : (arg22.view.read (Elt Ideal) fk0_part73_1) = (fillX x0 x1 x2 x3 (zeroX X22)) := by rw [hk0_part73_3, hk0_part72_11, e16, e30]; rfl
  have a8_73 := hk0_part73_1
  have a7_74 := hk0_part74_1
  have a7_75 := hk0_part75_1.trans a7_74
  have a8_75 := hk0_part75_3.trans a8_73
  have a7_76 := hk0_part76_1.trans a7_75
  have a8_76 := hk0_part76_3.trans a8_75
  have a7_77 := hk0_part77_1.trans a7_76
  have a8_77 := hk0_part77_3.trans a8_76
  have a7_78 := hk0_part78_1.trans a7_77
  have a8_78 := hk0_part78_3.trans a8_77
  have a7_79 := hk0_part79_1.trans a7_78
  have a8_79 := hk0_part79_3.trans a8_78
  have a7_80 := hk0_part80_1.trans a7_79
  have a8_80 := hk0_part80_3.trans a8_79
  have a7_81 := hk0_part81_1.trans a7_80
  have a8_81 := hk0_part81_3.trans a8_80
  have w73 : (ldw (s := S8x136x1024) ![0, 0, 0] S1x136x1024.size inb_S8x136x1024_S1x136x1024_0_0_0 (arg22.view.read (Elt Ideal) fk0_part72_5)) = (ldw (s := S8x136x1024) ![0, 0, 0] S1x136x1024.size inb_S8x136x1024_S1x136x1024_0_0_0 (fillX x0 x1 x2 x3 (zeroX X22))) := by
    rw [hk0_part72_11]
    refine Eq.symm ?_
    unfold fillX
    rw [ldw_upd_lt _ _ _ 0 (by decide), ldw_upd_lt _ _ _ 0 (by decide), ldw_upd_lt _ _ _ 0 (by decide), ldw_upd_lt _ _ _ 0 (by decide), ldw_upd_lt _ _ _ 0 (by decide), ldw_upd_lt _ _ _ 0 (by decide), ldw_upd_lt _ _ _ 0 (by decide)]; rfl
  obtain ⟨e56, e58, e59⟩ := hk0_part73_0
  rw [w73] at e56 e59
  have t74 : (arg22.view.read (Elt Ideal) fk0_part74_1) = T0 (fillX x0 x1 x2 x3 (zeroX X22)) := by rw [hk0_part74_3, e56, t73]; rfl
  have c74 : (arg24.view.read (Elt Ideal) fk0_part74_2) = C0 (fillX x0 x1 x2 x3 (zeroX X22)) x5 x6 X24 := by rw [hk0_part74_5, e56, e58, e59]; rfl
  have e98 := hk0_part74_0
  rw [t73] at e98
  have t75 : (arg22.view.read (Elt Ideal) fk0_part75_2) = T1 (fillX x0 x1 x2 x3 (zeroX X22)) := by rw [hk0_part75_5, e98, t74]; rfl
  have c75 : (arg24.view.read (Elt Ideal) fk0_part75_3) = C1 (fillX x0 x1 x2 x3 (zeroX X22)) x5 x6 X24 := by rw [hk0_part75_7, e98, a7_74, a8_73, c74]; rfl
  have t76 : (arg22.view.read (Elt Ideal) fk0_part76_2) = T1 (fillX x0 x1 x2 x3 (zeroX X22)) := by rw [hk0_part76_5, t75]
  have c76 : (arg24.view.read (Elt Ideal) fk0_part76_3) = C2 (fillX x0 x1 x2 x3 (zeroX X22)) x5 x6 X24 := by rw [hk0_part76_7, t75, a7_75, a8_75, c75]; rfl
  have e180 := hk0_part76_0
  rw [t75] at e180
  have t77 : (arg22.view.read (Elt Ideal) fk0_part77_2) = T2 (fillX x0 x1 x2 x3 (zeroX X22)) := by rw [hk0_part77_5, e180, t76]; rfl
  have c77 : (arg24.view.read (Elt Ideal) fk0_part77_3) = C3 (fillX x0 x1 x2 x3 (zeroX X22)) x5 x6 X24 := by rw [hk0_part77_7, t76, a7_76, a8_76, c76]; rfl
  have e219 := hk0_part77_0
  rw [t76] at e219
  have t78 : (arg22.view.read (Elt Ideal) fk0_part78_2) = T3 (fillX x0 x1 x2 x3 (zeroX X22)) := by rw [hk0_part78_5, e219, t77]; rfl
  have c78 : (arg24.view.read (Elt Ideal) fk0_part78_3) = C3 (fillX x0 x1 x2 x3 (zeroX X22)) x5 x6 X24 := by rw [hk0_part78_7, c77]
  obtain ⟨e224, e260⟩ := hk0_part78_0
  rw [t77] at e224
  rw [t77, a7_77, a8_77] at e260
  have t79 : (arg22.view.read (Elt Ideal) fk0_part79_2) = T4 (fillX x0 x1 x2 x3 (zeroX X22)) := by rw [hk0_part79_5, e224, t78]; rfl
  have c79 : (arg24.view.read (Elt Ideal) fk0_part79_3) = C4 (fillX x0 x1 x2 x3 (zeroX X22)) x5 x6 X24 := by rw [hk0_part79_7, e260, c78]; rfl
  obtain ⟨e266, e299⟩ := hk0_part79_0
  rw [t78] at e266
  rw [t78, a7_78, a8_78] at e299
  have t80 : (arg22.view.read (Elt Ideal) fk0_part80_2) = T5 (fillX x0 x1 x2 x3 (zeroX X22)) := by rw [hk0_part80_5, e266, t79]; rfl
  have c80 : (arg24.view.read (Elt Ideal) fk0_part80_3) = C5 (fillX x0 x1 x2 x3 (zeroX X22)) x5 x6 X24 := by rw [hk0_part80_7, e299, c79]; rfl
  obtain ⟨e308, e335, e338, e160⟩ := hk0_part80_0
  rw [t79] at e308
  rw [t79, a7_79, a8_79] at e335
  rw [t79, a7_79, a8_79] at e338
  have t81 : (arg22.view.read (Elt Ideal) fk0_part81_2) = T6 (fillX x0 x1 x2 x3 (zeroX X22)) := by rw [hk0_part81_5, e308, t80]; rfl
  have c81 : (arg24.view.read (Elt Ideal) fk0_part81_3) = C6 (fillX x0 x1 x2 x3 (zeroX X22)) x5 x6 X24 := by rw [hk0_part81_7, e335, e338, e160, c80]; rfl
  obtain ⟨e350, e377, e178⟩ := hk0_part81_0
  rw [t80] at e350
  rw [t80, a7_80, a8_80] at e377
  have t82 : (arg22.view.read (Elt Ideal) fk0_part82_3) = T7 (fillX x0 x1 x2 x3 (zeroX X22)) := by rw [hk0_part82_7, e350, t81]; rfl
  have c82 : (arg24.view.read (Elt Ideal) fk0_part82_4) = C7 (fillX x0 x1 x2 x3 (zeroX X22)) x5 x6 X24 := by rw [hk0_part82_9, e377, e178, c81]; rfl
  obtain ⟨e391, e392, e413, -⟩ := hk0_part82_0
  obtain ⟨e445, e446, e447⟩ := hk0_part83_0
  have g391 : v391 = (C7 (fillX x0 x1 x2 x3 (zeroX X22)) x5 x6 X24) := by rw [e391, ← hk0_part82_9, c82]
  have g392 : v392 = k0_pay414 (C7 (fillX x0 x1 x2 x3 (zeroX X22)) x5 x6 X24) := by rw [e392, ← hk0_part82_9, c82]
  have g413 : v413 = k0_pay415 (C7 (fillX x0 x1 x2 x3 (zeroX X22)) x5 x6 X24) x7 x8 x9 := by rw [e413, ← hk0_part82_9, c82]
  have eO : k0_part84_r = k0_pay431 (k0_pay429 (yEnd (C7 (fillX x0 x1 x2 x3 (zeroX X22)) x5 x6 X24) (k0_pay414 (C7 (fillX x0 x1 x2 x3 (zeroX X22)) x5 x6 X24)) (k0_pay415 (C7 (fillX x0 x1 x2 x3 (zeroX X22)) x5 x6 X24) x7 x8 x9) x10 x11 x12 (k0_pay2 (F := Ideal))) x13 (C7 (fillX x0 x1 x2 x3 (zeroX X22)) x5 x6 X24)) (k0_pay374 x0 x1 x2 x4) (k0_pay430 (F := Ideal)) x14 x15 x16 x17 x18 := by
    rw [hk0_part84_0, e445, e446, e447, g391, g392, g413, c82, hk0_part72_13, hk0_part72_15]
  have eH : (arg30.view.read (Elt Ideal) fk0_part83_16) = hS (C7 (fillX x0 x1 x2 x3 (zeroX X22)) x5 x6 X24) x7 x8 x9 x10 x12 (k0_pay2 (F := Ideal)) := by rw [hk0_part83_23, g391, g392, g413, hk0_part72_15]; rfl
  rw [eO]
  iapply Hk
  isplitl [Hk0_part72_2]
  · unfold owns; iexists _; isplitr; swap; · iexact Hk0_part72_2
    ipureintro; exact hk0_part72_1
  isplitl [Hk0_part72_4]
  · unfold owns; iexists _; isplitr; swap; · iexact Hk0_part72_4
    ipureintro; exact hk0_part72_3
  isplitl [Hk0_part72_6]
  · unfold owns; iexists _; isplitr; swap; · iexact Hk0_part72_6
    ipureintro; exact hk0_part72_5
  isplitl [Hk0_part72_8]
  · unfold owns; iexists _; isplitr; swap; · iexact Hk0_part72_8
    ipureintro; exact hk0_part72_7
  isplitl [Hk0_part72_10]
  · unfold owns; iexists _; isplitr; swap; · iexact Hk0_part72_10
    ipureintro; exact hk0_part72_9
  isplitl [Hk0_part81_2]
  · unfold owns; iexists _; isplitr; swap; · iexact Hk0_part81_2
    ipureintro; exact a7_81
  isplitl [Hk0_part81_4]
  · unfold owns; iexists _; isplitr; swap; · iexact Hk0_part81_4
    ipureintro; exact a8_81
  isplitl [Hk0_part82_2]
  · unfold owns; iexists _; isplitr; swap; · iexact Hk0_part82_2
    ipureintro; exact hk0_part82_1
  isplitl [Hk0_part82_4]
  · unfold owns; iexists _; isplitr; swap; · iexact Hk0_part82_4
    ipureintro; exact hk0_part82_3
  isplitl [Hk0_part82_6]
  · unfold owns; iexists _; isplitr; swap; · iexact Hk0_part82_6
    ipureintro; exact hk0_part82_5
  isplitl [Hk0_part83_2]
  · unfold owns; iexists _; isplitr; swap; · iexact Hk0_part83_2
    ipureintro; exact hk0_part83_1
  isplitl [Hk0_part83_4]
  · unfold owns; iexists _; isplitr; swap; · iexact Hk0_part83_4
    ipureintro; exact hk0_part83_3
  isplitl [Hk0_part83_6]
  · unfold owns; iexists _; isplitr; swap; · iexact Hk0_part83_6
    ipureintro; exact hk0_part83_5
  isplitl [Hk0_part83_8]
  · unfold owns; iexists _; isplitr; swap; · iexact Hk0_part83_8
    ipureintro; exact hk0_part83_7
  isplitl [Hk0_part84_2]
  · unfold owns; iexists _; isplitr; swap; · iexact Hk0_part84_2
    ipureintro; exact hk0_part84_1
  isplitl [Hk0_part84_4]
  · unfold owns; iexists _; isplitr; swap; · iexact Hk0_part84_4
    ipureintro; exact hk0_part84_3
  isplitl [Hk0_part84_6]
  · unfold owns; iexists _; isplitr; swap; · iexact Hk0_part84_6
    ipureintro; exact hk0_part84_5
  isplitl [Hk0_part84_8]
  · unfold owns; iexists _; isplitr; swap; · iexact Hk0_part84_8
    ipureintro; exact hk0_part84_7
  isplitl [Hk0_part84_10]
  · unfold owns; iexists _; isplitr; swap; · iexact Hk0_part84_10
    ipureintro; exact hk0_part84_9
  isplitl [H21]
  · unfold owns; iexists _; isplitr; swap; · iexact H21
    ipureintro; exact (rd_store arg21.view _ _ _ _)
  isplitl [Hk0_part82_8]
  · unfold owns; iexists _; isplitr; swap; · iexact Hk0_part82_8
    ipureintro; exact t82
  isplitl [Hk0_part83_10]
  · unfold owns; iexists _, _; isplitr; swap; · iexact Hk0_part83_10
    ipureintro; exact rfl
  isplitl [Hk0_part83_12]
  · unfold owns; iexists _, _; isplitr; swap; · iexact Hk0_part83_12
    ipureintro; exact rfl
  isplitl [Hk0_part83_14]
  · unfold owns; iexists _, _; isplitr; swap; · iexact Hk0_part83_14
    ipureintro; exact rfl
  isplitl [Hk0_part83_16]
  · unfold owns; iexists _, _; isplitr; swap; · iexact Hk0_part83_16
    ipureintro; exact rfl
  isplitl [Hk0_part83_18]
  · unfold owns; iexists _, _; isplitr; swap; · iexact Hk0_part83_18
    ipureintro; exact rfl
  isplitl [Hk0_part83_20]
  · unfold owns; iexists _, _; isplitr; swap; · iexact Hk0_part83_20
    ipureintro; exact rfl
  isplitl [Hk0_part83_22]
  · unfold owns; iexists _, _; isplitr; swap; · iexact Hk0_part83_22
    ipureintro; exact rfl
  unfold owns; iexists _; isplitr; swap; · iexact Hk0_part83_24
  ipureintro; exact eH

end Cert.KernelIdeal

end
-- ==== Proof.PointB.lean ====
/- The values of a later point: what it leaves in the output window, in the conv buffer and in the state. -/
module

public import proofs.«01_k».proof.Proof.BodyDefs
public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]
/-- The resource algebra of the launch. -/
local notation "𝕄I" => MT nD τ sig Unit (Elt Ideal) ℕ (UR sig nD τ) ℕ
/-- The resource algebra. -/
local notation "𝕄" => MT nD τ sig Unit (Elt F) ℕ (UR sig nD τ) ℕ

variable (c : Dev nD) (i : grid0.Coords) (arg2 : Memref sig .tc .vmem S8x128x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x32 .bf16) (harg9 : arg9.IsWhole) (arg10 : Memref sig .tc .vmem S32x1024 .bf16) (harg10 : arg10.IsWhole) (arg11 : Memref sig .tc .vmem S1x1024 .f32) (harg11 : arg11.IsWhole) (arg12 : Memref sig .tc .vmem S16x1024 .bf16) (harg12 : arg12.IsWhole) (arg13 : Memref sig .tc .vmem S1024x16 .bf16) (harg13 : arg13.IsWhole) (arg14 : Memref sig .tc .vmem S16x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S8x128x1024 .f32) (harg21 : arg21.IsWhole) (arg22 : Memref sig .tc .vmem S8x136x1024 .f32) (harg22 : arg22.IsWhole) (arg23 : Memref sig .tc .vmem S1024x1024 .f32) (harg23 : arg23.IsWhole) (arg24 : Memref sig .tc .vmem S1024x1024 .f32) (harg24 : arg24.IsWhole) (arg25 : Memref sig .tc .vmem S1024x1024 .f32) (harg25 : arg25.IsWhole) (arg26 : Memref sig .tc .vmem S1024x1024 .f32) (harg26 : arg26.IsWhole) (arg27 : Memref sig .tc .vmem S1024x16 .f32) (harg27 : arg27.IsWhole) (arg28 : Memref sig .tc .vmem S1024x1024 .f32) (harg28 : arg28.IsWhole) (arg29 : Memref sig .tc .vmem S2048x1024 .bf16) (harg29 : arg29.IsWhole) (arg30 : Memref sig .tc .vmem S128x1024 .f32) (harg30 : arg30.IsWhole)

attribute [local irreducible] k0_part72 k0_part73 k0_part74 k0_part75 k0_part76 k0_part77 k0_part78 k0_part79 k0_part80 k0_part81 k0_part82 k0_part83 k0_part84

set_option maxHeartbeats 16000000 in
/-- A point inside a sequence: what it leaves. -/
theorem pointB (hc0 : ¬ cond0_0 i) (x0 : Vec Ideal S8x128x1024 .bf16) (x1 : Vec Ideal S1024x512 .bf16) (x2 : Vec Ideal S1x512 .f32) (x3 : Vec Ideal S512x1024 .bf16) (x4 : Vec Ideal S512x1024 .bf16) (x5 : Vec Ideal S4x1024 .f32) (x6 : Vec Ideal S1x1024 .f32) (x7 : Vec Ideal S1024x32 .bf16) (x8 : Vec Ideal S32x1024 .bf16) (x9 : Vec Ideal S1x1024 .f32) (x10 : Vec Ideal S16x1024 .bf16) (x11 : Vec Ideal S1024x16 .bf16) (x12 : Vec Ideal S16x1024 .f32) (x13 : Vec Ideal S1x1024 .f32) (x14 : Vec Ideal S1024x512 .bf16) (x15 : Vec Ideal S1x512 .f32) (x16 : Vec Ideal S1x512 .f32) (x17 : Vec Ideal S512x1024 .bf16) (x18 : Vec Ideal S1x1024 .f32) (X22 : Vec Ideal S8x136x1024 .f32) (X23 : Vec Ideal S1024x1024 .f32) (X24 : Vec Ideal S1024x1024 .f32) (X25 : Vec Ideal S1024x1024 .f32) (X30 : Vec Ideal S128x1024 .f32) (d26 : Vec Ideal S1024x1024 .f32) (d27 : Vec Ideal S1024x16 .f32) (d28 : Vec Ideal S1024x1024 .f32) (d29 : Vec Ideal S2048x1024 .bf16) (f21 : arg21.view.ty.Contents (Elt Ideal)) (E : Set ℕ) (K : PUnit → sProp 𝕄I) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (arg21.view.loc (c : Thread nD τ) ↦[arg21.view.set]{fullShare} f21) ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare X30 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (outS (C7 (fillX x0 x1 x2 x3 X22) x5 x6 X24) (k0_pay374 x0 x1 x2 x4) x7 x8 x9 x10 x11 x12 x13 x14 x15 x16 x17 x18 X30) ∗ owns (c : Thread nD τ) arg22 fullShare (T7 (fillX x0 x1 x2 x3 X22)) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare (hS (C7 (fillX x0 x1 x2 x3 X22) x5 x6 X24) x7 x8 x9 x10 x12 X30)) -∗ K ⟨⟩))
      ⊢ wp frame (wpE (defs₀ (F := Ideal)) Variants.none c none) E (cc0__mamba_kernel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  have h72 := fun x0 x1 x2 x3 x4 X22 X23 X30 => part72b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 X22 X23 X30 E
  have h73 := fun v16 v30 x6 X22 => part73 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v16 v30 x6 X22 E
  have h74 := fun v56 v58 v59 x5 X22 X24 => part74 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v56 v58 v59 x5 X22 X24 E
  have h75 := fun v98 x5 x6 X22 X24 => part75 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v98 x5 x6 X22 X24 E
  have h76 := fun x5 x6 X22 X24 => part76 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x5 x6 X22 X24 E
  have h77 := fun v180 x5 x6 X22 X24 => part77 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v180 x5 x6 X22 X24 E
  have h78 := fun v219 x5 x6 X22 X24 => part78 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v219 x5 x6 X22 X24 E
  have h79 := fun v224 v260 x5 x6 X22 X24 => part79 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v224 v260 x5 x6 X22 X24 E
  have h80 := fun v266 v299 x5 x6 X22 X24 => part80 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v266 v299 x5 x6 X22 X24 E
  have h81 := fun v308 v335 v338 cst x5 x6 X22 X24 => part81 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v308 v335 v338 cst x5 x6 X22 X24 E
  have h82 := fun v350 v377 cst x7 x8 x9 X22 X24 X25 => part82 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v350 v377 cst x7 x8 x9 X22 X24 X25 E
  have h84 := fun v445 v446 v447 x14 x15 x16 x17 x18 => part84 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v445 v446 v447 x14 x15 x16 x17 x18 E
  have h83 := fun v391 v392 v413 v414 x10 x11 x12 x13 z xc h0 d25 d26 d27 d28 d29 => part83c c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v391 v392 v413 v414 x10 x11 x12 x13 z xc h0 d25 d26 d27 d28 d29 E
  simp only [cc0__mamba_kernel_eq_skeleton]; unfold cc0__mamba_kernel_skel
  iintro ⟨H2, H3, H4, H5, H6, H7, H8, H9, H10, H11, H12, H13, H14, H15, H16, H17, H18, H19, H20, H21, H22, H23, H24, H25, H26, H27, H28, H29, H30, Hk⟩
  sl_exec
  sl_step
  simp only [PSigma.mk.injEq, heq_eq_eq] at hk0_part72_0 hk0_part73_0 hk0_part78_0 hk0_part79_0 hk0_part80_0 hk0_part81_0 hk0_part82_0 hk0_part83_0
  clear h72 h73 h74 h75 h76 h77 h78 h79 h80 h81 h82 h83 h84
  obtain ⟨e16, e30⟩ := hk0_part72_0
  have t73 : (arg22.view.read (Elt Ideal) fk0_part73_1) = (fillX x0 x1 x2 x3 X22) := by rw [hk0_part73_3, hk0_part72_11, e16, e30]; rfl
  have a8_73 := hk0_part73_1
  have a7_74 := hk0_part74_1
  have a7_75 := hk0_part75_1.trans a7_74
  have a8_75 := hk0_part75_3.trans a8_73
  have a7_76 := hk0_part76_1.trans a7_75
  have a8_76 := hk0_part76_3.trans a8_75
  have a7_77 := hk0_part77_1.trans a7_76
  have a8_77 := hk0_part77_3.trans a8_76
  have a7_78 := hk0_part78_1.trans a7_77
  have a8_78 := hk0_part78_3.trans a8_77
  have a7_79 := hk0_part79_1.trans a7_78
  have a8_79 := hk0_part79_3.trans a8_78
  have a7_80 := hk0_part80_1.trans a7_79
  have a8_80 := hk0_part80_3.trans a8_79
  have a7_81 := hk0_part81_1.trans a7_80
  have a8_81 := hk0_part81_3.trans a8_80
  have w73 : (ldw (s := S8x136x1024) ![0, 0, 0] S1x136x1024.size inb_S8x136x1024_S1x136x1024_0_0_0 (arg22.view.read (Elt Ideal) fk0_part72_5)) = (ldw (s := S8x136x1024) ![0, 0, 0] S1x136x1024.size inb_S8x136x1024_S1x136x1024_0_0_0 (fillX x0 x1 x2 x3 X22)) := by
    rw [hk0_part72_11]
    refine Eq.symm ?_
    unfold fillX
    rw [ldw_upd_lt _ _ _ 0 (by decide), ldw_upd_lt _ _ _ 0 (by decide), ldw_upd_lt _ _ _ 0 (by decide), ldw_upd_lt _ _ _ 0 (by decide), ldw_upd_lt _ _ _ 0 (by decide), ldw_upd_lt _ _ _ 0 (by decide), ldw_upd_lt _ _ _ 0 (by decide)]
  obtain ⟨e56, e58, e59⟩ := hk0_part73_0
  rw [w73] at e56 e59
  have t74 : (arg22.view.read (Elt Ideal) fk0_part74_1) = T0 (fillX x0 x1 x2 x3 X22) := by rw [hk0_part74_3, e56, t73]; rfl
  have c74 : (arg24.view.read (Elt Ideal) fk0_part74_2) = C0 (fillX x0 x1 x2 x3 X22) x5 x6 X24 := by rw [hk0_part74_5, e56, e58, e59]; rfl
  have e98 := hk0_part74_0
  rw [t73] at e98
  have t75 : (arg22.view.read (Elt Ideal) fk0_part75_2) = T1 (fillX x0 x1 x2 x3 X22) := by rw [hk0_part75_5, e98, t74]; rfl
  have c75 : (arg24.view.read (Elt Ideal) fk0_part75_3) = C1 (fillX x0 x1 x2 x3 X22) x5 x6 X24 := by rw [hk0_part75_7, e98, a7_74, a8_73, c74]; rfl
  have t76 : (arg22.view.read (Elt Ideal) fk0_part76_2) = T1 (fillX x0 x1 x2 x3 X22) := by rw [hk0_part76_5, t75]
  have c76 : (arg24.view.read (Elt Ideal) fk0_part76_3) = C2 (fillX x0 x1 x2 x3 X22) x5 x6 X24 := by rw [hk0_part76_7, t75, a7_75, a8_75, c75]; rfl
  have e180 := hk0_part76_0
  rw [t75] at e180
  have t77 : (arg22.view.read (Elt Ideal) fk0_part77_2) = T2 (fillX x0 x1 x2 x3 X22) := by rw [hk0_part77_5, e180, t76]; rfl
  have c77 : (arg24.view.read (Elt Ideal) fk0_part77_3) = C3 (fillX x0 x1 x2 x3 X22) x5 x6 X24 := by rw [hk0_part77_7, t76, a7_76, a8_76, c76]; rfl
  have e219 := hk0_part77_0
  rw [t76] at e219
  have t78 : (arg22.view.read (Elt Ideal) fk0_part78_2) = T3 (fillX x0 x1 x2 x3 X22) := by rw [hk0_part78_5, e219, t77]; rfl
  have c78 : (arg24.view.read (Elt Ideal) fk0_part78_3) = C3 (fillX x0 x1 x2 x3 X22) x5 x6 X24 := by rw [hk0_part78_7, c77]
  obtain ⟨e224, e260⟩ := hk0_part78_0
  rw [t77] at e224
  rw [t77, a7_77, a8_77] at e260
  have t79 : (arg22.view.read (Elt Ideal) fk0_part79_2) = T4 (fillX x0 x1 x2 x3 X22) := by rw [hk0_part79_5, e224, t78]; rfl
  have c79 : (arg24.view.read (Elt Ideal) fk0_part79_3) = C4 (fillX x0 x1 x2 x3 X22) x5 x6 X24 := by rw [hk0_part79_7, e260, c78]; rfl
  obtain ⟨e266, e299⟩ := hk0_part79_0
  rw [t78] at e266
  rw [t78, a7_78, a8_78] at e299
  have t80 : (arg22.view.read (Elt Ideal) fk0_part80_2) = T5 (fillX x0 x1 x2 x3 X22) := by rw [hk0_part80_5, e266, t79]; rfl
  have c80 : (arg24.view.read (Elt Ideal) fk0_part80_3) = C5 (fillX x0 x1 x2 x3 X22) x5 x6 X24 := by rw [hk0_part80_7, e299, c79]; rfl
  obtain ⟨e308, e335, e338, e160⟩ := hk0_part80_0
  rw [t79] at e308
  rw [t79, a7_79, a8_79] at e335
  rw [t79, a7_79, a8_79] at e338
  have t81 : (arg22.view.read (Elt Ideal) fk0_part81_2) = T6 (fillX x0 x1 x2 x3 X22) := by rw [hk0_part81_5, e308, t80]; rfl
  have c81 : (arg24.view.read (Elt Ideal) fk0_part81_3) = C6 (fillX x0 x1 x2 x3 X22) x5 x6 X24 := by rw [hk0_part81_7, e335, e338, e160, c80]; rfl
  obtain ⟨e350, e377, e178⟩ := hk0_part81_0
  rw [t80] at e350
  rw [t80, a7_80, a8_80] at e377
  have t82 : (arg22.view.read (Elt Ideal) fk0_part82_3) = T7 (fillX x0 x1 x2 x3 X22) := by rw [hk0_part82_7, e350, t81]; rfl
  have c82 : (arg24.view.read (Elt Ideal) fk0_part82_4) = C7 (fillX x0 x1 x2 x3 X22) x5 x6 X24 := by rw [hk0_part82_9, e377, e178, c81]; rfl
  obtain ⟨e391, e392, e413, -⟩ := hk0_part82_0
  obtain ⟨e445, e446, e447⟩ := hk0_part83_0
  have g391 : v391 = (C7 (fillX x0 x1 x2 x3 X22) x5 x6 X24) := by rw [e391, ← hk0_part82_9, c82]
  have g392 : v392 = k0_pay414 (C7 (fillX x0 x1 x2 x3 X22) x5 x6 X24) := by rw [e392, ← hk0_part82_9, c82]
  have g413 : v413 = k0_pay415 (C7 (fillX x0 x1 x2 x3 X22) x5 x6 X24) x7 x8 x9 := by rw [e413, ← hk0_part82_9, c82]
  have eO : k0_part84_r = k0_pay431 (k0_pay429 (yEnd (C7 (fillX x0 x1 x2 x3 X22) x5 x6 X24) (k0_pay414 (C7 (fillX x0 x1 x2 x3 X22) x5 x6 X24)) (k0_pay415 (C7 (fillX x0 x1 x2 x3 X22) x5 x6 X24) x7 x8 x9) x10 x11 x12 X30) x13 (C7 (fillX x0 x1 x2 x3 X22) x5 x6 X24)) (k0_pay374 x0 x1 x2 x4) (k0_pay430 (F := Ideal)) x14 x15 x16 x17 x18 := by
    rw [hk0_part84_0, e445, e446, e447, g391, g392, g413, c82, hk0_part72_13, hk0_part72_15]
  have eH : (arg30.view.read (Elt Ideal) fk0_part83_16) = hS (C7 (fillX x0 x1 x2 x3 X22) x5 x6 X24) x7 x8 x9 x10 x12 X30 := by rw [hk0_part83_23, g391, g392, g413, hk0_part72_15]; rfl
  rw [eO]
  iapply Hk
  isplitl [Hk0_part72_2]
  · unfold owns; iexists _; isplitr; swap; · iexact Hk0_part72_2
    ipureintro; exact hk0_part72_1
  isplitl [Hk0_part72_4]
  · unfold owns; iexists _; isplitr; swap; · iexact Hk0_part72_4
    ipureintro; exact hk0_part72_3
  isplitl [Hk0_part72_6]
  · unfold owns; iexists _; isplitr; swap; · iexact Hk0_part72_6
    ipureintro; exact hk0_part72_5
  isplitl [Hk0_part72_8]
  · unfold owns; iexists _; isplitr; swap; · iexact Hk0_part72_8
    ipureintro; exact hk0_part72_7
  isplitl [Hk0_part72_10]
  · unfold owns; iexists _; isplitr; swap; · iexact Hk0_part72_10
    ipureintro; exact hk0_part72_9
  isplitl [Hk0_part81_2]
  · unfold owns; iexists _; isplitr; swap; · iexact Hk0_part81_2
    ipureintro; exact a7_81
  isplitl [Hk0_part81_4]
  · unfold owns; iexists _; isplitr; swap; · iexact Hk0_part81_4
    ipureintro; exact a8_81
  isplitl [Hk0_part82_2]
  · unfold owns; iexists _; isplitr; swap; · iexact Hk0_part82_2
    ipureintro; exact hk0_part82_1
  isplitl [Hk0_part82_4]
  · unfold owns; iexists _; isplitr; swap; · iexact Hk0_part82_4
    ipureintro; exact hk0_part82_3
  isplitl [Hk0_part82_6]
  · unfold owns; iexists _; isplitr; swap; · iexact Hk0_part82_6
    ipureintro; exact hk0_part82_5
  isplitl [Hk0_part83_2]
  · unfold owns; iexists _; isplitr; swap; · iexact Hk0_part83_2
    ipureintro; exact hk0_part83_1
  isplitl [Hk0_part83_4]
  · unfold owns; iexists _; isplitr; swap; · iexact Hk0_part83_4
    ipureintro; exact hk0_part83_3
  isplitl [Hk0_part83_6]
  · unfold owns; iexists _; isplitr; swap; · iexact Hk0_part83_6
    ipureintro; exact hk0_part83_5
  isplitl [Hk0_part83_8]
  · unfold owns; iexists _; isplitr; swap; · iexact Hk0_part83_8
    ipureintro; exact hk0_part83_7
  isplitl [Hk0_part84_2]
  · unfold owns; iexists _; isplitr; swap; · iexact Hk0_part84_2
    ipureintro; exact hk0_part84_1
  isplitl [Hk0_part84_4]
  · unfold owns; iexists _; isplitr; swap; · iexact Hk0_part84_4
    ipureintro; exact hk0_part84_3
  isplitl [Hk0_part84_6]
  · unfold owns; iexists _; isplitr; swap; · iexact Hk0_part84_6
    ipureintro; exact hk0_part84_5
  isplitl [Hk0_part84_8]
  · unfold owns; iexists _; isplitr; swap; · iexact Hk0_part84_8
    ipureintro; exact hk0_part84_7
  isplitl [Hk0_part84_10]
  · unfold owns; iexists _; isplitr; swap; · iexact Hk0_part84_10
    ipureintro; exact hk0_part84_9
  isplitl [H21]
  · unfold owns; iexists _; isplitr; swap; · iexact H21
    ipureintro; exact (rd_store arg21.view _ _ _ _)
  isplitl [Hk0_part82_8]
  · unfold owns; iexists _; isplitr; swap; · iexact Hk0_part82_8
    ipureintro; exact t82
  isplitl [Hk0_part83_10]
  · unfold owns; iexists _, _; isplitr; swap; · iexact Hk0_part83_10
    ipureintro; exact rfl
  isplitl [Hk0_part83_12]
  · unfold owns; iexists _, _; isplitr; swap; · iexact Hk0_part83_12
    ipureintro; exact rfl
  isplitl [Hk0_part83_14]
  · unfold owns; iexists _, _; isplitr; swap; · iexact Hk0_part83_14
    ipureintro; exact rfl
  isplitl [Hk0_part83_16]
  · unfold owns; iexists _, _; isplitr; swap; · iexact Hk0_part83_16
    ipureintro; exact rfl
  isplitl [Hk0_part83_18]
  · unfold owns; iexists _, _; isplitr; swap; · iexact Hk0_part83_18
    ipureintro; exact rfl
  isplitl [Hk0_part83_20]
  · unfold owns; iexists _, _; isplitr; swap; · iexact Hk0_part83_20
    ipureintro; exact rfl
  isplitl [Hk0_part83_22]
  · unfold owns; iexists _, _; isplitr; swap; · iexact Hk0_part83_22
    ipureintro; exact rfl
  unfold owns; iexists _; isplitr; swap; · iexact Hk0_part83_24
  ipureintro; exact eH

end Cert.KernelIdeal

end
-- ==== Proof.KFrame.lean ====
/- The run of the program over the extended reals: what every grid point leaves in the result. -/
module

public import proofs.«01_k».proof.Proof.KStep
public import proofs.«01_k».proof.Proof.KOps
public import proofs.«01_k».proof.Proof.PointA
public import proofs.«01_k».proof.Proof.PointB
public import Idealize.ShloMosaic.Lib.Quiescent

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

/-- The resource algebra of the launch. -/
local notation "𝕄" => MT nD τ sig Unit (Elt Ideal) ℕ (UR sig nD τ) ℕ

open Cert.Rows

variable (m : (ℓ : Loc nD τ sig) → Buf (Elt Ideal) ℓ) (ρ : Dev nD → PrngReg)

/-- The scratch before point `t`: the window and the state are as `Inv` says, the rest holds anything. -/
def PhiV (c : Dev nD) (t : ℕ) : sProp 𝕄 :=
  iprop(iprop((∃ X h, ⌜Inv (arrsK m c) t X h⌝ ∗ owns (c : Thread nD τ) scM0_0 fullShare X ∗ owns (c : Thread nD τ) scM0_8 fullShare h) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

/-- The data of the pipelined launch: every operand's window at its block, the result's at its rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outB (arrsK m c) t.val
    | ⟨_ + 20, h⟩ => absurd h (Nat.not_lt.2 (Nat.le_add_left _ _))
  Φ t := PhiV m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = outB (arrsK m c) t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

theorem Phi_eq (c : Dev nD) (t : Fin (cfg0.N + 1)) : (dats m 0 c).Φ t = PhiV m c t.val := by dsimp only [dats]

set_option maxHeartbeats 8000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [Phi_eq, Phi_eq, show t.castSucc.val = t.val from rfl, show t.succ.val = t.val + 1 from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  unfold PhiV
  iintro ⟨⟨⟨⟨%X, %h, %hI, HS0, HS8⟩, ⟨%e1, HS1⟩, ⟨%e2, HS2⟩, ⟨%e3, HS3⟩, ⟨%e4, HS4⟩, ⟨%e5, HS5⟩, ⟨%e6, HS6⟩, ⟨%e7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  icases (show owns (c : Thread nD τ) (ms0_19 t) fullShare ((dats m 0 c).before 19 t d19) ⊢ (iprop(∃ f, ⌜(ms0_19 t).view.read (Elt Ideal) f = ((dats m 0 c).before 19 t d19)⌝ ∗ ((ms0_19 t).view.loc c ↦[(ms0_19 t).view.set]{fullShare} f)) : sProp 𝕄) from .rfl) $$ H19 with ⟨%f19, %hf19, H19⟩
  by_cases hz : t.val = 0
  · have hc : cond0_0 (grid0.coords t) := (hcond0_0 t).2 (by rw [hz])
    have hst := fun Y => stepA (arrsK m c) t.val (iblk m c 0 t) (blk_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (blk_1 m c t) (blk_2 m c t) (blk_3 m c t) (blk_4 m c t) (blk_5 m c t) (blk_6 m c t) (blk_7 m c t) (blk_8 m c t) (blk_9 m c t) (blk_10 m c t) (blk_11 m c t) (blk_12 m c t) (blk_13 m c t) (blk_14 m c t) (blk_15 m c t) (blk_16 m c t) (blk_17 m c t) (blk_18 m c t) hz X Y
    iapply (pointA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) X e1 e2 e3 h e4 e5 e6 e7 f19 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, H13, H14, H15, H16, H17, H18, H19, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0 HS8]
        · iexists _; iexists _
          isplitr; swap
          · isplitl [HS0]; · iexact HS0
            iexact HS8
          ipureintro; exact (hst e2).2
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    rw [← (hst e2).1]
    iexact H19
  · have hc : ¬ cond0_0 (grid0.coords t) := fun h' => hz (by
      have h1 := (hcond0_0 t).1 h'
      have h2 : t.val < 16 := Nat.lt_of_lt_of_eq t.isLt N_0
      omega)
    have hst := fun Y => stepB (arrsK m c) t.val (iblk m c 0 t) (blk_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (blk_1 m c t) (blk_2 m c t) (blk_3 m c t) (blk_4 m c t) (blk_5 m c t) (blk_6 m c t) (blk_7 m c t) (blk_8 m c t) (blk_9 m c t) (blk_10 m c t) (blk_11 m c t) (blk_12 m c t) (blk_13 m c t) (blk_14 m c t) (blk_15 m c t) (blk_16 m c t) (blk_17 m c t) (blk_18 m c t) hz X Y h hI
    iapply (pointB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) X e1 e2 e3 h e4 e5 e6 e7 f19 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, H13, H14, H15, H16, H17, H18, H19, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0 HS8]
        · iexists _; iexists _
          isplitr; swap
          · isplitl [HS0]; · iexact HS0
            iexact HS8
          ipureintro; exact (hst e2).2
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    rw [← (hst e2).1]
    iexact H19

theorem defs₀_row (t : Fin cfg0.N) :
    (defs₀ (F := Ideal)) .tc cfg0.body (cfg0.bodyArgs t (cfg0.slots t)) = bodyAt0 t := by
  unfold defs₀; rw [Defs.onTc_tc]

set_option backward.isDefEq.respectTransparency.types false in
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands over its scratch at anything, which is all the first point asks, -/
theorem hin (c : Dev nD) : Pipeline.ΦA spec0 c ⊢ (dats m 0 c).Φ 0 := by
  rw [Phi_eq, PhiA0_eq]
  unfold PhiV
  iintro ⟨⟨⟨%X, HS0⟩, HS1, HS2, HS3, HS4, HS5, HS6, HS7, ⟨%h, HS8⟩⟩, Hg⟩
  isplitl [HS0 HS1 HS2 HS3 HS4 HS5 HS6 HS7 HS8]
  · isplitl [HS0 HS8]
    · iexists X; iexists h
      isplitr; swap
      · isplitl [HS0]; · iexact HS0
        iexact HS8
      ipureintro; exact fun h => absurd rfl h
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iexact Hg

/-- and takes it back at anything. -/
theorem hout (c : Dev nD) : (dats m 0 c).Φ (Fin.last cfg0.N) ⊢ Pipeline.ΦA spec0 c := by
  rw [Phi_eq, PhiA0_eq]
  unfold PhiV
  iintro ⟨⟨⟨%X, %h, %hI, HS0, HS8⟩, HS1, HS2, HS3, HS4, HS5, HS6, HS7⟩, Hg⟩
  isplitl [HS0 HS1 HS2 HS3 HS4 HS5 HS6 HS7 HS8]
  · isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; iexact HS8
  iexact Hg

set_option backward.isDefEq.respectTransparency.types false in
/-- The run: every window's array as its blocks say, every other buffer as the launch found it. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Val

end
-- ==== Proof.KValue.lean ====
/- The result array of the program over the extended reals, and its run with the value. -/
module

public import proofs.«01_k».proof.Proof.KFrame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

open Cert.Rows

variable (m : (ℓ : Loc nD τ sig) → Buf (Elt Ideal) ℓ) (ρ : Dev nD → PrngReg)

/-- The result array after the run is the block's specification of the arguments. -/
theorem result (c : Dev nD) : (dats m 0 c).arrAt 19 (cfgs 0).N = outA (arrsK m c) := by
  refine (dats m 0 c).arrAt_eq_of_covers 19 _ (by decide +kernel) fun t _ y => ?_
  blk_simp
  rw [after0_19]
  have hi := idx_all t
  have h0 : ((win0_19.blk t).view.emb y 0) = y 0 := Fin.ext (by blk_simp [hi])
  have h1 : ((win0_19.blk t).view.emb y 1).val = 128 * t.val + (y 1).val := by blk_simp [hi]; omega
  have h2 : ((win0_19.blk t).view.emb y 2) = y 2 := Fin.ext (by blk_simp [hi])
  show out _ (y 0) (128 * t.val + (y 1).val) (y 2) = out _ ((win0_19.blk t).view.emb y 0) ((win0_19.blk t).view.emb y 1).val ((win0_19.blk t).view.emb y 2)
  rw [h1]
  exact congr (congrArg (fun g => out (arrsK m c) g (128 * t.val + (y 1).val)) h0.symm) h2.symm

/-- The run with the value: the result array is the specification, and the sixteen arguments stay. -/
theorem value : θ_run defs (onTc (τ := τ) (main (F := Ideal))) ⟨m, fun _ => 0, ρ⟩ (fun r => ∀ c : Dev nD,
      r.2.mem ((c.tc : Thread nD τ).loc main_v0) = (outA (arrsK m c) : A3 8 2048 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h.1.out_eq c 19).trans (result m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩) (run_main m ρ)

end Cert.KernelIdeal.Val

end
-- ==== Proof.RefVals.lean ====
/- What the stretches of the reference leave in the buffers read later, as functions of what they find. -/
module

public import proofs.«01_k».proof.Proof.RefRun

@[expose] public section

set_option maxRecDepth 16384
set_option maxHeartbeats 4000000

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Facts₀ Cert.ReferenceIdeal.Facts
open Idealize.ShloMosaic.StableHlo

variable {F : FTy → Type} [FloatOps F]

/-- The down projection. -/
def hdnR (x : FVec F S8x2048x1024 .f32) (wd : FVec F S1024x512 .f32) (bd : FVec F S512 .f32) : FVec F S8x2048x512 .f32 :=
  addf (Host.dotGeneral dot_S8x2048x1024_S1024x512_S8x2048x512_2_0_01_1_n_n none x wd)
    (broadcastInDim S8x2048x512 ![0, 1, 2] bcast_S1x1x512_S8x2048x512_0_1_2 (broadcastInDim S1x1x512 ![2] bcast_S512_S1x1x512_2 bd))
/-- The input projection. -/
def xzR (h : FVec F S8x2048x512 .f32) (wi : FVec F S512x2048 .f32) : FVec F S8x2048x2048 .f32 :=
  Host.dotGeneral dot_S8x2048x512_S512x2048_S8x2048x2048_2_0_01_1_n_n none h wi
/-- Its first half, padded by three zero rows in front. -/
def padR (xz : FVec F S8x2048x2048 .f32) : FVec F S8x2051x1024 .f32 :=
  pad S8x2051x1024 ![0, 3, 0] ![0, 0, 0] ![0, 0, 0] (extractStridedSlice S8x2048x1024 ![0, 0, 0] xz slices_S8x2048x2048_S8x2048x1024_0_0_0)
    (sitofp .f32 (constantI S_ 32 0#32)) pads_S8x2048x1024_S8x2051x1024_000_300_000 h_S_
/-- Its second half. -/
def zR (xz : FVec F S8x2048x2048 .f32) : FVec F S8x2048x1024 .f32 :=
  extractStridedSlice S8x2048x1024 ![0, 0, 1024] xz slices_S8x2048x2048_S8x2048x1024_0_0_1024
/-- One tap's weights along every row. -/
def tapR (w : FVec F S1024x1 .f32) : FVec F S8x2048x1024 .f32 :=
  broadcastInDim S8x2048x1024 ![0, 1, 2] bcast_S1x1x1024_S8x2048x1024_0_1_2
    (broadcastInDim S1x1x1024 ![2] bcast_S1024_S1x1x1024_2 (shapeCast S1024 w shapeCasts_S1024x1_S1024))
/-- A vector of 1024 along every row. -/
def vecR (w : FVec F S1024 .f32) : FVec F S8x2048x1024 .f32 :=
  broadcastInDim S8x2048x1024 ![0, 1, 2] bcast_S1x1x1024_S8x2048x1024_0_1_2 (broadcastInDim S1x1x1024 ![2] bcast_S1024_S1x1x1024_2 w)
/-- A scalar everywhere. -/
def sclR (w : FVec F S_ .f32) : FVec F S8x2048x1024 .f32 := broadcastInDim S8x2048x1024 ![] bcast_S_S8x2048x1024 w
/-- The causal convolution along the sequence. -/
def convR (xp : FVec F S8x2051x1024 .f32) (cw : FVec F S1024x4 .f32) (cb : FVec F S1024 .f32) : FVec F S8x2048x1024 .f32 :=
  addf (vecR cb) (addf (addf (addf (addf (sclR (constant S_ .f32 0x00000000#32))
    (mulf (extractStridedSlice S8x2048x1024 ![0, 0, 0] xp slices_S8x2051x1024_S8x2048x1024_0_0_0) (tapR (extractStridedSlice S1024x1 ![0, 0] cw slices_S1024x4_S1024x1_0_0))))
    (mulf (extractStridedSlice S8x2048x1024 ![0, 1, 0] xp slices_S8x2051x1024_S8x2048x1024_0_1_0) (tapR (extractStridedSlice S1024x1 ![0, 1] cw slices_S1024x4_S1024x1_0_1))))
    (mulf (extractStridedSlice S8x2048x1024 ![0, 2, 0] xp slices_S8x2051x1024_S8x2048x1024_0_2_0) (tapR (extractStridedSlice S1024x1 ![0, 2] cw slices_S1024x4_S1024x1_0_2))))
    (mulf (extractStridedSlice S8x2048x1024 ![0, 3, 0] xp slices_S8x2051x1024_S8x2048x1024_0_3_0) (tapR (extractStridedSlice S1024x1 ![0, 3] cw slices_S1024x4_S1024x1_0_3))))
/-- `v` times the logistic function of `v`. -/
def siluR (v : FVec F S8x2048x1024 .f32) : FVec F S8x2048x1024 .f32 :=
  mulf v (Host.divf (sclR (constant S_ .f32 0x3F800000#32)) (addf (sclR (constant S_ .f32 0x3F800000#32)) (Host.exp (Host.negf v))))
/-- The projection that gives the step size, B and C. -/
def xdR (xc : FVec F S8x2048x1024 .f32) (wx : FVec F S1024x64 .f32) : FVec F S8x2048x64 .f32 :=
  Host.dotGeneral dot_S8x2048x1024_S1024x64_S8x2048x64_2_0_01_1_n_n none xc wx
/-- The step size before the softplus. -/
def dtlR (xd : FVec F S8x2048x64 .f32) (wdt : FVec F S32x1024 .f32) (bdt : FVec F S1024 .f32) : FVec F S8x2048x1024 .f32 :=
  addf (Host.dotGeneral dot_S8x2048x32_S32x1024_S8x2048x1024_2_0_01_1_n_n none
    (extractStridedSlice S8x2048x32 ![0, 0, 0] xd slices_S8x2048x64_S8x2048x32_0_0_0) wdt) (vecR bdt)
/-- The softplus. -/
def softR (x : FVec F S8x2048x1024 .f32) : FVec F S8x2048x1024 .f32 :=
  select (cmpf .une (subf x (sclR (constant S_ .f32 0x00000000#32))) (subf x (sclR (constant S_ .f32 0x00000000#32))))
    (addf x (sclR (constant S_ .f32 0x00000000#32)))
    (addf (maximumf x (sclR (constant S_ .f32 0x00000000#32)))
      (Host.log1p (Host.exp (Host.negf (Host.absf (subf x (sclR (constant S_ .f32 0x00000000#32))))))))
/-- B and C. -/
def bR (xd : FVec F S8x2048x64 .f32) : FVec F S8x2048x16 .f32 := extractStridedSlice S8x2048x16 ![0, 0, 32] xd slices_S8x2048x64_S8x2048x16_0_0_32
/-- C. -/
def cR (xd : FVec F S8x2048x64 .f32) : FVec F S8x2048x16 .f32 := extractStridedSlice S8x2048x16 ![0, 0, 48] xd slices_S8x2048x64_S8x2048x16_0_0_48
/-- The decay matrix. -/
def aR (al : FVec F S1024x16 .f32) : FVec F S1024x16 .f32 := Host.negf (Host.exp al)
/-- The time axis first. -/
def tR (x : FVec F S8x2048x1024 .f32) : FVec F S2048x8x1024 .f32 := transpose S2048x8x1024 [1, 0, 2] x transposes_S8x2048x1024_S2048x8x1024_1_0_2
/-- The time axis first, sixteen columns. -/
def tR16 (x : FVec F S8x2048x16 .f32) : FVec F S2048x8x16 .f32 := transpose S2048x8x16 [1, 0, 2] x transposes_S8x2048x16_S2048x8x16_1_0_2

/-- The row of a time step. -/
def rowR (x : FVec F S2048x8x1024 .f32) (i : Vec F S_ .i32) : FVec F S8x1024 .f32 :=
  shapeCast S8x1024 (Host.dynamicSlice S1x8x1024 x (fun k => ((![i, constantI S_ 32 0#32, constantI S_ 32 0#32] : Fin 3 → Vec F S_ .i32) k (Shape.Idx.first h_S_)).toInt) sliceFits_S2048x8x1024_S1x8x1024) shapeCasts_S1x8x1024_S8x1024
/-- The row of a time step, sixteen columns. -/
def rowR16 (x : FVec F S2048x8x16 .f32) (i : Vec F S_ .i32) : FVec F S8x16 .f32 :=
  shapeCast S8x16 (Host.dynamicSlice S1x8x16 x (fun k => ((![i, constantI S_ 32 0#32, constantI S_ 32 0#32] : Fin 3 → Vec F S_ .i32) k (Shape.Idx.first h_S_)).toInt) sliceFits_S2048x8x16_S1x8x16) shapeCasts_S1x8x16_S8x16
/-- One step of the recurrence. -/
def stepR (dt x : FVec F S8x1024 .f32) (b : FVec F S8x16 .f32) (a : FVec F S1024x16 .f32) (h : FVec F S8x1024x16 .f32) : FVec F S8x1024x16 .f32 :=
  addf (mulf h (Host.exp (mulf (broadcastInDim S8x1024x16 ![0, 1, 2] bcast_S8x1024x1_S8x1024x16_0_1_2 (broadcastInDim S8x1024x1 ![0, 1] bcast_S8x1024_S8x1024x1_0_1 dt))
      (broadcastInDim S8x1024x16 ![0, 1, 2] bcast_S1x1024x16_S8x1024x16_0_1_2 (broadcastInDim S1x1024x16 ![1, 2] bcast_S1024x16_S1x1024x16_1_2 a)))))
    (mulf (broadcastInDim S8x1024x16 ![0, 1, 2] bcast_S8x1024x1_S8x1024x16_0_1_2 (broadcastInDim S8x1024x1 ![0, 1] bcast_S8x1024_S8x1024x1_0_1 (mulf dt x)))
      (broadcastInDim S8x1024x16 ![0, 1, 2] bcast_S8x1x16_S8x1024x16_0_1_2 (broadcastInDim S8x1x16 ![0, 2] bcast_S8x16_S8x1x16_0_2 b)))
/-- The output of a step. -/
def yR (h : FVec F S8x1024x16 .f32) (c : FVec F S8x16 .f32) : FVec F S8x1024 .f32 :=
  Host.dotGeneral dot_S8x1024x16_S8x16_S8x1024_2_1_1_n_0_0 none h c
/-- The outputs with a step's written in. -/
def wrR (ys : FVec F S2048x8x1024 .f32) (y : FVec F S8x1024 .f32) (i : Vec F S_ .i32) : FVec F S2048x8x1024 .f32 :=
  Host.dynamicUpdateSlice ys (broadcastInDim S1x8x1024 ![1, 2] bcast_S8x1024_S1x8x1024_1_2 y)
    (fun k => ((![i, constantI S_ 32 0#32, constantI S_ 32 0#32] : Fin 3 → Vec F S_ .i32) k (Shape.Idx.first h_S_)).toInt) updateFits_S2048x8x1024_S1x8x1024

/-- The gated output and the output projection. -/
def mR (ys : FVec F S2048x8x1024 .f32) (dsk : FVec F S1024 .f32) (xc z : FVec F S8x2048x1024 .f32) (wo : FVec F S1024x512 .f32) : FVec F S8x2048x512 .f32 :=
  Host.dotGeneral dot_S8x2048x1024_S1024x512_S8x2048x512_2_0_01_1_n_n none
    (mulf (addf (transpose S8x2048x1024 [1, 0, 2] ys transposes_S2048x8x1024_S8x2048x1024_1_0_2) (mulf (vecR dsk) xc)) (siluR z)) wo
/-- A scalar along the rows. -/
def scl1R (w : FVec F S_ .f32) : FVec F S8x2048x1 .f32 := broadcastInDim S8x2048x1 ![] bcast_S_S8x2048x1 w
/-- The sum of every row. -/
def rsumR (m : FVec F S8x2048x512 .f32) : FVec F S8x2048x1 .f32 :=
  broadcastInDim S8x2048x1 ![0, 1] bcast_S8x2048_S8x2048x1_0_1 (Host.reduceAdd m (constant S_ .f32 0x00000000#32) reducesTo_S8x2048x512_S8x2048_d2 h_S_)
/-- A number per row, along the row. -/
def spreadR (v : FVec F S8x2048x1 .f32) : FVec F S8x2048x512 .f32 := broadcastInDim S8x2048x512 ![0, 1, 2] bcast_S8x2048x1_S8x2048x512_0_1_2 v
/-- A vector of 512 along every row. -/
def vec512R (w : FVec F S512 .f32) : FVec F S8x2048x512 .f32 :=
  broadcastInDim S8x2048x512 ![0, 1, 2] bcast_S1x1x512_S8x2048x512_0_1_2 (broadcastInDim S1x1x512 ![2] bcast_S512_S1x1x512_2 w)
/-- The mean of every row. -/
def muR (m : FVec F S8x2048x512 .f32) : FVec F S8x2048x1 .f32 := Host.divf (rsumR m) (scl1R (constant S_ .f32 0x44000000#32))
/-- The number of elements of a row less the degrees of freedom taken off, none. -/
def ddofR : FVec F S_ .f32 := subf (constant S_ .f32 0x44000000#32) (sitofp .f32 (constantI S_ 32 0#32))
/-- The variance of every row. -/
def varR (m : FVec F S8x2048x512 .f32) : FVec F S8x2048x1 .f32 :=
  select (broadcastInDim S8x2048x1 ![] bcast_S_S8x2048x1 (cmpf .ogt (ddofR (F := F)) (constant S_ .f32 0x00000000#32)))
    (Host.divf (rsumR (mulf (subf m (spreadR (muR m))) (subf m (spreadR (muR m))))) (scl1R ddofR))
    (scl1R (constant S_ .f32 0x7FC00000#32))
/-- The layer normalisation. -/
def lnR (m : FVec F S8x2048x512 .f32) (g b : FVec F S512 .f32) : FVec F S8x2048x512 .f32 :=
  addf (mulf (mulf (subf m (spreadR (muR m))) (spreadR (Host.rsqrt (addf (varR m) (scl1R (constant S_ .f32 0x3727C5AC#32)))))) (vec512R g)) (vec512R b)
/-- The up projection. -/
def upR (m : FVec F S8x2048x512 .f32) (wu : FVec F S512x1024 .f32) (bu : FVec F S1024 .f32) : FVec F S8x2048x1024 .f32 :=
  addf (Host.dotGeneral dot_S8x2048x512_S512x1024_S8x2048x1024_2_0_01_1_n_n none m wu) (vecR bu)

variable (V : Valuation τ sig (Elt F))

/-- The input projection of the arguments. -/
def XZ : FVec F S8x2048x2048 .f32 := xzR (hdnR (V (Proc.devRef .tc main_arg0)) (V (Proc.devRef .tc main_arg1)) (V (Proc.devRef .tc main_arg2))) (V (Proc.devRef .tc main_arg3))
/-- The convolution's output of the arguments. -/
def XC : FVec F S8x2048x1024 .f32 := siluR (convR (padR (XZ V)) (V (Proc.devRef .tc main_arg4)) (V (Proc.devRef .tc main_arg5)))
/-- The projection of that. -/
def XD : FVec F S8x2048x64 .f32 := xdR (XC V) (V (Proc.devRef .tc main_arg6))
/-- The step sizes. -/
def DT : FVec F S8x2048x1024 .f32 := softR (dtlR (XD V) (V (Proc.devRef .tc main_arg7)) (V (Proc.devRef .tc main_arg8)))

/-- The gate, before the loop. -/
theorem pre_v6 : afterL preI V (Proc.devRef .tc main_v6) = zR (XZ V) := by
  simp only [preI, afterL_cons, afterL_nil]
  after_reads_simp
  rfl

/-- The convolution, before the loop. -/
theorem pre_v46 : afterL preI V (Proc.devRef .tc main_v46) = XC V := by
  simp only [preI, afterL_cons, afterL_nil]
  after_reads_simp
  rfl

/-- The step sizes, at the loop. -/
theorem pre_v64_0 : afterL preI V (Proc.devRef .tc main_v64_0) = tR (DT V) := by
  simp only [preI, afterL_cons, afterL_nil]
  after_reads_simp
  rfl

/-- B, at the loop. -/
theorem pre_v64_1 : afterL preI V (Proc.devRef .tc main_v64_1) = tR16 (bR (XD V)) := by
  simp only [preI, afterL_cons, afterL_nil]
  after_reads_simp
  rfl

/-- C, at the loop. -/
theorem pre_v64_2 : afterL preI V (Proc.devRef .tc main_v64_2) = tR16 (cR (XD V)) := by
  simp only [preI, afterL_cons, afterL_nil]
  after_reads_simp
  rfl

/-- The convolution, at the loop. -/
theorem pre_v64_3 : afterL preI V (Proc.devRef .tc main_v64_3) = tR (XC V) := by
  simp only [preI, afterL_cons, afterL_nil]
  after_reads_simp
  rfl

/-- The decay, at the loop. -/
theorem pre_v64_4 : afterL preI V (Proc.devRef .tc main_v64_4) = aR (V (Proc.devRef .tc main_arg9)) := by
  simp only [preI, afterL_cons, afterL_nil]
  after_reads_simp
  rfl

/-- The state starts at zero. -/
theorem pre_v64_6 : afterL preI V (Proc.devRef .tc main_v64_6) = broadcastInDim S8x1024x16 ![] bcast_S_S8x1024x16 (constant (F := F) S_ .f32 0x00000000#32) := by
  simp only [preI, afterL_cons, afterL_nil]
  after_reads_simp
  rfl

/-- The next state, from the buffers of a trip. -/
def nextR : FVec F S8x1024x16 .f32 :=
  stepR (rowR (V (Proc.devRef .tc main_v64_0)) (V (Proc.devRef .tc main_v64_5))) (rowR (V (Proc.devRef .tc main_v64_3)) (V (Proc.devRef .tc main_v64_5)))
    (rowR16 (V (Proc.devRef .tc main_v64_1)) (V (Proc.devRef .tc main_v64_5))) (V (Proc.devRef .tc main_v64_4)) (V (Proc.devRef .tc main_v64_6))

/-- One trip takes the state a step on. -/
theorem body_h : afterL bodyI V (Proc.devRef .tc main_v64_6) = nextR V := by
  simp only [bodyI, afterL_cons, afterL_nil]
  after_reads_simp [unaryIndexed_result_read, indexContents_tref_cons, indexContents_tref_empty]
  rfl

/-- One trip writes the step's output. -/
theorem body_ys : afterL bodyI V (Proc.devRef .tc main_v64_7) =
    wrR (V (Proc.devRef .tc main_v64_7)) (yR (nextR V) (rowR16 (V (Proc.devRef .tc main_v64_2)) (V (Proc.devRef .tc main_v64_5)))) (V (Proc.devRef .tc main_v64_5)) := by
  simp only [bodyI, afterL_cons, afterL_nil]
  after_reads_simp [unaryIndexed_result_read, binaryIndexed_result_read, indexContents_tref_cons, indexContents_tref_empty]
  rfl

/-- The result, from the buffers the loop leaves. -/
theorem post_out : afterL postI V (Proc.devRef .tc main_v100) =
    upR (lnR (mR (V (Proc.devRef .tc main_v64_7)) (V (Proc.devRef .tc main_arg10)) (V (Proc.devRef .tc main_v46)) (V (Proc.devRef .tc main_v6)) (V (Proc.devRef .tc main_arg11)))
      (V (Proc.devRef .tc main_arg12)) (V (Proc.devRef .tc main_arg13))) (V (Proc.devRef .tc main_arg14)) (V (Proc.devRef .tc main_arg15)) := by
  simp only [postI, afterL_cons, afterL_nil]
  after_reads_simp
  rfl

end Cert.ReferenceIdeal

end
-- ==== Proof.RefRows.lean ====
/- The reference's values before its loop, row by row. -/
module

public import proofs.«01_k».proof.Proof.RefVals
public import proofs.«01_k».proof.Proof.Rows

@[expose] public section

set_option maxRecDepth 16384

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.ReferenceIdeal Cert.ReferenceIdeal.Gen

open Cert.Rows

variable (V : Valuation τ sig (Elt Ideal))

/-- The arrays of the launch, from the reference's arguments. -/
def arrs : Arrs := ofArgs (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7)) (V (Proc.devRef .tc main_arg8))
  (V (Proc.devRef .tc main_arg9)) (V (Proc.devRef .tc main_arg10)) (V (Proc.devRef .tc main_arg11)) (V (Proc.devRef .tc main_arg12)) (V (Proc.devRef .tc main_arg13))
  (V (Proc.devRef .tc main_arg14)) (V (Proc.devRef .tc main_arg15))

theorem at_val (l : Fin 2048) : at' l.val = l := Fin.ext (Nat.mod_eq_of_lt l.isLt)
theorem at_lt {l : ℕ} (h : l < 2048) : at' l = ⟨l, h⟩ := Fin.ext (Nat.mod_eq_of_lt h)

theorem xz_lo (g : Fin 8) (l : Fin 2048) (d : Fin 1024) (h) : XZ (F := Ideal) V (ix3 g l ⟨d.val, h⟩) = ina (arrs V) g l.val d := by
  unfold ina Rows.hdn
  rw [at_val]
  pointwise [XZ, xzR, hdnR]
  rfl

theorem xz_hi (g : Fin 8) (l : Fin 2048) (d : Fin 1024) (h) : XZ (F := Ideal) V (ix3 g l ⟨1024 + d.val, h⟩) = zz (arrs V) g l.val d := by
  unfold zz Rows.hdn
  rw [at_val]
  pointwise [XZ, xzR, hdnR]
  rfl

theorem z_apply (g : Fin 8) (l : Fin 2048) (d : Fin 1024) : zR (F := Ideal) (XZ V) (ix3 g l d) = zz (arrs V) g l.val d := by
  refine Eq.trans ?_ (xz_hi V g l d (by omega))
  pointwise [zR]

theorem pad_apply (g : Fin 8) (r : Fin 2051) (d : Fin 1024) : padR (F := Ideal) (XZ V) (ix3 g r d) = inP (arrs V) g (r.val + 5) d := by
  unfold inP
  by_cases h : r.val < 3
  · rw [if_pos (by omega)]
    pointwise [padR]
    rw [dif_neg (by omega)]
    exact (Ideal.scalar_sitofp_def (φ := .f32) (0#32)).trans (by simp)
  · rw [if_neg (by omega)]
    pointwise [padR]
    rw [dif_pos (by omega)]
    refine (xz_lo V g ⟨r.val - 3, by omega⟩ d _).trans (congrArg (fun q => ina (arrs V) g q d) ?_)
    show r.val - 3 = _
    omega

theorem tap0 (cw) (g : Fin 8) (l : Fin 2048) (d : Fin 1024) : tapR (F := Ideal) (extractStridedSlice S1024x1 ![0, 0] cw slices_S1024x4_S1024x1_0_0) (ix3 g l d) = cw (ix2 d 0) := by
  pointwise [tapR]
theorem tap1 (cw) (g : Fin 8) (l : Fin 2048) (d : Fin 1024) : tapR (F := Ideal) (extractStridedSlice S1024x1 ![0, 1] cw slices_S1024x4_S1024x1_0_1) (ix3 g l d) = cw (ix2 d 1) := by
  pointwise [tapR]
theorem tap2 (cw) (g : Fin 8) (l : Fin 2048) (d : Fin 1024) : tapR (F := Ideal) (extractStridedSlice S1024x1 ![0, 2] cw slices_S1024x4_S1024x1_0_2) (ix3 g l d) = cw (ix2 d 2) := by
  pointwise [tapR]
theorem tap3 (cw) (g : Fin 8) (l : Fin 2048) (d : Fin 1024) : tapR (F := Ideal) (extractStridedSlice S1024x1 ![0, 3] cw slices_S1024x4_S1024x1_0_3) (ix3 g l d) = cw (ix2 d 3) := by
  pointwise [tapR]

theorem conv_apply (xp : FVec Ideal S8x2051x1024 .f32) (cw : FVec Ideal S1024x4 .f32) (cb : FVec Ideal S1024 .f32) (g : Fin 8) (l : Fin 2048) (d : Fin 1024) :
    siluR (F := Ideal) (convR xp cw cb) (ix3 g l d) = siluE (cb (ix1 d) + xp (ix3 g ⟨l.val, by omega⟩ d) * cw (ix2 d 0) + xp (ix3 g ⟨1 + l.val, by omega⟩ d) * cw (ix2 d 1)
      + xp (ix3 g ⟨2 + l.val, by omega⟩ d) * cw (ix2 d 2) + xp (ix3 g ⟨3 + l.val, by omega⟩ d) * cw (ix2 d 3)) := by
  rw [← silu_eq]
  pointwise [siluR, convR, vecR, sclR, tapR]
  simp only [add_assoc]

theorem xc_apply (g : Fin 8) (l : Fin 2048) (d : Fin 1024) : XC (F := Ideal) V (ix3 g l d) = xc (arrs V) g l.val d := by
  unfold XC
  rw [conv_apply, pad_apply, pad_apply, pad_apply, pad_apply]
  unfold xc
  have e1 : 1 + l.val + 5 = l.val + 6 := by omega
  have e2 : 2 + l.val + 5 = l.val + 7 := by omega
  have e3 : 3 + l.val + 5 = l.val + 8 := by omega
  simp only [e1, e2, e3]
  rfl

theorem soft_apply (x : FVec Ideal S8x2048x1024 .f32) (j : S8x2048x1024.Idx) : softR (F := Ideal) x j = softE (x j) := by
  rw [← soft_eq]
  pointwise [softR, sclR]
  rw [if_neg (fun h => h rfl)]

theorem xd_apply (g : Fin 8) (l : Fin 2048) (q : Fin 64) : XD (F := Ideal) V (ix3 g l q) = ∑ k : Fin 1024, xc (arrs V) g l.val k * (V (Proc.devRef .tc main_arg6) : A2 1024 64) (ix2 k q) := by
  unfold XD
  pointwise [xdR]
  exact Finset.sum_congr rfl fun k _ => congrArg (· * _) (xc_apply V g l k)

theorem dt_apply (g : Fin 8) (l : Fin 2048) (d : Fin 1024) : DT (F := Ideal) V (ix3 g l d) = dt (arrs V) g l.val d := by
  unfold DT dt
  rw [soft_apply]
  refine congrArg softE ?_
  pointwise [dtlR, vecR]
  refine congrArg (· + _) (Finset.sum_congr rfl fun k _ => congrArg (· * _) ?_)
  exact xd_apply V g l _

theorem b_apply (g : Fin 8) (l : Fin 2048) (n : Fin 16) : bR (F := Ideal) (XD V) (ix3 g l n) = bt (arrs V) g l.val n := by
  unfold bt
  pointwise [bR]
  refine (xd_apply V g l _).trans (Finset.sum_congr rfl fun k _ => mul_comm _ _)

theorem c_apply (g : Fin 8) (l : Fin 2048) (n : Fin 16) : cR (F := Ideal) (XD V) (ix3 g l n) = cc (arrs V) g l.val n := by
  unfold cc
  pointwise [cR]
  exact xd_apply V g l _

theorem ddof_eq : ddofR (F := Ideal) ix0 = Ideal.ofBits FTy.f32 1140850688#32 := by
  show Ideal.ofBits FTy.f32 1140850688#32 - Scalar.sitofp (F := Ideal) .f32 0#32 = _
  rw [Ideal.scalar_sitofp_def]
  simp

theorem ln_apply (m : FVec Ideal S8x2048x512 .f32) (lg lb : FVec Ideal S512 .f32) (g : Fin 8) (l : Fin 2048) (k : Fin 512) :
    lnR (F := Ideal) m lg lb (ix3 g l k) = normE (fun k => m (ix3 g l k)) (fun k => lg (ix1 k)) (fun k => lb (ix1 k)) k := by
  unfold normE
  pointwise [lnR, muR, varR, rsumR, spreadR, scl1R, vec512R]
  rw [ddof_eq, ofBits_512, if_pos (by exact_mod_cast (by norm_num : (0 : ℝ) < 512))]

theorem silu_apply (x : FVec Ideal S8x2048x1024 .f32) (j : S8x2048x1024.Idx) : siluR (F := Ideal) x j = siluE (x j) := by
  rw [← silu_eq]
  pointwise [siluR, sclR]

theorem m_apply (ys : FVec Ideal S2048x8x1024 .f32) (dsk : FVec Ideal S1024 .f32) (xc z : FVec Ideal S8x2048x1024 .f32) (wo : FVec Ideal S1024x512 .f32)
    (g : Fin 8) (l : Fin 2048) (k : Fin 512) :
    mR (F := Ideal) ys dsk xc z wo (ix3 g l k) = ∑ q, (ys (ix3 l g q) + dsk (ix1 q) * xc (ix3 g l q)) * siluE (z (ix3 g l q)) * wo (ix2 q k) := by
  pointwise [mR, vecR]
  simp only [silu_apply]

theorem up_apply (m : FVec Ideal S8x2048x512 .f32) (wu : FVec Ideal S512x1024 .f32) (bu : FVec Ideal S1024 .f32) (g : Fin 8) (l : Fin 2048) (d : Fin 1024) :
    upR (F := Ideal) m wu bu (ix3 g l d) = ∑ k, m (ix3 g l k) * wu (ix2 k d) + bu (ix1 d) := by
  pointwise [upR, vecR]

/-- The result's row, given the scan's outputs. -/
theorem out_apply (ys : FVec Ideal S2048x8x1024 .f32) (hy : ∀ (g : Fin 8) (l : Fin 2048) (d : Fin 1024), ys (ix3 l g d) = yy (arrs V) g l.val d)
    (g : Fin 8) (l : Fin 2048) (d : Fin 1024) :
    upR (F := Ideal) (lnR (mR ys (V (Proc.devRef .tc main_arg10)) (XC V) (zR (XZ V)) (V (Proc.devRef .tc main_arg11))) (V (Proc.devRef .tc main_arg12)) (V (Proc.devRef .tc main_arg13)))
      (V (Proc.devRef .tc main_arg14)) (V (Proc.devRef .tc main_arg15)) (ix3 g l d) = out (arrs V) g l.val d := by
  rw [up_apply]
  unfold out
  refine congrArg (· + _) (Finset.sum_congr rfl fun k _ => congrArg (· * _) ?_)
  rw [ln_apply]
  refine congrArg (fun f => normE f _ _ k) (funext fun k => ?_)
  rw [m_apply]
  unfold mm
  refine Finset.sum_congr rfl fun q _ => ?_
  rw [hy, xc_apply, z_apply]
  rfl

end Cert.ReferenceIdeal

end
-- ==== Proof.RefScan.lean ====
/- The reference's loop: the state and the outputs after each of its 2048 steps, and the result. -/
module

public import proofs.«01_k».proof.Proof.RefRows
public import proofs.«01_k».proof.Proof.RefRun

@[expose] public section

set_option maxRecDepth 16384

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.ReferenceIdeal Cert.ReferenceIdeal.Gen

open Cert.Rows Idealize.ShloMosaic.StableHlo Cert.ReferenceIdeal.Facts₀ Cert.ReferenceIdeal.Facts

theorem toInt_ofNat {k : ℕ} (hk : k < 2048) : (BitVec.ofNat 32 k).toInt = k := by
  rw [BitVec.toInt_eq_toNat_of_lt] <;> rw [BitVec.toNat_ofNat, Nat.mod_eq_of_lt (by omega)]
  omega

theorem cla0 (k : ℕ) (hk : k < 2048) (h : S1x8x1024.rank = S2048x8x1024.rank) :
    Host.clampedStart S2048x8x1024 S1x8x1024 h (fun q => ((![(fun _ => BitVec.ofNat 32 k : Vec Ideal S_ .i32), constantI S_ 32 0#32, constantI S_ 32 0#32] : Fin 3 → Vec Ideal S_ .i32) q (Shape.Idx.first Facts₀.h_S_)).toInt) 0 = k := by
  show (min (max (BitVec.ofNat 32 k).toInt 0) (2047 : ℤ)).toNat = k
  rw [toInt_ofNat hk]
  omega
theorem cla1 (k : ℕ) (h : S1x8x1024.rank = S2048x8x1024.rank) :
    Host.clampedStart S2048x8x1024 S1x8x1024 h (fun q => ((![(fun _ => BitVec.ofNat 32 k : Vec Ideal S_ .i32), constantI S_ 32 0#32, constantI S_ 32 0#32] : Fin 3 → Vec Ideal S_ .i32) q (Shape.Idx.first Facts₀.h_S_)).toInt) 1 = 0 := by
  show (min (max (0#32).toInt 0) (0 : ℤ)).toNat = 0
  decide
theorem cla2 (k : ℕ) (h : S1x8x1024.rank = S2048x8x1024.rank) :
    Host.clampedStart S2048x8x1024 S1x8x1024 h (fun q => ((![(fun _ => BitVec.ofNat 32 k : Vec Ideal S_ .i32), constantI S_ 32 0#32, constantI S_ 32 0#32] : Fin 3 → Vec Ideal S_ .i32) q (Shape.Idx.first Facts₀.h_S_)).toInt) 2 = 0 := by
  show (min (max (0#32).toInt 0) (0 : ℤ)).toNat = 0
  decide

theorem clb0 (k : ℕ) (hk : k < 2048) (h : S1x8x16.rank = S2048x8x16.rank) :
    Host.clampedStart S2048x8x16 S1x8x16 h (fun q => ((![(fun _ => BitVec.ofNat 32 k : Vec Ideal S_ .i32), constantI S_ 32 0#32, constantI S_ 32 0#32] : Fin 3 → Vec Ideal S_ .i32) q (Shape.Idx.first Facts₀.h_S_)).toInt) 0 = k := by
  show (min (max (BitVec.ofNat 32 k).toInt 0) (2047 : ℤ)).toNat = k
  rw [toInt_ofNat hk]
  omega
theorem clb1 (k : ℕ) (h : S1x8x16.rank = S2048x8x16.rank) :
    Host.clampedStart S2048x8x16 S1x8x16 h (fun q => ((![(fun _ => BitVec.ofNat 32 k : Vec Ideal S_ .i32), constantI S_ 32 0#32, constantI S_ 32 0#32] : Fin 3 → Vec Ideal S_ .i32) q (Shape.Idx.first Facts₀.h_S_)).toInt) 1 = 0 := by
  show (min (max (0#32).toInt 0) (0 : ℤ)).toNat = 0
  decide
theorem clb2 (k : ℕ) (h : S1x8x16.rank = S2048x8x16.rank) :
    Host.clampedStart S2048x8x16 S1x8x16 h (fun q => ((![(fun _ => BitVec.ofNat 32 k : Vec Ideal S_ .i32), constantI S_ 32 0#32, constantI S_ 32 0#32] : Fin 3 → Vec Ideal S_ .i32) q (Shape.Idx.first Facts₀.h_S_)).toInt) 2 = 0 := by
  show (min (max (0#32).toInt 0) (0 : ℤ)).toNat = 0
  decide

theorem ix3_congr {a b c : ℕ} {α : Type} (x : (⟨3, ![a, b, c]⟩ : Shape).Idx → α) {i i' : Fin a} {j j' : Fin b} {l l' : Fin c} (h : i = i') (h' : j = j') (h'' : l = l') :
    x (ix3 i j l) = x (ix3 i' j' l') := by subst h h' h''; rfl
theorem ix2_congr {a b : ℕ} {α : Type} (x : (⟨2, ![a, b]⟩ : Shape).Idx → α) {i i' : Fin a} {j j' : Fin b} (h : i = i') (h' : j = j') :
    x (ix2 i j) = x (ix2 i' j') := by subst h h'; rfl

theorem row_apply (x : FVec Ideal S2048x8x1024 .f32) (k : ℕ) (hk : k < 2048) (g : Fin 8) (d : Fin 1024) :
    rowR (F := Ideal) x (fun _ => BitVec.ofNat 32 k) (ix2 g d) = x (ix3 ⟨k, hk⟩ g d) := by
  pointwise [rowR]
  exact ix3_congr x (Fin.ext (cla0 k hk rfl)) (Fin.ext ((congrArg (· + _) (cla1 k rfl)).trans (Nat.zero_add _))) (Fin.ext ((congrArg (· + _) (cla2 k rfl)).trans (Nat.zero_add _)))

theorem row16_apply (x : FVec Ideal S2048x8x16 .f32) (k : ℕ) (hk : k < 2048) (g : Fin 8) (d : Fin 16) :
    rowR16 (F := Ideal) x (fun _ => BitVec.ofNat 32 k) (ix2 g d) = x (ix3 ⟨k, hk⟩ g d) := by
  pointwise [rowR16]
  exact ix3_congr x (Fin.ext (clb0 k hk rfl)) (Fin.ext ((congrArg (· + _) (clb1 k rfl)).trans (Nat.zero_add _))) (Fin.ext ((congrArg (· + _) (clb2 k rfl)).trans (Nat.zero_add _)))

theorem wr_apply (x : FVec Ideal S2048x8x1024 .f32) (y) (k : ℕ) (hk : k < 2048) (l : Fin 2048) (g : Fin 8) (d : Fin 1024) :
    wrR (F := Ideal) x y (fun _ => BitVec.ofNat 32 k) (ix3 l g d) = if l.val = k then y (ix2 g d) else x (ix3 l g d) := by
  have h0 := cla0 k hk rfl
  have h1 := cla1 k rfl
  have h2 := cla2 k rfl
  pointwise [wrR]
  by_cases h : l.val = k
  · rw [if_pos h, dif_pos ⟨⟨h0.trans_le h.ge, by rw [h0]; omega⟩, h1.trans_le (Nat.zero_le _), h2.trans_le (Nat.zero_le _)⟩]
    exact ix2_congr y (Fin.ext ((congrArg (_ - ·) h1).trans (Nat.sub_zero _))) (Fin.ext ((congrArg (_ - ·) h2).trans (Nat.sub_zero _)))
  · rw [if_neg h, dif_neg]
    rintro ⟨⟨ha, hb⟩, -⟩
    rw [h0] at ha hb
    omega

theorem step_apply (dt x b a h) (g : Fin 8) (d : Fin 1024) (n : Fin 16) :
    stepR (F := Ideal) dt x b a h (ix3 g d n) = h (ix3 g d n) * Ideal.exp (dt (ix2 g d) * a (ix2 d n)) + dt (ix2 g d) * x (ix2 g d) * b (ix2 g n) := by
  pointwise [stepR]

theorem step_row (X0 X3 : FVec Ideal S2048x8x1024 .f32) (X1 : FVec Ideal S2048x8x16 .f32) (a : FVec Ideal S1024x16 .f32) (h : FVec Ideal S8x1024x16 .f32) (k : ℕ) (hk : k < 2048) (g : Fin 8) (d : Fin 1024) (n : Fin 16) :
    stepR (F := Ideal) (rowR X0 (fun _ => BitVec.ofNat 32 k)) (rowR X3 (fun _ => BitVec.ofNat 32 k)) (rowR16 X1 (fun _ => BitVec.ofNat 32 k)) a h (ix3 g d n)
      = h (ix3 g d n) * Ideal.exp (X0 (ix3 ⟨k, hk⟩ g d) * a (ix2 d n)) + X0 (ix3 ⟨k, hk⟩ g d) * X3 (ix3 ⟨k, hk⟩ g d) * X1 (ix3 ⟨k, hk⟩ g n) := by
  rw [step_apply, row_apply _ k hk, row_apply _ k hk, row16_apply _ k hk]

theorem y_apply (c h) (g : Fin 8) (d : Fin 1024) : yR (F := Ideal) h c (ix2 g d) = ∑ n, c (ix2 g n) * h (ix3 g d n) := by
  pointwise [yR]
  exact Finset.sum_congr rfl fun n _ => mul_comm _ _

theorem t_apply (x : FVec Ideal S8x2048x1024 .f32) (l : Fin 2048) (g : Fin 8) (d : Fin 1024) : tR (F := Ideal) x (ix3 l g d) = x (ix3 g l d) := by
  pointwise [tR]
theorem t16_apply (x : FVec Ideal S8x2048x16 .f32) (l : Fin 2048) (g : Fin 8) (n : Fin 16) : tR16 (F := Ideal) x (ix3 l g n) = x (ix3 g l n) := by
  pointwise [tR16]

variable (m : (ℓ : Loc nD τ sig) → Buf (Elt Ideal) ℓ) (c : Dev nD)

/-- The buffers before trip `k`. -/
def atK (k : ℕ) : Valuation τ sig (Elt Ideal) := atTrip condOps bodyI (entryContents preI m) k c
/-- The state before trip `k`. -/
def hK (k : ℕ) : A3 8 1024 16 := atK m c k (Proc.devRef .tc main_v64_6)
/-- The outputs before trip `k`. -/
def ysK (k : ℕ) : A3 2048 8 1024 := atK m c k (Proc.devRef .tc main_v64_7)
/-- The arrays. -/
abbrev oo : Arrs := arrs (launchContents m c)

theorem ctrK (k : ℕ) : atK m c k (Proc.devRef .tc main_v64_5) = (fun _ => (BitVec.ofNat 32 k : BitVec 32)) := ctr m c k
theorem keepK {r : Ref sig .tc} (hb : r ∉ bodyW) (hc : r ∉ [main_while0c_c_18, main_while0c_v101]) (k : ℕ) :
    atK m c k (Proc.devRef .tc r) = afterL preI (launchContents m c) (Proc.devRef .tc r) := atTrip_keep hb hc _ c k

/-- The next state from the state before, at step `k`. -/
theorem next_apply (k : ℕ) (hk : k < 2048) (g : Fin 8) (d : Fin 1024) (n : Fin 16) :
    nextR (F := Ideal) (after condOps (atK m c k)) (ix3 g d n)
      = hK m c k (ix3 g d n) * Ideal.exp (dt (oo m c) g k d * (oo m c).an (ix2 n d)) + dt (oo m c) g k d * xc (oo m c) g k d * bt (oo m c) g k n := by
  unfold nextR
  rw [cond_keep (by decide), cond_keep (by decide), cond_keep (by decide), cond_keep (by decide), cond_keep (by decide), cond_keep (by decide)]
  rw [ctrK m c k, keepK m c (r := main_v64_0) (by decide) (by decide), keepK m c (r := main_v64_1) (by decide) (by decide), keepK m c (r := main_v64_3) (by decide) (by decide), keepK m c (r := main_v64_4) (by decide) (by decide)]
  rw [pre_v64_0, pre_v64_1, pre_v64_3, pre_v64_4]
  refine (step_row _ _ _ _ _ k hk g d n).trans ?_
  rw [t_apply, t_apply, t16_apply, dt_apply, xc_apply, b_apply]
  rfl

/-- The state before trip `k`. -/
theorem st_apply (g : Fin 8) (d : Fin 1024) (n : Fin 16) : ∀ k, k ≤ 2048 → hK m c k (ix3 g d n) = st (oo m c) g k n d
  | 0, _ => by
    have h : hK m c 0 = broadcastInDim S8x1024x16 ![] Facts₀.bcast_S_S8x1024x16 (constant (F := Ideal) S_ .f32 0x00000000#32) := pre_v64_6 (launchContents m c)
    rw [h]
    unfold st
    pointwise []
  | k + 1, hk => by
    have h : hK m c (k + 1) = nextR (F := Ideal) (after condOps (atK m c k)) := body_h (after condOps (atK m c k))
    rw [h, next_apply m c k (by omega), st_apply g d n k (by omega)]
    rfl

/-- The outputs written before trip `k`. -/
theorem ys_apply (g : Fin 8) (d : Fin 1024) (l : Fin 2048) : ∀ k, k ≤ 2048 → l.val < k → ysK m c k (ix3 l g d) = yy (oo m c) g l.val d
  | 0, _, h => absurd h (Nat.not_lt_zero _)
  | k + 1, hk, hl => by
    have h : ysK m c (k + 1) = wrR (F := Ideal) (ysK m c k) (yR (nextR (after condOps (atK m c k))) (rowR16 (atK m c k (Proc.devRef .tc main_v64_2)) (fun _ => BitVec.ofNat 32 k))) (fun _ => BitVec.ofNat 32 k) := by
      refine (body_ys (after condOps (atK m c k))).trans ?_
      rw [cond_keep (by decide), cond_keep (by decide), cond_keep (by decide), ctrK m c k]
      rfl
    rw [h, wr_apply _ _ k (by omega)]
    by_cases h : l.val = k
    · rw [if_pos h, y_apply]
      unfold yy
      refine Finset.sum_congr rfl fun n _ => ?_
      rw [next_apply m c k (by omega), st_apply m c g d n k (by omega), row16_apply _ k (by omega), keepK m c (by decide) (by decide), pre_v64_2, t16_apply, c_apply, h]
      rfl
    · rw [if_neg h]
      exact ys_apply g d l k (by omega) (by omega)

/-- The reference's result. -/
theorem final_out : final m c (Proc.devRef .tc main_v100) = outA (oo m c) := by
  have hm : ∀ (r : Ref sig .tc), r ∉ bodyW → r ∉ [main_while0c_c_18, main_while0c_v101] → after condOps (atK m c 2048) (Proc.devRef .tc r) = afterL preI (launchContents m c) (Proc.devRef .tc r) :=
    fun r hb hc => (cond_keep hc _).trans (keepK m c hb hc 2048)
  have hp : ∀ (r : Ref sig .tc), r ∉ preW → r ∉ bodyW → r ∉ [main_while0c_c_18, main_while0c_v101] → after condOps (atK m c 2048) (Proc.devRef .tc r) = launchContents m c (Proc.devRef .tc r) :=
    fun r ha hb hc => (hm r hb hc).trans (pre_keep ha _)
  have hy : after condOps (atK m c 2048) (Proc.devRef .tc main_v64_7) = ysK m c 2048 := cond_keep (by decide) _
  show afterL postI (after condOps (atK m c 2048)) (Proc.devRef .tc main_v100) = _
  rw [post_out, hm main_v46 (by decide) (by decide), hm main_v6 (by decide) (by decide), hp main_arg10 (by decide) (by decide) (by decide), hp main_arg11 (by decide) (by decide) (by decide),
    hp main_arg12 (by decide) (by decide) (by decide), hp main_arg13 (by decide) (by decide) (by decide), hp main_arg14 (by decide) (by decide) (by decide), hp main_arg15 (by decide) (by decide) (by decide), hy, pre_v46, pre_v6]
  funext j
  obtain ⟨g, l, d, rfl⟩ : ∃ (g : Fin 8) (l : Fin 2048) (d : Fin 1024), j = ix3 g l d := ⟨j 0, j 1, j 2, eq_ix3 j⟩
  exact out_apply (launchContents m c) _ (fun g l d => ys_apply m c g d l 2048 (le_refl _) l.isLt) g l d

end Cert.ReferenceIdeal

end
-- ==== Proof.Equation.lean ====
/- The kernel and the reference compute the same result over the extended reals. -/
module

public import proofs.«01_k».proof.Defs
public import proofs.«01_k».proof.Proof.KValue
public import proofs.«01_k».proof.Proof.RefScan
public import proofs.«01_k».proof.Proof.RefRun

@[expose] public section

set_option maxRecDepth 16384

noncomputable section

namespace Cert.Proof

open Idealize.ShloMosaic Idealize.ShloMosaic.TcCoe Idealize.SL.Sem Cert.Rows

/-- Launched on the same arguments, the two programs leave the same result and change no argument. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => outA (Cert.KernelIdeal.arrsK m c), Cert.KernelIdeal.Val.value m g, ?_⟩
  have hoo : ∀ c, Cert.ReferenceIdeal.oo m' c = Cert.KernelIdeal.arrsK m c := fun c => by
    obtain ⟨e0, e1, e2, e3, e4, e5, e6, e7, e8, e9, e10, e11, e12, e13, e14, e15⟩ := hm c
    unfold Cert.KernelIdeal.arrsK
    rw [← e0, ← e1, ← e2, ← e3, ← e4, ← e5, ← e6, ← e7, ← e8, ← e9, ← e10, ← e11, ← e12, ← e13, ← e14, ← e15]
    rfl
  exact (θ_run Cert.ReferenceIdeal.defs _ _).mono (fun r h c => ⟨((h c Cert.ReferenceIdeal.main_v100 rfl).trans (Cert.ReferenceIdeal.final_out m' c)).trans
      (congrArg outA (hoo c)),
      (h c Cert.ReferenceIdeal.main_arg0 rfl).trans (Cert.ReferenceIdeal.final_keep (by decide) (by decide) (by decide) (by decide) m' c),
      (h c Cert.ReferenceIdeal.main_arg1 rfl).trans (Cert.ReferenceIdeal.final_keep (by decide) (by decide) (by decide) (by decide) m' c),
      (h c Cert.ReferenceIdeal.main_arg2 rfl).trans (Cert.ReferenceIdeal.final_keep (by decide) (by decide) (by decide) (by decide) m' c),
      (h c Cert.ReferenceIdeal.main_arg3 rfl).trans (Cert.ReferenceIdeal.final_keep (by decide) (by decide) (by decide) (by decide) m' c),
      (h c Cert.ReferenceIdeal.main_arg4 rfl).trans (Cert.ReferenceIdeal.final_keep (by decide) (by decide) (by decide) (by decide) m' c),
      (h c Cert.ReferenceIdeal.main_arg5 rfl).trans (Cert.ReferenceIdeal.final_keep (by decide) (by decide) (by decide) (by decide) m' c),
      (h c Cert.ReferenceIdeal.main_arg6 rfl).trans (Cert.ReferenceIdeal.final_keep (by decide) (by decide) (by decide) (by decide) m' c),
      (h c Cert.ReferenceIdeal.main_arg7 rfl).trans (Cert.ReferenceIdeal.final_keep (by decide) (by decide) (by decide) (by decide) m' c),
      (h c Cert.ReferenceIdeal.main_arg8 rfl).trans (Cert.ReferenceIdeal.final_keep (by decide) (by decide) (by decide) (by decide) m' c),
      (h c Cert.ReferenceIdeal.main_arg9 rfl).trans (Cert.ReferenceIdeal.final_keep (by decide) (by decide) (by decide) (by decide) m' c),
      (h c Cert.ReferenceIdeal.main_arg10 rfl).trans (Cert.ReferenceIdeal.final_keep (by decide) (by decide) (by decide) (by decide) m' c),
      (h c Cert.ReferenceIdeal.main_arg11 rfl).trans (Cert.ReferenceIdeal.final_keep (by decide) (by decide) (by decide) (by decide) m' c),
      (h c Cert.ReferenceIdeal.main_arg12 rfl).trans (Cert.ReferenceIdeal.final_keep (by decide) (by decide) (by decide) (by decide) m' c),
      (h c Cert.ReferenceIdeal.main_arg13 rfl).trans (Cert.ReferenceIdeal.final_keep (by decide) (by decide) (by decide) (by decide) m' c),
      (h c Cert.ReferenceIdeal.main_arg14 rfl).trans (Cert.ReferenceIdeal.final_keep (by decide) (by decide) (by decide) (by decide) m' c),
      (h c Cert.ReferenceIdeal.main_arg15 rfl).trans (Cert.ReferenceIdeal.final_keep (by decide) (by decide) (by decide) (by decide) m' c)⟩) (Cert.ReferenceIdeal.run m' g')

end Cert.Proof

end
-- ==== Proof.lean ====
module

public import proofs.«01_k».proof.Defs
public import proofs.«01_k».proof.Proof.Claims
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, preserves,
    algebraic⟩

end Cert.Proof

end
